-- ==== Defs.lean ====
def Pre_Mlp (m : (ℓ : Loc Cert.Mlp.nD Cert.Mlp.τ Cert.Mlp.sig) → Buf (Elt Bits) ℓ) : Prop :=
  True

def Pre_MlpIdeal (m : (ℓ : Loc Cert.MlpIdeal.nD Cert.MlpIdeal.τ Cert.MlpIdeal.sig) → Buf (Elt Ideal) ℓ) : Prop :=
  True

def Pre_MlpIdeal_mlp_pre [hPre_mlp_pre : Cert.Pre_mlp_pre.Facts] (m : (ℓ : Loc Cert.MlpIdeal.nD Cert.MlpIdeal.τ Cert.MlpIdeal.sig) → Buf (Elt Ideal) ℓ) : Prop :=
  ∀ c : Dev Cert.MlpIdeal.nD,
    (Cert.Pre_mlp_pre.fn (F := Ideal) (m ((c.tc : Thread Cert.MlpIdeal.nD Cert.MlpIdeal.τ).loc Cert.MlpIdeal.main_arg0)) (m ((c.tc : Thread Cert.MlpIdeal.nD Cert.MlpIdeal.τ).loc Cert.MlpIdeal.main_arg1)) (m ((c.tc : Thread Cert.MlpIdeal.nD Cert.MlpIdeal.τ).loc Cert.MlpIdeal.main_arg2)) (m ((c.tc : Thread Cert.MlpIdeal.nD Cert.MlpIdeal.τ).loc Cert.MlpIdeal.main_arg3)) (m ((c.tc : Thread Cert.MlpIdeal.nD Cert.MlpIdeal.τ).loc Cert.MlpIdeal.main_arg4)) (m ((c.tc : Thread Cert.MlpIdeal.nD Cert.MlpIdeal.τ).loc Cert.MlpIdeal.main_arg5)) (m ((c.tc : Thread Cert.MlpIdeal.nD Cert.MlpIdeal.τ).loc Cert.MlpIdeal.main_arg6))).1 = (fun _ => 1#1)
    ∧ (Cert.Pre_mlp_pre.fn (F := Ideal) (m ((c.tc : Thread Cert.MlpIdeal.nD Cert.MlpIdeal.τ).loc Cert.MlpIdeal.main_arg0)) (m ((c.tc : Thread Cert.MlpIdeal.nD Cert.MlpIdeal.τ).loc Cert.MlpIdeal.main_arg1)) (m ((c.tc : Thread Cert.MlpIdeal.nD Cert.MlpIdeal.τ).loc Cert.MlpIdeal.main_arg2)) (m ((c.tc : Thread Cert.MlpIdeal.nD Cert.MlpIdeal.τ).loc Cert.MlpIdeal.main_arg3)) (m ((c.tc : Thread Cert.MlpIdeal.nD Cert.MlpIdeal.τ).loc Cert.MlpIdeal.main_arg4)) (m ((c.tc : Thread Cert.MlpIdeal.nD Cert.MlpIdeal.τ).loc Cert.MlpIdeal.main_arg5)) (m ((c.tc : Thread Cert.MlpIdeal.nD Cert.MlpIdeal.τ).loc Cert.MlpIdeal.main_arg6))).2 = (fun _ => 1#1)

def Pre_MlpRefIdeal (m : (ℓ : Loc Cert.MlpRefIdeal.nD Cert.MlpRefIdeal.τ Cert.MlpRefIdeal.sig) → Buf (Elt Ideal) ℓ) : Prop :=
  True

def Pre_MlpRefIdeal_mlp_pre [hPre_mlp_pre : Cert.Pre_mlp_pre.Facts] (m : (ℓ : Loc Cert.MlpRefIdeal.nD Cert.MlpRefIdeal.τ Cert.MlpRefIdeal.sig) → Buf (Elt Ideal) ℓ) : Prop :=
  ∀ c : Dev Cert.MlpRefIdeal.nD,
    (Cert.Pre_mlp_pre.fn (F := Ideal) (m ((c.tc : Thread Cert.MlpRefIdeal.nD Cert.MlpRefIdeal.τ).loc Cert.MlpRefIdeal.main_arg0)) (m ((c.tc : Thread Cert.MlpRefIdeal.nD Cert.MlpRefIdeal.τ).loc Cert.MlpRefIdeal.main_arg1)) (m ((c.tc : Thread Cert.MlpRefIdeal.nD Cert.MlpRefIdeal.τ).loc Cert.MlpRefIdeal.main_arg2)) (m ((c.tc : Thread Cert.MlpRefIdeal.nD Cert.MlpRefIdeal.τ).loc Cert.MlpRefIdeal.main_arg3)) (m ((c.tc : Thread Cert.MlpRefIdeal.nD Cert.MlpRefIdeal.τ).loc Cert.MlpRefIdeal.main_arg4)) (m ((c.tc : Thread Cert.MlpRefIdeal.nD Cert.MlpRefIdeal.τ).loc Cert.MlpRefIdeal.main_arg5)) (m ((c.tc : Thread Cert.MlpRefIdeal.nD Cert.MlpRefIdeal.τ).loc Cert.MlpRefIdeal.main_arg6))).1 = (fun _ => 1#1)
    ∧ (Cert.Pre_mlp_pre.fn (F := Ideal) (m ((c.tc : Thread Cert.MlpRefIdeal.nD Cert.MlpRefIdeal.τ).loc Cert.MlpRefIdeal.main_arg0)) (m ((c.tc : Thread Cert.MlpRefIdeal.nD Cert.MlpRefIdeal.τ).loc Cert.MlpRefIdeal.main_arg1)) (m ((c.tc : Thread Cert.MlpRefIdeal.nD Cert.MlpRefIdeal.τ).loc Cert.MlpRefIdeal.main_arg2)) (m ((c.tc : Thread Cert.MlpRefIdeal.nD Cert.MlpRefIdeal.τ).loc Cert.MlpRefIdeal.main_arg3)) (m ((c.tc : Thread Cert.MlpRefIdeal.nD Cert.MlpRefIdeal.τ).loc Cert.MlpRefIdeal.main_arg4)) (m ((c.tc : Thread Cert.MlpRefIdeal.nD Cert.MlpRefIdeal.τ).loc Cert.MlpRefIdeal.main_arg5)) (m ((c.tc : Thread Cert.MlpRefIdeal.nD Cert.MlpRefIdeal.τ).loc Cert.MlpRefIdeal.main_arg6))).2 = (fun _ => 1#1)

def Pre_Rel (m : (ℓ : Loc Cert.Rel.nD Cert.Rel.τ Cert.Rel.sig) → Buf (Elt Bits) ℓ) : Prop :=
  True

def Pre_RelIdeal (m : (ℓ : Loc Cert.RelIdeal.nD Cert.RelIdeal.τ Cert.RelIdeal.sig) → Buf (Elt Ideal) ℓ) : Prop :=
  True

def Pre_RelRefIdeal (m : (ℓ : Loc Cert.RelRefIdeal.nD Cert.RelRefIdeal.τ Cert.RelRefIdeal.sig) → Buf (Elt Ideal) ℓ) : Prop :=
  True

def Pre_Dense (m : (ℓ : Loc Cert.Dense.nD Cert.Dense.τ Cert.Dense.sig) → Buf (Elt Bits) ℓ) : Prop :=
  True

def Pre_DenseIdeal (m : (ℓ : Loc Cert.DenseIdeal.nD Cert.DenseIdeal.τ Cert.DenseIdeal.sig) → Buf (Elt Ideal) ℓ) : Prop :=
  True

def Pre_DenseRefIdeal (m : (ℓ : Loc Cert.DenseRefIdeal.nD Cert.DenseRefIdeal.τ Cert.DenseRefIdeal.sig) → Buf (Elt Ideal) ℓ) : Prop :=
  True

def Pre_Query [hPre_query_pre : Cert.Pre_query_pre.Facts] (m : (ℓ : Loc Cert.Query.nD Cert.Query.τ Cert.Query.sig) → Buf (Elt Bits) ℓ) : Prop :=
  ∀ c : Dev Cert.Query.nD,
    (Cert.Pre_query_pre.fn (F := Bits) (m ((c.tc : Thread Cert.Query.nD Cert.Query.τ).loc Cert.Query.main_arg0)) (m ((c.tc : Thread Cert.Query.nD Cert.Query.τ).loc Cert.Query.main_arg1))) = (fun _ => 1#1)

def Pre_QueryIdeal [hPre_query_pre : Cert.Pre_query_pre.Facts] (m : (ℓ : Loc Cert.QueryIdeal.nD Cert.QueryIdeal.τ Cert.QueryIdeal.sig) → Buf (Elt Ideal) ℓ) : Prop :=
  ∀ c : Dev Cert.QueryIdeal.nD,
    (Cert.Pre_query_pre.fn (F := Ideal) (m ((c.tc : Thread Cert.QueryIdeal.nD Cert.QueryIdeal.τ).loc Cert.QueryIdeal.main_arg0)) (m ((c.tc : Thread Cert.QueryIdeal.nD Cert.QueryIdeal.τ).loc Cert.QueryIdeal.main_arg1))) = (fun _ => 1#1)

def Pre_QueryRefIdeal [hPre_query_pre : Cert.Pre_query_pre.Facts] (m : (ℓ : Loc Cert.QueryRefIdeal.nD Cert.QueryRefIdeal.τ Cert.QueryRefIdeal.sig) → Buf (Elt Ideal) ℓ) : Prop :=
  ∀ c : Dev Cert.QueryRefIdeal.nD,
    (Cert.Pre_query_pre.fn (F := Ideal) (m ((c.tc : Thread Cert.QueryRefIdeal.nD Cert.QueryRefIdeal.τ).loc Cert.QueryRefIdeal.main_arg0)) (m ((c.tc : Thread Cert.QueryRefIdeal.nD Cert.QueryRefIdeal.τ).loc Cert.QueryRefIdeal.main_arg1))) = (fun _ => 1#1)

def quiescent_Mlp [hMlp : Cert.Mlp.Facts] : Prop :=
  ∀ (m : (ℓ : Loc Cert.Mlp.nD Cert.Mlp.τ Cert.Mlp.sig) → Buf (Elt Bits) ℓ) (g : Dev Cert.Mlp.nD → PrngReg), Pre_Mlp m →
    θ_run (Cert.Mlp.defs (F := Bits)) (onTc (τ := Cert.Mlp.τ) (Cert.Mlp.main (F := Bits))) ⟨m, fun _ => 0, g⟩ (fun r => (∀ c : Dev Cert.Mlp.nD,
      r.2.mem ((c.tc : Thread Cert.Mlp.nD Cert.Mlp.τ).loc Cert.Mlp.main_arg0) = m ((c.tc : Thread Cert.Mlp.nD Cert.Mlp.τ).loc Cert.Mlp.main_arg0)
      ∧ r.2.mem ((c.tc : Thread Cert.Mlp.nD Cert.Mlp.τ).loc Cert.Mlp.main_arg1) = m ((c.tc : Thread Cert.Mlp.nD Cert.Mlp.τ).loc Cert.Mlp.main_arg1)
      ∧ r.2.mem ((c.tc : Thread Cert.Mlp.nD Cert.Mlp.τ).loc Cert.Mlp.main_arg2) = m ((c.tc : Thread Cert.Mlp.nD Cert.Mlp.τ).loc Cert.Mlp.main_arg2)
      ∧ r.2.mem ((c.tc : Thread Cert.Mlp.nD Cert.Mlp.τ).loc Cert.Mlp.main_arg3) = m ((c.tc : Thread Cert.Mlp.nD Cert.Mlp.τ).loc Cert.Mlp.main_arg3)
      ∧ r.2.mem ((c.tc : Thread Cert.Mlp.nD Cert.Mlp.τ).loc Cert.Mlp.main_arg4) = m ((c.tc : Thread Cert.Mlp.nD Cert.Mlp.τ).loc Cert.Mlp.main_arg4)
      ∧ r.2.mem ((c.tc : Thread Cert.Mlp.nD Cert.Mlp.τ).loc Cert.Mlp.main_arg5) = m ((c.tc : Thread Cert.Mlp.nD Cert.Mlp.τ).loc Cert.Mlp.main_arg5)
      ∧ r.2.mem ((c.tc : Thread Cert.Mlp.nD Cert.Mlp.τ).loc Cert.Mlp.main_arg6) = m ((c.tc : Thread Cert.Mlp.nD Cert.Mlp.τ).loc Cert.Mlp.main_arg6))
      ∧ r.2.sem = fun _ => 0)

def quiescent_MlpIdeal [hMlpIdeal : Cert.MlpIdeal.Facts] : Prop :=
  ∀ (m : (ℓ : Loc Cert.MlpIdeal.nD Cert.MlpIdeal.τ Cert.MlpIdeal.sig) → Buf (Elt Ideal) ℓ) (g : Dev Cert.MlpIdeal.nD → PrngReg), Pre_MlpIdeal m →
    θ_run (Cert.MlpIdeal.defs (F := Ideal)) (onTc (τ := Cert.MlpIdeal.τ) (Cert.MlpIdeal.main (F := Ideal))) ⟨m, fun _ => 0, g⟩ (fun r => (∀ c : Dev Cert.MlpIdeal.nD,
      r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
      ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
      ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
      ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
      ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4)
      ∧ r.2.mem ((c.tc : Thread Cert.MlpIdeal.nD Cert.MlpIdeal.τ).loc Cert.MlpIdeal.main_arg5) = m ((c.tc : Thread Cert.MlpIdeal.nD Cert.MlpIdeal.τ).loc Cert.MlpIdeal.main_arg5)
      ∧ r.2.mem ((c.tc : Thread Cert.MlpIdeal.nD Cert.MlpIdeal.τ).loc Cert.MlpIdeal.main_arg6) = m ((c.tc : Thread Cert.MlpIdeal.nD Cert.MlpIdeal.τ).loc Cert.MlpIdeal.main_arg6))
      ∧ r.2.sem = fun _ => 0)

def quiescent_MlpIdeal_pre_mlp_pre [hMlpIdeal : Cert.MlpIdeal.Facts] [hPre_mlp_pre : Cert.Pre_mlp_pre.Facts] : Prop :=
  ∀ (m : (ℓ : Loc Cert.MlpIdeal.nD Cert.MlpIdeal.τ Cert.MlpIdeal.sig) → Buf (Elt Ideal) ℓ) (g : Dev Cert.MlpIdeal.nD → PrngReg), Pre_MlpIdeal_mlp_pre m →
    θ_run (Cert.MlpIdeal.defs (F := Ideal)) (onTc (τ := Cert.MlpIdeal.τ) (Cert.MlpIdeal.main (F := Ideal))) ⟨m, fun _ => 0, g⟩ (fun r => (∀ c : Dev Cert.MlpIdeal.nD,
      r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
      ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
      ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
      ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
      ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4)
      ∧ r.2.mem ((c.tc : Thread Cert.MlpIdeal.nD Cert.MlpIdeal.τ).loc Cert.MlpIdeal.main_arg5) = m ((c.tc : Thread Cert.MlpIdeal.nD Cert.MlpIdeal.τ).loc Cert.MlpIdeal.main_arg5)
      ∧ r.2.mem ((c.tc : Thread Cert.MlpIdeal.nD Cert.MlpIdeal.τ).loc Cert.MlpIdeal.main_arg6) = m ((c.tc : Thread Cert.MlpIdeal.nD Cert.MlpIdeal.τ).loc Cert.MlpIdeal.main_arg6))
      ∧ r.2.sem = fun _ => 0)

def quiescent_MlpRefIdeal [hMlpRefIdeal : Cert.MlpRefIdeal.Facts] : Prop :=
  ∀ (m : (ℓ : Loc Cert.MlpRefIdeal.nD Cert.MlpRefIdeal.τ Cert.MlpRefIdeal.sig) → Buf (Elt Ideal) ℓ) (g : Dev Cert.MlpRefIdeal.nD → PrngReg), Pre_MlpRefIdeal m →
    θ_run (Cert.MlpRefIdeal.defs (F := Ideal)) (onTc (τ := Cert.MlpRefIdeal.τ) (Cert.MlpRefIdeal.main (F := Ideal))) ⟨m, fun _ => 0, g⟩ (fun r => (∀ c : Dev Cert.MlpRefIdeal.nD,
      r.2.mem ((c.tc : Thread Cert.MlpRefIdeal.nD Cert.MlpRefIdeal.τ).loc Cert.MlpRefIdeal.main_arg0) = m ((c.tc : Thread Cert.MlpRefIdeal.nD Cert.MlpRefIdeal.τ).loc Cert.MlpRefIdeal.main_arg0)
      ∧ r.2.mem ((c.tc : Thread Cert.MlpRefIdeal.nD Cert.MlpRefIdeal.τ).loc Cert.MlpRefIdeal.main_arg1) = m ((c.tc : Thread Cert.MlpRefIdeal.nD Cert.MlpRefIdeal.τ).loc Cert.MlpRefIdeal.main_arg1)
      ∧ r.2.mem ((c.tc : Thread Cert.MlpRefIdeal.nD Cert.MlpRefIdeal.τ).loc Cert.MlpRefIdeal.main_arg2) = m ((c.tc : Thread Cert.MlpRefIdeal.nD Cert.MlpRefIdeal.τ).loc Cert.MlpRefIdeal.main_arg2)
      ∧ r.2.mem ((c.tc : Thread Cert.MlpRefIdeal.nD Cert.MlpRefIdeal.τ).loc Cert.MlpRefIdeal.main_arg3) = m ((c.tc : Thread Cert.MlpRefIdeal.nD Cert.MlpRefIdeal.τ).loc Cert.MlpRefIdeal.main_arg3)
      ∧ r.2.mem ((c.tc : Thread Cert.MlpRefIdeal.nD Cert.MlpRefIdeal.τ).loc Cert.MlpRefIdeal.main_arg4) = m ((c.tc : Thread Cert.MlpRefIdeal.nD Cert.MlpRefIdeal.τ).loc Cert.MlpRefIdeal.main_arg4)
      ∧ r.2.mem ((c.tc : Thread Cert.MlpRefIdeal.nD Cert.MlpRefIdeal.τ).loc Cert.MlpRefIdeal.main_arg5) = m ((c.tc : Thread Cert.MlpRefIdeal.nD Cert.MlpRefIdeal.τ).loc Cert.MlpRefIdeal.main_arg5)
      ∧ r.2.mem ((c.tc : Thread Cert.MlpRefIdeal.nD Cert.MlpRefIdeal.τ).loc Cert.MlpRefIdeal.main_arg6) = m ((c.tc : Thread Cert.MlpRefIdeal.nD Cert.MlpRefIdeal.τ).loc Cert.MlpRefIdeal.main_arg6))
      ∧ r.2.sem = fun _ => 0)

def quiescent_MlpRefIdeal_pre_mlp_pre [hMlpRefIdeal : Cert.MlpRefIdeal.Facts] [hPre_mlp_pre : Cert.Pre_mlp_pre.Facts] : Prop :=
  ∀ (m : (ℓ : Loc Cert.MlpRefIdeal.nD Cert.MlpRefIdeal.τ Cert.MlpRefIdeal.sig) → Buf (Elt Ideal) ℓ) (g : Dev Cert.MlpRefIdeal.nD → PrngReg), Pre_MlpRefIdeal_mlp_pre m →
    θ_run (Cert.MlpRefIdeal.defs (F := Ideal)) (onTc (τ := Cert.MlpRefIdeal.τ) (Cert.MlpRefIdeal.main (F := Ideal))) ⟨m, fun _ => 0, g⟩ (fun r => (∀ c : Dev Cert.MlpRefIdeal.nD,
      r.2.mem ((c.tc : Thread Cert.MlpRefIdeal.nD Cert.MlpRefIdeal.τ).loc Cert.MlpRefIdeal.main_arg0) = m ((c.tc : Thread Cert.MlpRefIdeal.nD Cert.MlpRefIdeal.τ).loc Cert.MlpRefIdeal.main_arg0)
      ∧ r.2.mem ((c.tc : Thread Cert.MlpRefIdeal.nD Cert.MlpRefIdeal.τ).loc Cert.MlpRefIdeal.main_arg1) = m ((c.tc : Thread Cert.MlpRefIdeal.nD Cert.MlpRefIdeal.τ).loc Cert.MlpRefIdeal.main_arg1)
      ∧ r.2.mem ((c.tc : Thread Cert.MlpRefIdeal.nD Cert.MlpRefIdeal.τ).loc Cert.MlpRefIdeal.main_arg2) = m ((c.tc : Thread Cert.MlpRefIdeal.nD Cert.MlpRefIdeal.τ).loc Cert.MlpRefIdeal.main_arg2)
      ∧ r.2.mem ((c.tc : Thread Cert.MlpRefIdeal.nD Cert.MlpRefIdeal.τ).loc Cert.MlpRefIdeal.main_arg3) = m ((c.tc : Thread Cert.MlpRefIdeal.nD Cert.MlpRefIdeal.τ).loc Cert.MlpRefIdeal.main_arg3)
      ∧ r.2.mem ((c.tc : Thread Cert.MlpRefIdeal.nD Cert.MlpRefIdeal.τ).loc Cert.MlpRefIdeal.main_arg4) = m ((c.tc : Thread Cert.MlpRefIdeal.nD Cert.MlpRefIdeal.τ).loc Cert.MlpRefIdeal.main_arg4)
      ∧ r.2.mem ((c.tc : Thread Cert.MlpRefIdeal.nD Cert.MlpRefIdeal.τ).loc Cert.MlpRefIdeal.main_arg5) = m ((c.tc : Thread Cert.MlpRefIdeal.nD Cert.MlpRefIdeal.τ).loc Cert.MlpRefIdeal.main_arg5)
      ∧ r.2.mem ((c.tc : Thread Cert.MlpRefIdeal.nD Cert.MlpRefIdeal.τ).loc Cert.MlpRefIdeal.main_arg6) = m ((c.tc : Thread Cert.MlpRefIdeal.nD Cert.MlpRefIdeal.τ).loc Cert.MlpRefIdeal.main_arg6))
      ∧ r.2.sem = fun _ => 0)

def quiescent_Rel [hRel : Cert.Rel.Facts] : Prop :=
  ∀ (m : (ℓ : Loc Cert.Rel.nD Cert.Rel.τ Cert.Rel.sig) → Buf (Elt Bits) ℓ) (g : Dev Cert.Rel.nD → PrngReg), Pre_Rel m →
    θ_run (Cert.Rel.defs (F := Bits)) (onTc (τ := Cert.Rel.τ) (Cert.Rel.main (F := Bits))) ⟨m, fun _ => 0, g⟩ (fun r => (∀ c : Dev Cert.Rel.nD,
      r.2.mem ((c.tc : Thread Cert.Rel.nD Cert.Rel.τ).loc Cert.Rel.main_arg0) = m ((c.tc : Thread Cert.Rel.nD Cert.Rel.τ).loc Cert.Rel.main_arg0)
      ∧ r.2.mem ((c.tc : Thread Cert.Rel.nD Cert.Rel.τ).loc Cert.Rel.main_arg1) = m ((c.tc : Thread Cert.Rel.nD Cert.Rel.τ).loc Cert.Rel.main_arg1)
      ∧ r.2.mem ((c.tc : Thread Cert.Rel.nD Cert.Rel.τ).loc Cert.Rel.main_arg2) = m ((c.tc : Thread Cert.Rel.nD Cert.Rel.τ).loc Cert.Rel.main_arg2)
      ∧ r.2.mem ((c.tc : Thread Cert.Rel.nD Cert.Rel.τ).loc Cert.Rel.main_arg3) = m ((c.tc : Thread Cert.Rel.nD Cert.Rel.τ).loc Cert.Rel.main_arg3)
      ∧ r.2.mem ((c.tc : Thread Cert.Rel.nD Cert.Rel.τ).loc Cert.Rel.main_arg4) = m ((c.tc : Thread Cert.Rel.nD Cert.Rel.τ).loc Cert.Rel.main_arg4))
      ∧ r.2.sem = fun _ => 0)

def quiescent_RelIdeal [hRelIdeal : Cert.RelIdeal.Facts] : Prop :=
  ∀ (m : (ℓ : Loc Cert.RelIdeal.nD Cert.RelIdeal.τ Cert.RelIdeal.sig) → Buf (Elt Ideal) ℓ) (g : Dev Cert.RelIdeal.nD → PrngReg), Pre_RelIdeal m →
    θ_run (Cert.RelIdeal.defs (F := Ideal)) (onTc (τ := Cert.RelIdeal.τ) (Cert.RelIdeal.main (F := Ideal))) ⟨m, fun _ => 0, g⟩ (fun r => (∀ c : Dev Cert.RelIdeal.nD,
      r.2.mem ((c.tc : Thread Cert.RelIdeal.nD Cert.RelIdeal.τ).loc Cert.RelIdeal.main_arg0) = m ((c.tc : Thread Cert.RelIdeal.nD Cert.RelIdeal.τ).loc Cert.RelIdeal.main_arg0)
      ∧ r.2.mem ((c.tc : Thread Cert.RelIdeal.nD Cert.RelIdeal.τ).loc Cert.RelIdeal.main_arg1) = m ((c.tc : Thread Cert.RelIdeal.nD Cert.RelIdeal.τ).loc Cert.RelIdeal.main_arg1)
      ∧ r.2.mem ((c.tc : Thread Cert.RelIdeal.nD Cert.RelIdeal.τ).loc Cert.RelIdeal.main_arg2) = m ((c.tc : Thread Cert.RelIdeal.nD Cert.RelIdeal.τ).loc Cert.RelIdeal.main_arg2)
      ∧ r.2.mem ((c.tc : Thread Cert.RelIdeal.nD Cert.RelIdeal.τ).loc Cert.RelIdeal.main_arg3) = m ((c.tc : Thread Cert.RelIdeal.nD Cert.RelIdeal.τ).loc Cert.RelIdeal.main_arg3)
      ∧ r.2.mem ((c.tc : Thread Cert.RelIdeal.nD Cert.RelIdeal.τ).loc Cert.RelIdeal.main_arg4) = m ((c.tc : Thread Cert.RelIdeal.nD Cert.RelIdeal.τ).loc Cert.RelIdeal.main_arg4))
      ∧ r.2.sem = fun _ => 0)

def quiescent_RelRefIdeal [hRelRefIdeal : Cert.RelRefIdeal.Facts] : Prop :=
  ∀ (m : (ℓ : Loc Cert.RelRefIdeal.nD Cert.RelRefIdeal.τ Cert.RelRefIdeal.sig) → Buf (Elt Ideal) ℓ) (g : Dev Cert.RelRefIdeal.nD → PrngReg), Pre_RelRefIdeal m →
    θ_run (Cert.RelRefIdeal.defs (F := Ideal)) (onTc (τ := Cert.RelRefIdeal.τ) (Cert.RelRefIdeal.main (F := Ideal))) ⟨m, fun _ => 0, g⟩ (fun r => (∀ c : Dev Cert.RelRefIdeal.nD,
      r.2.mem ((c.tc : Thread Cert.RelRefIdeal.nD Cert.RelRefIdeal.τ).loc Cert.RelRefIdeal.main_arg0) = m ((c.tc : Thread Cert.RelRefIdeal.nD Cert.RelRefIdeal.τ).loc Cert.RelRefIdeal.main_arg0)
      ∧ r.2.mem ((c.tc : Thread Cert.RelRefIdeal.nD Cert.RelRefIdeal.τ).loc Cert.RelRefIdeal.main_arg1) = m ((c.tc : Thread Cert.RelRefIdeal.nD Cert.RelRefIdeal.τ).loc Cert.RelRefIdeal.main_arg1)
      ∧ r.2.mem ((c.tc : Thread Cert.RelRefIdeal.nD Cert.RelRefIdeal.τ).loc Cert.RelRefIdeal.main_arg2) = m ((c.tc : Thread Cert.RelRefIdeal.nD Cert.RelRefIdeal.τ).loc Cert.RelRefIdeal.main_arg2)
      ∧ r.2.mem ((c.tc : Thread Cert.RelRefIdeal.nD Cert.RelRefIdeal.τ).loc Cert.RelRefIdeal.main_arg3) = m ((c.tc : Thread Cert.RelRefIdeal.nD Cert.RelRefIdeal.τ).loc Cert.RelRefIdeal.main_arg3)
      ∧ r.2.mem ((c.tc : Thread Cert.RelRefIdeal.nD Cert.RelRefIdeal.τ).loc Cert.RelRefIdeal.main_arg4) = m ((c.tc : Thread Cert.RelRefIdeal.nD Cert.RelRefIdeal.τ).loc Cert.RelRefIdeal.main_arg4))
      ∧ r.2.sem = fun _ => 0)

def quiescent_Dense [hDense : Cert.Dense.Facts] : Prop :=
  ∀ (m : (ℓ : Loc Cert.Dense.nD Cert.Dense.τ Cert.Dense.sig) → Buf (Elt Bits) ℓ) (g : Dev Cert.Dense.nD → PrngReg), Pre_Dense m →
    θ_run (Cert.Dense.defs (F := Bits)) (onTc (τ := Cert.Dense.τ) (Cert.Dense.main (F := Bits))) ⟨m, fun _ => 0, g⟩ (fun r => (∀ c : Dev Cert.Dense.nD,
      r.2.mem ((c.tc : Thread Cert.Dense.nD Cert.Dense.τ).loc Cert.Dense.main_arg0) = m ((c.tc : Thread Cert.Dense.nD Cert.Dense.τ).loc Cert.Dense.main_arg0)
      ∧ r.2.mem ((c.tc : Thread Cert.Dense.nD Cert.Dense.τ).loc Cert.Dense.main_arg1) = m ((c.tc : Thread Cert.Dense.nD Cert.Dense.τ).loc Cert.Dense.main_arg1)
      ∧ r.2.mem ((c.tc : Thread Cert.Dense.nD Cert.Dense.τ).loc Cert.Dense.main_arg2) = m ((c.tc : Thread Cert.Dense.nD Cert.Dense.τ).loc Cert.Dense.main_arg2)
      ∧ r.2.mem ((c.tc : Thread Cert.Dense.nD Cert.Dense.τ).loc Cert.Dense.main_arg3) = m ((c.tc : Thread Cert.Dense.nD Cert.Dense.τ).loc Cert.Dense.main_arg3)
      ∧ r.2.mem ((c.tc : Thread Cert.Dense.nD Cert.Dense.τ).loc Cert.Dense.main_arg4) = m ((c.tc : Thread Cert.Dense.nD Cert.Dense.τ).loc Cert.Dense.main_arg4)
      ∧ r.2.mem ((c.tc : Thread Cert.Dense.nD Cert.Dense.τ).loc Cert.Dense.main_arg5) = m ((c.tc : Thread Cert.Dense.nD Cert.Dense.τ).loc Cert.Dense.main_arg5)
      ∧ r.2.mem ((c.tc : Thread Cert.Dense.nD Cert.Dense.τ).loc Cert.Dense.main_arg6) = m ((c.tc : Thread Cert.Dense.nD Cert.Dense.τ).loc Cert.Dense.main_arg6)
      ∧ r.2.mem ((c.tc : Thread Cert.Dense.nD Cert.Dense.τ).loc Cert.Dense.main_arg7) = m ((c.tc : Thread Cert.Dense.nD Cert.Dense.τ).loc Cert.Dense.main_arg7)
      ∧ r.2.mem ((c.tc : Thread Cert.Dense.nD Cert.Dense.τ).loc Cert.Dense.main_arg8) = m ((c.tc : Thread Cert.Dense.nD Cert.Dense.τ).loc Cert.Dense.main_arg8)
      ∧ r.2.mem ((c.tc : Thread Cert.Dense.nD Cert.Dense.τ).loc Cert.Dense.main_arg9) = m ((c.tc : Thread Cert.Dense.nD Cert.Dense.τ).loc Cert.Dense.main_arg9))
      ∧ r.2.sem = fun _ => 0)

def quiescent_DenseIdeal [hDenseIdeal : Cert.DenseIdeal.Facts] : Prop :=
  ∀ (m : (ℓ : Loc Cert.DenseIdeal.nD Cert.DenseIdeal.τ Cert.DenseIdeal.sig) → Buf (Elt Ideal) ℓ) (g : Dev Cert.DenseIdeal.nD → PrngReg), Pre_DenseIdeal m →
    θ_run (Cert.DenseIdeal.defs (F := Ideal)) (onTc (τ := Cert.DenseIdeal.τ) (Cert.DenseIdeal.main (F := Ideal))) ⟨m, fun _ => 0, g⟩ (fun r => (∀ c : Dev Cert.DenseIdeal.nD,
      r.2.mem ((c.tc : Thread Cert.DenseIdeal.nD Cert.DenseIdeal.τ).loc Cert.DenseIdeal.main_arg0) = m ((c.tc : Thread Cert.DenseIdeal.nD Cert.DenseIdeal.τ).loc Cert.DenseIdeal.main_arg0)
      ∧ r.2.mem ((c.tc : Thread Cert.DenseIdeal.nD Cert.DenseIdeal.τ).loc Cert.DenseIdeal.main_arg1) = m ((c.tc : Thread Cert.DenseIdeal.nD Cert.DenseIdeal.τ).loc Cert.DenseIdeal.main_arg1)
      ∧ r.2.mem ((c.tc : Thread Cert.DenseIdeal.nD Cert.DenseIdeal.τ).loc Cert.DenseIdeal.main_arg2) = m ((c.tc : Thread Cert.DenseIdeal.nD Cert.DenseIdeal.τ).loc Cert.DenseIdeal.main_arg2)
      ∧ r.2.mem ((c.tc : Thread Cert.DenseIdeal.nD Cert.DenseIdeal.τ).loc Cert.DenseIdeal.main_arg3) = m ((c.tc : Thread Cert.DenseIdeal.nD Cert.DenseIdeal.τ).loc Cert.DenseIdeal.main_arg3)
      ∧ r.2.mem ((c.tc : Thread Cert.DenseIdeal.nD Cert.DenseIdeal.τ).loc Cert.DenseIdeal.main_arg4) = m ((c.tc : Thread Cert.DenseIdeal.nD Cert.DenseIdeal.τ).loc Cert.DenseIdeal.main_arg4)
      ∧ r.2.mem ((c.tc : Thread Cert.DenseIdeal.nD Cert.DenseIdeal.τ).loc Cert.DenseIdeal.main_arg5) = m ((c.tc : Thread Cert.DenseIdeal.nD Cert.DenseIdeal.τ).loc Cert.DenseIdeal.main_arg5)
      ∧ r.2.mem ((c.tc : Thread Cert.DenseIdeal.nD Cert.DenseIdeal.τ).loc Cert.DenseIdeal.main_arg6) = m ((c.tc : Thread Cert.DenseIdeal.nD Cert.DenseIdeal.τ).loc Cert.DenseIdeal.main_arg6)
      ∧ r.2.mem ((c.tc : Thread Cert.DenseIdeal.nD Cert.DenseIdeal.τ).loc Cert.DenseIdeal.main_arg7) = m ((c.tc : Thread Cert.DenseIdeal.nD Cert.DenseIdeal.τ).loc Cert.DenseIdeal.main_arg7)
      ∧ r.2.mem ((c.tc : Thread Cert.DenseIdeal.nD Cert.DenseIdeal.τ).loc Cert.DenseIdeal.main_arg8) = m ((c.tc : Thread Cert.DenseIdeal.nD Cert.DenseIdeal.τ).loc Cert.DenseIdeal.main_arg8)
      ∧ r.2.mem ((c.tc : Thread Cert.DenseIdeal.nD Cert.DenseIdeal.τ).loc Cert.DenseIdeal.main_arg9) = m ((c.tc : Thread Cert.DenseIdeal.nD Cert.DenseIdeal.τ).loc Cert.DenseIdeal.main_arg9))
      ∧ r.2.sem = fun _ => 0)

def quiescent_DenseRefIdeal [hDenseRefIdeal : Cert.DenseRefIdeal.Facts] : Prop :=
  ∀ (m : (ℓ : Loc Cert.DenseRefIdeal.nD Cert.DenseRefIdeal.τ Cert.DenseRefIdeal.sig) → Buf (Elt Ideal) ℓ) (g : Dev Cert.DenseRefIdeal.nD → PrngReg), Pre_DenseRefIdeal m →
    θ_run (Cert.DenseRefIdeal.defs (F := Ideal)) (onTc (τ := Cert.DenseRefIdeal.τ) (Cert.DenseRefIdeal.main (F := Ideal))) ⟨m, fun _ => 0, g⟩ (fun r => (∀ c : Dev Cert.DenseRefIdeal.nD,
      r.2.mem ((c.tc : Thread Cert.DenseRefIdeal.nD Cert.DenseRefIdeal.τ).loc Cert.DenseRefIdeal.main_arg0) = m ((c.tc : Thread Cert.DenseRefIdeal.nD Cert.DenseRefIdeal.τ).loc Cert.DenseRefIdeal.main_arg0)
      ∧ r.2.mem ((c.tc : Thread Cert.DenseRefIdeal.nD Cert.DenseRefIdeal.τ).loc Cert.DenseRefIdeal.main_arg1) = m ((c.tc : Thread Cert.DenseRefIdeal.nD Cert.DenseRefIdeal.τ).loc Cert.DenseRefIdeal.main_arg1)
      ∧ r.2.mem ((c.tc : Thread Cert.DenseRefIdeal.nD Cert.DenseRefIdeal.τ).loc Cert.DenseRefIdeal.main_arg2) = m ((c.tc : Thread Cert.DenseRefIdeal.nD Cert.DenseRefIdeal.τ).loc Cert.DenseRefIdeal.main_arg2)
      ∧ r.2.mem ((c.tc : Thread Cert.DenseRefIdeal.nD Cert.DenseRefIdeal.τ).loc Cert.DenseRefIdeal.main_arg3) = m ((c.tc : Thread Cert.DenseRefIdeal.nD Cert.DenseRefIdeal.τ).loc Cert.DenseRefIdeal.main_arg3)
      ∧ r.2.mem ((c.tc : Thread Cert.DenseRefIdeal.nD Cert.DenseRefIdeal.τ).loc Cert.DenseRefIdeal.main_arg4) = m ((c.tc : Thread Cert.DenseRefIdeal.nD Cert.DenseRefIdeal.τ).loc Cert.DenseRefIdeal.main_arg4)
      ∧ r.2.mem ((c.tc : Thread Cert.DenseRefIdeal.nD Cert.DenseRefIdeal.τ).loc Cert.DenseRefIdeal.main_arg5) = m ((c.tc : Thread Cert.DenseRefIdeal.nD Cert.DenseRefIdeal.τ).loc Cert.DenseRefIdeal.main_arg5)
      ∧ r.2.mem ((c.tc : Thread Cert.DenseRefIdeal.nD Cert.DenseRefIdeal.τ).loc Cert.DenseRefIdeal.main_arg6) = m ((c.tc : Thread Cert.DenseRefIdeal.nD Cert.DenseRefIdeal.τ).loc Cert.DenseRefIdeal.main_arg6)
      ∧ r.2.mem ((c.tc : Thread Cert.DenseRefIdeal.nD Cert.DenseRefIdeal.τ).loc Cert.DenseRefIdeal.main_arg7) = m ((c.tc : Thread Cert.DenseRefIdeal.nD Cert.DenseRefIdeal.τ).loc Cert.DenseRefIdeal.main_arg7)
      ∧ r.2.mem ((c.tc : Thread Cert.DenseRefIdeal.nD Cert.DenseRefIdeal.τ).loc Cert.DenseRefIdeal.main_arg8) = m ((c.tc : Thread Cert.DenseRefIdeal.nD Cert.DenseRefIdeal.τ).loc Cert.DenseRefIdeal.main_arg8)
      ∧ r.2.mem ((c.tc : Thread Cert.DenseRefIdeal.nD Cert.DenseRefIdeal.τ).loc Cert.DenseRefIdeal.main_arg9) = m ((c.tc : Thread Cert.DenseRefIdeal.nD Cert.DenseRefIdeal.τ).loc Cert.DenseRefIdeal.main_arg9))
      ∧ r.2.sem = fun _ => 0)

def quiescent_Query [hQuery : Cert.Query.Facts] [hPre_query_pre : Cert.Pre_query_pre.Facts] : Prop :=
  ∀ (m : (ℓ : Loc Cert.Query.nD Cert.Query.τ Cert.Query.sig) → Buf (Elt Bits) ℓ) (g : Dev Cert.Query.nD → PrngReg), Pre_Query m →
    θ_run (Cert.Query.defs (F := Bits)) (onTc (τ := Cert.Query.τ) (Cert.Query.main (F := Bits))) ⟨m, fun _ => 0, g⟩ (fun r => (∀ c : Dev Cert.Query.nD,
      r.2.mem ((c.tc : Thread Cert.Query.nD Cert.Query.τ).loc Cert.Query.main_arg0) = m ((c.tc : Thread Cert.Query.nD Cert.Query.τ).loc Cert.Query.main_arg0)
      ∧ r.2.mem ((c.tc : Thread Cert.Query.nD Cert.Query.τ).loc Cert.Query.main_arg1) = m ((c.tc : Thread Cert.Query.nD Cert.Query.τ).loc Cert.Query.main_arg1))
      ∧ r.2.sem = fun _ => 0)

def quiescent_QueryIdeal [hQueryIdeal : Cert.QueryIdeal.Facts] [hPre_query_pre : Cert.Pre_query_pre.Facts] : Prop :=
  ∀ (m : (ℓ : Loc Cert.QueryIdeal.nD Cert.QueryIdeal.τ Cert.QueryIdeal.sig) → Buf (Elt Ideal) ℓ) (g : Dev Cert.QueryIdeal.nD → PrngReg), Pre_QueryIdeal m →
    θ_run (Cert.QueryIdeal.defs (F := Ideal)) (onTc (τ := Cert.QueryIdeal.τ) (Cert.QueryIdeal.main (F := Ideal))) ⟨m, fun _ => 0, g⟩ (fun r => (∀ c : Dev Cert.QueryIdeal.nD,
      r.2.mem ((c.tc : Thread Cert.QueryIdeal.nD Cert.QueryIdeal.τ).loc Cert.QueryIdeal.main_arg0) = m ((c.tc : Thread Cert.QueryIdeal.nD Cert.QueryIdeal.τ).loc Cert.QueryIdeal.main_arg0)
      ∧ r.2.mem ((c.tc : Thread Cert.QueryIdeal.nD Cert.QueryIdeal.τ).loc Cert.QueryIdeal.main_arg1) = m ((c.tc : Thread Cert.QueryIdeal.nD Cert.QueryIdeal.τ).loc Cert.QueryIdeal.main_arg1))
      ∧ r.2.sem = fun _ => 0)

def quiescent_QueryRefIdeal [hQueryRefIdeal : Cert.QueryRefIdeal.Facts] [hPre_query_pre : Cert.Pre_query_pre.Facts] : Prop :=
  ∀ (m : (ℓ : Loc Cert.QueryRefIdeal.nD Cert.QueryRefIdeal.τ Cert.QueryRefIdeal.sig) → Buf (Elt Ideal) ℓ) (g : Dev Cert.QueryRefIdeal.nD → PrngReg), Pre_QueryRefIdeal m →
    θ_run (Cert.QueryRefIdeal.defs (F := Ideal)) (onTc (τ := Cert.QueryRefIdeal.τ) (Cert.QueryRefIdeal.main (F := Ideal))) ⟨m, fun _ => 0, g⟩ (fun r => (∀ c : Dev Cert.QueryRefIdeal.nD,
      r.2.mem ((c.tc : Thread Cert.QueryRefIdeal.nD Cert.QueryRefIdeal.τ).loc Cert.QueryRefIdeal.main_arg0) = m ((c.tc : Thread Cert.QueryRefIdeal.nD Cert.QueryRefIdeal.τ).loc Cert.QueryRefIdeal.main_arg0)
      ∧ r.2.mem ((c.tc : Thread Cert.QueryRefIdeal.nD Cert.QueryRefIdeal.τ).loc Cert.QueryRefIdeal.main_arg1) = m ((c.tc : Thread Cert.QueryRefIdeal.nD Cert.QueryRefIdeal.τ).loc Cert.QueryRefIdeal.main_arg1))
      ∧ r.2.sem = fun _ => 0)

def preserves_Mlp_MlpIdeal : Prop :=
  True

def algebraic_MlpIdeal_MlpRefIdeal_pre_mlp_pre [hMlpIdeal : Cert.MlpIdeal.Facts] [hMlpRefIdeal : Cert.MlpRefIdeal.Facts] [hPre_mlp_pre : Cert.Pre_mlp_pre.Facts] : Prop :=
  ∀ (m : (ℓ : Loc Cert.MlpIdeal.nD Cert.MlpIdeal.τ Cert.MlpIdeal.sig) → Buf (Elt Ideal) ℓ) (g : Dev Cert.MlpIdeal.nD → PrngReg)
    (m' : (ℓ : Loc Cert.MlpRefIdeal.nD Cert.MlpRefIdeal.τ Cert.MlpRefIdeal.sig) → Buf (Elt Ideal) ℓ) (g' : Dev Cert.MlpRefIdeal.nD → PrngReg), Pre_MlpIdeal_mlp_pre m →
    (∀ c : Dev Cert.MlpIdeal.nD,
      m' ((c.tc : Thread Cert.MlpRefIdeal.nD Cert.MlpRefIdeal.τ).loc Cert.MlpRefIdeal.main_arg0) = m ((c.tc : Thread Cert.MlpIdeal.nD Cert.MlpIdeal.τ).loc Cert.MlpIdeal.main_arg0)
      ∧ m' ((c.tc : Thread Cert.MlpRefIdeal.nD Cert.MlpRefIdeal.τ).loc Cert.MlpRefIdeal.main_arg1) = m ((c.tc : Thread Cert.MlpIdeal.nD Cert.MlpIdeal.τ).loc Cert.MlpIdeal.main_arg1)
      ∧ m' ((c.tc : Thread Cert.MlpRefIdeal.nD Cert.MlpRefIdeal.τ).loc Cert.MlpRefIdeal.main_arg2) = m ((c.tc : Thread Cert.MlpIdeal.nD Cert.MlpIdeal.τ).loc Cert.MlpIdeal.main_arg2)
      ∧ m' ((c.tc : Thread Cert.MlpRefIdeal.nD Cert.MlpRefIdeal.τ).loc Cert.MlpRefIdeal.main_arg3) = m ((c.tc : Thread Cert.MlpIdeal.nD Cert.MlpIdeal.τ).loc Cert.MlpIdeal.main_arg3)
      ∧ m' ((c.tc : Thread Cert.MlpRefIdeal.nD Cert.MlpRefIdeal.τ).loc Cert.MlpRefIdeal.main_arg4) = m ((c.tc : Thread Cert.MlpIdeal.nD Cert.MlpIdeal.τ).loc Cert.MlpIdeal.main_arg4)
      ∧ m' ((c.tc : Thread Cert.MlpRefIdeal.nD Cert.MlpRefIdeal.τ).loc Cert.MlpRefIdeal.main_arg5) = m ((c.tc : Thread Cert.MlpIdeal.nD Cert.MlpIdeal.τ).loc Cert.MlpIdeal.main_arg5)
      ∧ m' ((c.tc : Thread Cert.MlpRefIdeal.nD Cert.MlpRefIdeal.τ).loc Cert.MlpRefIdeal.main_arg6) = m ((c.tc : Thread Cert.MlpIdeal.nD Cert.MlpIdeal.τ).loc Cert.MlpIdeal.main_arg6)) →
    ∃ (v0 : (c : Dev Cert.MlpIdeal.nD) → Buf (Elt Ideal) ((c.tc : Thread Cert.MlpIdeal.nD Cert.MlpIdeal.τ).loc Cert.MlpIdeal.main_v31)),
      θ_run (Cert.MlpIdeal.defs (F := Ideal)) (onTc (τ := Cert.MlpIdeal.τ) (Cert.MlpIdeal.main (F := Ideal))) ⟨m, fun _ => 0, g⟩ (fun r => ∀ c : Dev Cert.MlpIdeal.nD,
          r.2.mem ((c.tc : Thread Cert.MlpIdeal.nD Cert.MlpIdeal.τ).loc Cert.MlpIdeal.main_v31) = v0 c
          ∧ r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
          ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
          ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
          ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
          ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4)
          ∧ r.2.mem ((c.tc : Thread Cert.MlpIdeal.nD Cert.MlpIdeal.τ).loc Cert.MlpIdeal.main_arg5) = m ((c.tc : Thread Cert.MlpIdeal.nD Cert.MlpIdeal.τ).loc Cert.MlpIdeal.main_arg5)
          ∧ r.2.mem ((c.tc : Thread Cert.MlpIdeal.nD Cert.MlpIdeal.τ).loc Cert.MlpIdeal.main_arg6) = m ((c.tc : Thread Cert.MlpIdeal.nD Cert.MlpIdeal.τ).loc Cert.MlpIdeal.main_arg6))
      ∧ θ_run (Cert.MlpRefIdeal.defs (F := Ideal)) (onTc (τ := Cert.MlpRefIdeal.τ) (Cert.MlpRefIdeal.main (F := Ideal))) ⟨m', fun _ => 0, g'⟩ (fun r => ∀ c : Dev Cert.MlpRefIdeal.nD,
          r.2.mem ((c.tc : Thread Cert.MlpRefIdeal.nD Cert.MlpRefIdeal.τ).loc Cert.MlpRefIdeal.main_v0) = v0 c
          ∧ r.2.mem ((c.tc : Thread Cert.MlpRefIdeal.nD Cert.MlpRefIdeal.τ).loc Cert.MlpRefIdeal.main_arg0) = m' ((c.tc : Thread Cert.MlpRefIdeal.nD Cert.MlpRefIdeal.τ).loc Cert.MlpRefIdeal.main_arg0)
          ∧ r.2.mem ((c.tc : Thread Cert.MlpRefIdeal.nD Cert.MlpRefIdeal.τ).loc Cert.MlpRefIdeal.main_arg1) = m' ((c.tc : Thread Cert.MlpRefIdeal.nD Cert.MlpRefIdeal.τ).loc Cert.MlpRefIdeal.main_arg1)
          ∧ r.2.mem ((c.tc : Thread Cert.MlpRefIdeal.nD Cert.MlpRefIdeal.τ).loc Cert.MlpRefIdeal.main_arg2) = m' ((c.tc : Thread Cert.MlpRefIdeal.nD Cert.MlpRefIdeal.τ).loc Cert.MlpRefIdeal.main_arg2)
          ∧ r.2.mem ((c.tc : Thread Cert.MlpRefIdeal.nD Cert.MlpRefIdeal.τ).loc Cert.MlpRefIdeal.main_arg3) = m' ((c.tc : Thread Cert.MlpRefIdeal.nD Cert.MlpRefIdeal.τ).loc Cert.MlpRefIdeal.main_arg3)
          ∧ r.2.mem ((c.tc : Thread Cert.MlpRefIdeal.nD Cert.MlpRefIdeal.τ).loc Cert.MlpRefIdeal.main_arg4) = m' ((c.tc : Thread Cert.MlpRefIdeal.nD Cert.MlpRefIdeal.τ).loc Cert.MlpRefIdeal.main_arg4)
          ∧ r.2.mem ((c.tc : Thread Cert.MlpRefIdeal.nD Cert.MlpRefIdeal.τ).loc Cert.MlpRefIdeal.main_arg5) = m' ((c.tc : Thread Cert.MlpRefIdeal.nD Cert.MlpRefIdeal.τ).loc Cert.MlpRefIdeal.main_arg5)
          ∧ r.2.mem ((c.tc : Thread Cert.MlpRefIdeal.nD Cert.MlpRefIdeal.τ).loc Cert.MlpRefIdeal.main_arg6) = m' ((c.tc : Thread Cert.MlpRefIdeal.nD Cert.MlpRefIdeal.τ).loc Cert.MlpRefIdeal.main_arg6))

def preserves_Rel_RelIdeal : Prop :=
  True

def algebraic_RelIdeal_RelRefIdeal [hRelIdeal : Cert.RelIdeal.Facts] [hRelRefIdeal : Cert.RelRefIdeal.Facts] : Prop :=
  ∀ (m : (ℓ : Loc Cert.RelIdeal.nD Cert.RelIdeal.τ Cert.RelIdeal.sig) → Buf (Elt Ideal) ℓ) (g : Dev Cert.RelIdeal.nD → PrngReg)
    (m' : (ℓ : Loc Cert.RelRefIdeal.nD Cert.RelRefIdeal.τ Cert.RelRefIdeal.sig) → Buf (Elt Ideal) ℓ) (g' : Dev Cert.RelRefIdeal.nD → PrngReg), Pre_RelIdeal m →
    (∀ c : Dev Cert.RelIdeal.nD,
      m' ((c.tc : Thread Cert.RelRefIdeal.nD Cert.RelRefIdeal.τ).loc Cert.RelRefIdeal.main_arg0) = m ((c.tc : Thread Cert.RelIdeal.nD Cert.RelIdeal.τ).loc Cert.RelIdeal.main_arg0)
      ∧ m' ((c.tc : Thread Cert.RelRefIdeal.nD Cert.RelRefIdeal.τ).loc Cert.RelRefIdeal.main_arg1) = m ((c.tc : Thread Cert.RelIdeal.nD Cert.RelIdeal.τ).loc Cert.RelIdeal.main_arg1)
      ∧ m' ((c.tc : Thread Cert.RelRefIdeal.nD Cert.RelRefIdeal.τ).loc Cert.RelRefIdeal.main_arg2) = m ((c.tc : Thread Cert.RelIdeal.nD Cert.RelIdeal.τ).loc Cert.RelIdeal.main_arg2)
      ∧ m' ((c.tc : Thread Cert.RelRefIdeal.nD Cert.RelRefIdeal.τ).loc Cert.RelRefIdeal.main_arg3) = m ((c.tc : Thread Cert.RelIdeal.nD Cert.RelIdeal.τ).loc Cert.RelIdeal.main_arg3)
      ∧ m' ((c.tc : Thread Cert.RelRefIdeal.nD Cert.RelRefIdeal.τ).loc Cert.RelRefIdeal.main_arg4) = m ((c.tc : Thread Cert.RelIdeal.nD Cert.RelIdeal.τ).loc Cert.RelIdeal.main_arg4)) →
    ∃ (v0 : (c : Dev Cert.RelIdeal.nD) → Buf (Elt Ideal) ((c.tc : Thread Cert.RelIdeal.nD Cert.RelIdeal.τ).loc Cert.RelIdeal.main_v7)),
      θ_run (Cert.RelIdeal.defs (F := Ideal)) (onTc (τ := Cert.RelIdeal.τ) (Cert.RelIdeal.main (F := Ideal))) ⟨m, fun _ => 0, g⟩ (fun r => ∀ c : Dev Cert.RelIdeal.nD,
          r.2.mem ((c.tc : Thread Cert.RelIdeal.nD Cert.RelIdeal.τ).loc Cert.RelIdeal.main_v7) = v0 c
          ∧ r.2.mem ((c.tc : Thread Cert.RelIdeal.nD Cert.RelIdeal.τ).loc Cert.RelIdeal.main_arg0) = m ((c.tc : Thread Cert.RelIdeal.nD Cert.RelIdeal.τ).loc Cert.RelIdeal.main_arg0)
          ∧ r.2.mem ((c.tc : Thread Cert.RelIdeal.nD Cert.RelIdeal.τ).loc Cert.RelIdeal.main_arg1) = m ((c.tc : Thread Cert.RelIdeal.nD Cert.RelIdeal.τ).loc Cert.RelIdeal.main_arg1)
          ∧ r.2.mem ((c.tc : Thread Cert.RelIdeal.nD Cert.RelIdeal.τ).loc Cert.RelIdeal.main_arg2) = m ((c.tc : Thread Cert.RelIdeal.nD Cert.RelIdeal.τ).loc Cert.RelIdeal.main_arg2)
          ∧ r.2.mem ((c.tc : Thread Cert.RelIdeal.nD Cert.RelIdeal.τ).loc Cert.RelIdeal.main_arg3) = m ((c.tc : Thread Cert.RelIdeal.nD Cert.RelIdeal.τ).loc Cert.RelIdeal.main_arg3)
          ∧ r.2.mem ((c.tc : Thread Cert.RelIdeal.nD Cert.RelIdeal.τ).loc Cert.RelIdeal.main_arg4) = m ((c.tc : Thread Cert.RelIdeal.nD Cert.RelIdeal.τ).loc Cert.RelIdeal.main_arg4))
      ∧ θ_run (Cert.RelRefIdeal.defs (F := Ideal)) (onTc (τ := Cert.RelRefIdeal.τ) (Cert.RelRefIdeal.main (F := Ideal))) ⟨m', fun _ => 0, g'⟩ (fun r => ∀ c : Dev Cert.RelRefIdeal.nD,
          r.2.mem ((c.tc : Thread Cert.RelRefIdeal.nD Cert.RelRefIdeal.τ).loc Cert.RelRefIdeal.main_v0) = v0 c
          ∧ r.2.mem ((c.tc : Thread Cert.RelRefIdeal.nD Cert.RelRefIdeal.τ).loc Cert.RelRefIdeal.main_arg0) = m' ((c.tc : Thread Cert.RelRefIdeal.nD Cert.RelRefIdeal.τ).loc Cert.RelRefIdeal.main_arg0)
          ∧ r.2.mem ((c.tc : Thread Cert.RelRefIdeal.nD Cert.RelRefIdeal.τ).loc Cert.RelRefIdeal.main_arg1) = m' ((c.tc : Thread Cert.RelRefIdeal.nD Cert.RelRefIdeal.τ).loc Cert.RelRefIdeal.main_arg1)
          ∧ r.2.mem ((c.tc : Thread Cert.RelRefIdeal.nD Cert.RelRefIdeal.τ).loc Cert.RelRefIdeal.main_arg2) = m' ((c.tc : Thread Cert.RelRefIdeal.nD Cert.RelRefIdeal.τ).loc Cert.RelRefIdeal.main_arg2)
          ∧ r.2.mem ((c.tc : Thread Cert.RelRefIdeal.nD Cert.RelRefIdeal.τ).loc Cert.RelRefIdeal.main_arg3) = m' ((c.tc : Thread Cert.RelRefIdeal.nD Cert.RelRefIdeal.τ).loc Cert.RelRefIdeal.main_arg3)
          ∧ r.2.mem ((c.tc : Thread Cert.RelRefIdeal.nD Cert.RelRefIdeal.τ).loc Cert.RelRefIdeal.main_arg4) = m' ((c.tc : Thread Cert.RelRefIdeal.nD Cert.RelRefIdeal.τ).loc Cert.RelRefIdeal.main_arg4))

def preserves_Dense_DenseIdeal : Prop :=
  True

def algebraic_DenseIdeal_DenseRefIdeal [hDenseIdeal : Cert.DenseIdeal.Facts] [hDenseRefIdeal : Cert.DenseRefIdeal.Facts] : Prop :=
  ∀ (m : (ℓ : Loc Cert.DenseIdeal.nD Cert.DenseIdeal.τ Cert.DenseIdeal.sig) → Buf (Elt Ideal) ℓ) (g : Dev Cert.DenseIdeal.nD → PrngReg)
    (m' : (ℓ : Loc Cert.DenseRefIdeal.nD Cert.DenseRefIdeal.τ Cert.DenseRefIdeal.sig) → Buf (Elt Ideal) ℓ) (g' : Dev Cert.DenseRefIdeal.nD → PrngReg), Pre_DenseIdeal m →
    (∀ c : Dev Cert.DenseIdeal.nD,
      m' ((c.tc : Thread Cert.DenseRefIdeal.nD Cert.DenseRefIdeal.τ).loc Cert.DenseRefIdeal.main_arg0) = m ((c.tc : Thread Cert.DenseIdeal.nD Cert.DenseIdeal.τ).loc Cert.DenseIdeal.main_arg0)
      ∧ m' ((c.tc : Thread Cert.DenseRefIdeal.nD Cert.DenseRefIdeal.τ).loc Cert.DenseRefIdeal.main_arg1) = m ((c.tc : Thread Cert.DenseIdeal.nD Cert.DenseIdeal.τ).loc Cert.DenseIdeal.main_arg1)
      ∧ m' ((c.tc : Thread Cert.DenseRefIdeal.nD Cert.DenseRefIdeal.τ).loc Cert.DenseRefIdeal.main_arg2) = m ((c.tc : Thread Cert.DenseIdeal.nD Cert.DenseIdeal.τ).loc Cert.DenseIdeal.main_arg2)
      ∧ m' ((c.tc : Thread Cert.DenseRefIdeal.nD Cert.DenseRefIdeal.τ).loc Cert.DenseRefIdeal.main_arg3) = m ((c.tc : Thread Cert.DenseIdeal.nD Cert.DenseIdeal.τ).loc Cert.DenseIdeal.main_arg3)
      ∧ m' ((c.tc : Thread Cert.DenseRefIdeal.nD Cert.DenseRefIdeal.τ).loc Cert.DenseRefIdeal.main_arg4) = m ((c.tc : Thread Cert.DenseIdeal.nD Cert.DenseIdeal.τ).loc Cert.DenseIdeal.main_arg4)
      ∧ m' ((c.tc : Thread Cert.DenseRefIdeal.nD Cert.DenseRefIdeal.τ).loc Cert.DenseRefIdeal.main_arg5) = m ((c.tc : Thread Cert.DenseIdeal.nD Cert.DenseIdeal.τ).loc Cert.DenseIdeal.main_arg5)
      ∧ m' ((c.tc : Thread Cert.DenseRefIdeal.nD Cert.DenseRefIdeal.τ).loc Cert.DenseRefIdeal.main_arg6) = m ((c.tc : Thread Cert.DenseIdeal.nD Cert.DenseIdeal.τ).loc Cert.DenseIdeal.main_arg6)
      ∧ m' ((c.tc : Thread Cert.DenseRefIdeal.nD Cert.DenseRefIdeal.τ).loc Cert.DenseRefIdeal.main_arg7) = m ((c.tc : Thread Cert.DenseIdeal.nD Cert.DenseIdeal.τ).loc Cert.DenseIdeal.main_arg7)
      ∧ m' ((c.tc : Thread Cert.DenseRefIdeal.nD Cert.DenseRefIdeal.τ).loc Cert.DenseRefIdeal.main_arg8) = m ((c.tc : Thread Cert.DenseIdeal.nD Cert.DenseIdeal.τ).loc Cert.DenseIdeal.main_arg8)
      ∧ m' ((c.tc : Thread Cert.DenseRefIdeal.nD Cert.DenseRefIdeal.τ).loc Cert.DenseRefIdeal.main_arg9) = m ((c.tc : Thread Cert.DenseIdeal.nD Cert.DenseIdeal.τ).loc Cert.DenseIdeal.main_arg9)) →
    ∃ (v0 : (c : Dev Cert.DenseIdeal.nD) → Buf (Elt Ideal) ((c.tc : Thread Cert.DenseIdeal.nD Cert.DenseIdeal.τ).loc Cert.DenseIdeal.main_v27)) (v1 : (c : Dev Cert.DenseIdeal.nD) → Buf (Elt Ideal) ((c.tc : Thread Cert.DenseIdeal.nD Cert.DenseIdeal.τ).loc Cert.DenseIdeal.main_v30)) (v2 : (c : Dev Cert.DenseIdeal.nD) → Buf (Elt Ideal) ((c.tc : Thread Cert.DenseIdeal.nD Cert.DenseIdeal.τ).loc Cert.DenseIdeal.main_v33)) (v3 : (c : Dev Cert.DenseIdeal.nD) → Buf (Elt Ideal) ((c.tc : Thread Cert.DenseIdeal.nD Cert.DenseIdeal.τ).loc Cert.DenseIdeal.main_v36)),
      θ_run (Cert.DenseIdeal.defs (F := Ideal)) (onTc (τ := Cert.DenseIdeal.τ) (Cert.DenseIdeal.main (F := Ideal))) ⟨m, fun _ => 0, g⟩ (fun r => ∀ c : Dev Cert.DenseIdeal.nD,
          r.2.mem ((c.tc : Thread Cert.DenseIdeal.nD Cert.DenseIdeal.τ).loc Cert.DenseIdeal.main_v27) = v0 c
          ∧ r.2.mem ((c.tc : Thread Cert.DenseIdeal.nD Cert.DenseIdeal.τ).loc Cert.DenseIdeal.main_v30) = v1 c
          ∧ r.2.mem ((c.tc : Thread Cert.DenseIdeal.nD Cert.DenseIdeal.τ).loc Cert.DenseIdeal.main_v33) = v2 c
          ∧ r.2.mem ((c.tc : Thread Cert.DenseIdeal.nD Cert.DenseIdeal.τ).loc Cert.DenseIdeal.main_v36) = v3 c
          ∧ r.2.mem ((c.tc : Thread Cert.DenseIdeal.nD Cert.DenseIdeal.τ).loc Cert.DenseIdeal.main_arg0) = m ((c.tc : Thread Cert.DenseIdeal.nD Cert.DenseIdeal.τ).loc Cert.DenseIdeal.main_arg0)
          ∧ r.2.mem ((c.tc : Thread Cert.DenseIdeal.nD Cert.DenseIdeal.τ).loc Cert.DenseIdeal.main_arg1) = m ((c.tc : Thread Cert.DenseIdeal.nD Cert.DenseIdeal.τ).loc Cert.DenseIdeal.main_arg1)
          ∧ r.2.mem ((c.tc : Thread Cert.DenseIdeal.nD Cert.DenseIdeal.τ).loc Cert.DenseIdeal.main_arg2) = m ((c.tc : Thread Cert.DenseIdeal.nD Cert.DenseIdeal.τ).loc Cert.DenseIdeal.main_arg2)
          ∧ r.2.mem ((c.tc : Thread Cert.DenseIdeal.nD Cert.DenseIdeal.τ).loc Cert.DenseIdeal.main_arg3) = m ((c.tc : Thread Cert.DenseIdeal.nD Cert.DenseIdeal.τ).loc Cert.DenseIdeal.main_arg3)
          ∧ r.2.mem ((c.tc : Thread Cert.DenseIdeal.nD Cert.DenseIdeal.τ).loc Cert.DenseIdeal.main_arg4) = m ((c.tc : Thread Cert.DenseIdeal.nD Cert.DenseIdeal.τ).loc Cert.DenseIdeal.main_arg4)
          ∧ r.2.mem ((c.tc : Thread Cert.DenseIdeal.nD Cert.DenseIdeal.τ).loc Cert.DenseIdeal.main_arg5) = m ((c.tc : Thread Cert.DenseIdeal.nD Cert.DenseIdeal.τ).loc Cert.DenseIdeal.main_arg5)
          ∧ r.2.mem ((c.tc : Thread Cert.DenseIdeal.nD Cert.DenseIdeal.τ).loc Cert.DenseIdeal.main_arg6) = m ((c.tc : Thread Cert.DenseIdeal.nD Cert.DenseIdeal.τ).loc Cert.DenseIdeal.main_arg6)
          ∧ r.2.mem ((c.tc : Thread Cert.DenseIdeal.nD Cert.DenseIdeal.τ).loc Cert.DenseIdeal.main_arg7) = m ((c.tc : Thread Cert.DenseIdeal.nD Cert.DenseIdeal.τ).loc Cert.DenseIdeal.main_arg7)
          ∧ r.2.mem ((c.tc : Thread Cert.DenseIdeal.nD Cert.DenseIdeal.τ).loc Cert.DenseIdeal.main_arg8) = m ((c.tc : Thread Cert.DenseIdeal.nD Cert.DenseIdeal.τ).loc Cert.DenseIdeal.main_arg8)
          ∧ r.2.mem ((c.tc : Thread Cert.DenseIdeal.nD Cert.DenseIdeal.τ).loc Cert.DenseIdeal.main_arg9) = m ((c.tc : Thread Cert.DenseIdeal.nD Cert.DenseIdeal.τ).loc Cert.DenseIdeal.main_arg9))
      ∧ θ_run (Cert.DenseRefIdeal.defs (F := Ideal)) (onTc (τ := Cert.DenseRefIdeal.τ) (Cert.DenseRefIdeal.main (F := Ideal))) ⟨m', fun _ => 0, g'⟩ (fun r => ∀ c : Dev Cert.DenseRefIdeal.nD,
          r.2.mem ((c.tc : Thread Cert.DenseRefIdeal.nD Cert.DenseRefIdeal.τ).loc Cert.DenseRefIdeal.main_v0_0) = v0 c
          ∧ r.2.mem ((c.tc : Thread Cert.DenseRefIdeal.nD Cert.DenseRefIdeal.τ).loc Cert.DenseRefIdeal.main_v0_1) = v1 c
          ∧ r.2.mem ((c.tc : Thread Cert.DenseRefIdeal.nD Cert.DenseRefIdeal.τ).loc Cert.DenseRefIdeal.main_v0_2) = v2 c
          ∧ r.2.mem ((c.tc : Thread Cert.DenseRefIdeal.nD Cert.DenseRefIdeal.τ).loc Cert.DenseRefIdeal.main_v0_3) = v3 c
          ∧ r.2.mem ((c.tc : Thread Cert.DenseRefIdeal.nD Cert.DenseRefIdeal.τ).loc Cert.DenseRefIdeal.main_arg0) = m' ((c.tc : Thread Cert.DenseRefIdeal.nD Cert.DenseRefIdeal.τ).loc Cert.DenseRefIdeal.main_arg0)
          ∧ r.2.mem ((c.tc : Thread Cert.DenseRefIdeal.nD Cert.DenseRefIdeal.τ).loc Cert.DenseRefIdeal.main_arg1) = m' ((c.tc : Thread Cert.DenseRefIdeal.nD Cert.DenseRefIdeal.τ).loc Cert.DenseRefIdeal.main_arg1)
          ∧ r.2.mem ((c.tc : Thread Cert.DenseRefIdeal.nD Cert.DenseRefIdeal.τ).loc Cert.DenseRefIdeal.main_arg2) = m' ((c.tc : Thread Cert.DenseRefIdeal.nD Cert.DenseRefIdeal.τ).loc Cert.DenseRefIdeal.main_arg2)
          ∧ r.2.mem ((c.tc : Thread Cert.DenseRefIdeal.nD Cert.DenseRefIdeal.τ).loc Cert.DenseRefIdeal.main_arg3) = m' ((c.tc : Thread Cert.DenseRefIdeal.nD Cert.DenseRefIdeal.τ).loc Cert.DenseRefIdeal.main_arg3)
          ∧ r.2.mem ((c.tc : Thread Cert.DenseRefIdeal.nD Cert.DenseRefIdeal.τ).loc Cert.DenseRefIdeal.main_arg4) = m' ((c.tc : Thread Cert.DenseRefIdeal.nD Cert.DenseRefIdeal.τ).loc Cert.DenseRefIdeal.main_arg4)
          ∧ r.2.mem ((c.tc : Thread Cert.DenseRefIdeal.nD Cert.DenseRefIdeal.τ).loc Cert.DenseRefIdeal.main_arg5) = m' ((c.tc : Thread Cert.DenseRefIdeal.nD Cert.DenseRefIdeal.τ).loc Cert.DenseRefIdeal.main_arg5)
          ∧ r.2.mem ((c.tc : Thread Cert.DenseRefIdeal.nD Cert.DenseRefIdeal.τ).loc Cert.DenseRefIdeal.main_arg6) = m' ((c.tc : Thread Cert.DenseRefIdeal.nD Cert.DenseRefIdeal.τ).loc Cert.DenseRefIdeal.main_arg6)
          ∧ r.2.mem ((c.tc : Thread Cert.DenseRefIdeal.nD Cert.DenseRefIdeal.τ).loc Cert.DenseRefIdeal.main_arg7) = m' ((c.tc : Thread Cert.DenseRefIdeal.nD Cert.DenseRefIdeal.τ).loc Cert.DenseRefIdeal.main_arg7)
          ∧ r.2.mem ((c.tc : Thread Cert.DenseRefIdeal.nD Cert.DenseRefIdeal.τ).loc Cert.DenseRefIdeal.main_arg8) = m' ((c.tc : Thread Cert.DenseRefIdeal.nD Cert.DenseRefIdeal.τ).loc Cert.DenseRefIdeal.main_arg8)
          ∧ r.2.mem ((c.tc : Thread Cert.DenseRefIdeal.nD Cert.DenseRefIdeal.τ).loc Cert.DenseRefIdeal.main_arg9) = m' ((c.tc : Thread Cert.DenseRefIdeal.nD Cert.DenseRefIdeal.τ).loc Cert.DenseRefIdeal.main_arg9))

def preserves_Query_QueryIdeal : Prop :=
  True

def algebraic_QueryIdeal_QueryRefIdeal [hQueryIdeal : Cert.QueryIdeal.Facts] [hQueryRefIdeal : Cert.QueryRefIdeal.Facts] [hPre_query_pre : Cert.Pre_query_pre.Facts] : Prop :=
  ∀ (m : (ℓ : Loc Cert.QueryIdeal.nD Cert.QueryIdeal.τ Cert.QueryIdeal.sig) → Buf (Elt Ideal) ℓ) (g : Dev Cert.QueryIdeal.nD → PrngReg)
    (m' : (ℓ : Loc Cert.QueryRefIdeal.nD Cert.QueryRefIdeal.τ Cert.QueryRefIdeal.sig) → Buf (Elt Ideal) ℓ) (g' : Dev Cert.QueryRefIdeal.nD → PrngReg), Pre_QueryIdeal m →
    (∀ c : Dev Cert.QueryIdeal.nD,
      m' ((c.tc : Thread Cert.QueryRefIdeal.nD Cert.QueryRefIdeal.τ).loc Cert.QueryRefIdeal.main_arg0) = m ((c.tc : Thread Cert.QueryIdeal.nD Cert.QueryIdeal.τ).loc Cert.QueryIdeal.main_arg0)
      ∧ m' ((c.tc : Thread Cert.QueryRefIdeal.nD Cert.QueryRefIdeal.τ).loc Cert.QueryRefIdeal.main_arg1) = m ((c.tc : Thread Cert.QueryIdeal.nD Cert.QueryIdeal.τ).loc Cert.QueryIdeal.main_arg1)) →
    ∃ (v0 : (c : Dev Cert.QueryIdeal.nD) → Buf (Elt Ideal) ((c.tc : Thread Cert.QueryIdeal.nD Cert.QueryIdeal.τ).loc Cert.QueryIdeal.main_v0_0)) (v1 : (c : Dev Cert.QueryIdeal.nD) → Buf (Elt Ideal) ((c.tc : Thread Cert.QueryIdeal.nD Cert.QueryIdeal.τ).loc Cert.QueryIdeal.main_v0_1)) (v2 : (c : Dev Cert.QueryIdeal.nD) → Buf (Elt Ideal) ((c.tc : Thread Cert.QueryIdeal.nD Cert.QueryIdeal.τ).loc Cert.QueryIdeal.main_v0_2)),
      θ_run (Cert.QueryIdeal.defs (F := Ideal)) (onTc (τ := Cert.QueryIdeal.τ) (Cert.QueryIdeal.main (F := Ideal))) ⟨m, fun _ => 0, g⟩ (fun r => ∀ c : Dev Cert.QueryIdeal.nD,
          r.2.mem ((c.tc : Thread Cert.QueryIdeal.nD Cert.QueryIdeal.τ).loc Cert.QueryIdeal.main_v0_0) = v0 c
          ∧ r.2.mem ((c.tc : Thread Cert.QueryIdeal.nD Cert.QueryIdeal.τ).loc Cert.QueryIdeal.main_v0_1) = v1 c
          ∧ r.2.mem ((c.tc : Thread Cert.QueryIdeal.nD Cert.QueryIdeal.τ).loc Cert.QueryIdeal.main_v0_2) = v2 c
          ∧ r.2.mem ((c.tc : Thread Cert.QueryIdeal.nD Cert.QueryIdeal.τ).loc Cert.QueryIdeal.main_arg0) = m ((c.tc : Thread Cert.QueryIdeal.nD Cert.QueryIdeal.τ).loc Cert.QueryIdeal.main_arg0)
          ∧ r.2.mem ((c.tc : Thread Cert.QueryIdeal.nD Cert.QueryIdeal.τ).loc Cert.QueryIdeal.main_arg1) = m ((c.tc : Thread Cert.QueryIdeal.nD Cert.QueryIdeal.τ).loc Cert.QueryIdeal.main_arg1))
      ∧ θ_run (Cert.QueryRefIdeal.defs (F := Ideal)) (onTc (τ := Cert.QueryRefIdeal.τ) (Cert.QueryRefIdeal.main (F := Ideal))) ⟨m', fun _ => 0, g'⟩ (fun r => ∀ c : Dev Cert.QueryRefIdeal.nD,
          r.2.mem ((c.tc : Thread Cert.QueryRefIdeal.nD Cert.QueryRefIdeal.τ).loc Cert.QueryRefIdeal.main_v7_0) = v0 c
          ∧ r.2.mem ((c.tc : Thread Cert.QueryRefIdeal.nD Cert.QueryRefIdeal.τ).loc Cert.QueryRefIdeal.main_v7_1) = v1 c
          ∧ r.2.mem ((c.tc : Thread Cert.QueryRefIdeal.nD Cert.QueryRefIdeal.τ).loc Cert.QueryRefIdeal.main_v7_2) = v2 c
          ∧ r.2.mem ((c.tc : Thread Cert.QueryRefIdeal.nD Cert.QueryRefIdeal.τ).loc Cert.QueryRefIdeal.main_arg0) = m' ((c.tc : Thread Cert.QueryRefIdeal.nD Cert.QueryRefIdeal.τ).loc Cert.QueryRefIdeal.main_arg0)
          ∧ r.2.mem ((c.tc : Thread Cert.QueryRefIdeal.nD Cert.QueryRefIdeal.τ).loc Cert.QueryRefIdeal.main_arg1) = m' ((c.tc : Thread Cert.QueryRefIdeal.nD Cert.QueryRefIdeal.τ).loc Cert.QueryRefIdeal.main_arg1))

def Claim : Prop :=
  ∃ (hMlp : Cert.Mlp.Facts) (hMlpIdeal : Cert.MlpIdeal.Facts) (hMlpRefIdeal : Cert.MlpRefIdeal.Facts) (hRel : Cert.Rel.Facts) (hRelIdeal : Cert.RelIdeal.Facts) (hRelRefIdeal : Cert.RelRefIdeal.Facts) (hDense : Cert.Dense.Facts) (hDenseIdeal : Cert.DenseIdeal.Facts) (hDenseRefIdeal : Cert.DenseRefIdeal.Facts) (hQuery : Cert.Query.Facts) (hQueryIdeal : Cert.QueryIdeal.Facts) (hQueryRefIdeal : Cert.QueryRefIdeal.Facts) (hPre_mlp_pre : Cert.Pre_mlp_pre.Facts) (hPre_query_pre : Cert.Pre_query_pre.Facts),
    quiescent_Mlp (hMlp := hMlp)
    ∧ quiescent_MlpIdeal (hMlpIdeal := hMlpIdeal)
    ∧ quiescent_MlpIdeal_pre_mlp_pre (hMlpIdeal := hMlpIdeal) (hPre_mlp_pre := hPre_mlp_pre)
    ∧ quiescent_MlpRefIdeal (hMlpRefIdeal := hMlpRefIdeal)
    ∧ quiescent_MlpRefIdeal_pre_mlp_pre (hMlpRefIdeal := hMlpRefIdeal) (hPre_mlp_pre := hPre_mlp_pre)
    ∧ quiescent_Rel (hRel := hRel)
    ∧ quiescent_RelIdeal (hRelIdeal := hRelIdeal)
    ∧ quiescent_RelRefIdeal (hRelRefIdeal := hRelRefIdeal)
    ∧ quiescent_Dense (hDense := hDense)
    ∧ quiescent_DenseIdeal (hDenseIdeal := hDenseIdeal)
    ∧ quiescent_DenseRefIdeal (hDenseRefIdeal := hDenseRefIdeal)
    ∧ quiescent_Query (hQuery := hQuery) (hPre_query_pre := hPre_query_pre)
    ∧ quiescent_QueryIdeal (hQueryIdeal := hQueryIdeal) (hPre_query_pre := hPre_query_pre)
    ∧ quiescent_QueryRefIdeal (hQueryRefIdeal := hQueryRefIdeal) (hPre_query_pre := hPre_query_pre)
    ∧ preserves_Mlp_MlpIdeal
    ∧ algebraic_MlpIdeal_MlpRefIdeal_pre_mlp_pre (hMlpIdeal := hMlpIdeal) (hMlpRefIdeal := hMlpRefIdeal) (hPre_mlp_pre := hPre_mlp_pre)
    ∧ preserves_Rel_RelIdeal
    ∧ algebraic_RelIdeal_RelRefIdeal (hRelIdeal := hRelIdeal) (hRelRefIdeal := hRelRefIdeal)
    ∧ preserves_Dense_DenseIdeal
    ∧ algebraic_DenseIdeal_DenseRefIdeal (hDenseIdeal := hDenseIdeal) (hDenseRefIdeal := hDenseRefIdeal)
    ∧ preserves_Query_QueryIdeal
    ∧ algebraic_QueryIdeal_QueryRefIdeal (hQueryIdeal := hQueryIdeal) (hQueryRefIdeal := hQueryRefIdeal) (hPre_query_pre := hPre_query_pre)
-- ==== Pre_mlp_pre.lean ====
abbrev S4736x40x128 : Shape := ⟨3, ![4736, 40, 128]⟩
abbrev S4736x40 : Shape := ⟨2, ![4736, 40]⟩
abbrev S40x128 : Shape := ⟨2, ![40, 128]⟩
abbrev S128x256 : Shape := ⟨2, ![128, 256]⟩
abbrev S256 : Shape := ⟨1, ![256]⟩
abbrev S_ : Shape := ⟨0, ![]⟩

class Facts : Prop where
  bcast_S_S4736x40 : S_.BroadcastsInDim S4736x40 (![] : Fin 0 → Fin S4736x40.rank)
  bcast_S_S128x256 : S_.BroadcastsInDim S128x256 (![] : Fin 0 → Fin S128x256.rank)

variable [Facts]

def fn {F : FTy → Type} [FloatOps F] (main_arg0 : FVec F S4736x40x128 .fp8e4m3) (main_arg1 : FVec F S4736x40 .f32) (main_arg2 : FVec F S40x128 .f32) (main_arg3 : FVec F S128x256 .f32) (main_arg4 : FVec F S128x256 .f32) (main_arg5 : FVec F S256 .f32) (main_arg6 : FVec F S256 .f32) : IVec S4736x40 1 × IVec S128x256 1 :=
  let main_cst : FVec F S_ .f32 := constant S_ .f32 0x00000000#32
  let main_v0 : FVec F S4736x40 .f32 := broadcastInDim S4736x40 ![] bcast_S_S4736x40 main_cst
  let main_v1 : IVec S4736x40 1 := cmpf .oge main_arg1 main_v0
  let main_cst_0 : FVec F S_ .f32 := constant S_ .f32 0x7F800000#32
  let main_v2 : FVec F S4736x40 .f32 := broadcastInDim S4736x40 ![] bcast_S_S4736x40 main_cst_0
  let main_v3 : IVec S4736x40 1 := cmpf .olt main_arg1 main_v2
  let main_v4 : IVec S4736x40 1 := andi main_v1 main_v3
  let main_v5 : FVec F S128x256 .f32 := Host.absf main_arg3
  let main_cst_1 : FVec F S_ .f32 := constant S_ .f32 0x7F800000#32
  let main_v6 : FVec F S128x256 .f32 := broadcastInDim S128x256 ![] bcast_S_S128x256 main_cst_1
  let main_v7 : IVec S128x256 1 := cmpf .olt main_v5 main_v6
  (main_v4, main_v7)
-- ==== Pre_query_pre.lean ====
abbrev S40 : Shape := ⟨1, ![40]⟩
abbrev S438x128 : Shape := ⟨2, ![438, 128]⟩
abbrev S_ : Shape := ⟨0, ![]⟩

class Facts : Prop where
  bcast_S_S40 : S_.BroadcastsInDim S40 (![] : Fin 0 → Fin S40.rank)

variable [Facts]

def fn {F : FTy → Type} [FloatOps F] (main_arg0 : IVec S40 32) (main_arg1 : FVec F S438x128 .f32) : IVec S40 1 :=
  let main_c : IVec S_ 32 := constantI S_ 32 0#32
  let main_v0 : IVec S40 32 := broadcastInDim S40 ![] bcast_S_S40 main_c
  let main_v1 : IVec S40 1 := cmpi .sge main_arg0 main_v0
  let main_c_0 : IVec S_ 32 := constantI S_ 32 438#32
  let main_v2 : IVec S40 32 := broadcastInDim S40 ![] bcast_S_S40 main_c_0
  let main_v3 : IVec S40 1 := cmpi .slt main_arg0 main_v2
  let main_v4 : IVec S40 1 := andi main_v1 main_v3
  main_v4
-- ==== Mlp.lean ====
abbrev S4736x40x128 : Shape := ⟨3, ![4736, 40, 128]⟩
abbrev S4736x40 : Shape := ⟨2, ![4736, 40]⟩
abbrev S40x128 : Shape := ⟨2, ![40, 128]⟩
abbrev S128x256 : Shape := ⟨2, ![128, 256]⟩
abbrev S256 : Shape := ⟨1, ![256]⟩
abbrev S74x2x32x5x8x128 : Shape := ⟨6, ![74, 2, 32, 5, 8, 128]⟩
abbrev S74x128x2x5x32x8 : Shape := ⟨6, ![74, 128, 2, 5, 32, 8]⟩
abbrev S74x128x2560 : Shape := ⟨3, ![74, 128, 2560]⟩
abbrev S74x2x32x5x8x1 : Shape := ⟨6, ![74, 2, 32, 5, 8, 1]⟩
abbrev S74x1x2x5x32x8 : Shape := ⟨6, ![74, 1, 2, 5, 32, 8]⟩
abbrev S74x1x2560 : Shape := ⟨3, ![74, 1, 2560]⟩
abbrev S256x128 : Shape := ⟨2, ![256, 128]⟩
abbrev S256x384 : Shape := ⟨2, ![256, 384]⟩
abbrev S5x1x8x128 : Shape := ⟨4, ![5, 1, 8, 128]⟩
abbrev S1x5x1x1x1x8x1x128 : Shape := ⟨8, ![1, 5, 1, 1, 1, 8, 1, 128]⟩
abbrev S1x5x32x1x1x8x1x128 : Shape := ⟨8, ![1, 5, 32, 1, 1, 8, 1, 128]⟩
abbrev S5x32x8x128 : Shape := ⟨4, ![5, 32, 8, 128]⟩
abbrev S5x256x128 : Shape := ⟨3, ![5, 256, 128]⟩
abbrev S5x128x256 : Shape := ⟨3, ![5, 128, 256]⟩
abbrev S256x1 : Shape := ⟨2, ![256, 1]⟩
abbrev S256x256 : Shape := ⟨2, ![256, 256]⟩
abbrev S1x128x2560 : Shape := ⟨3, ![1, 128, 2560]⟩
abbrev S1x1x2560 : Shape := ⟨3, ![1, 1, 2560]⟩
abbrev S5x256x256 : Shape := ⟨3, ![5, 256, 256]⟩
abbrev S1x128x256 : Shape := ⟨3, ![1, 128, 256]⟩
abbrev S1x256x256 : Shape := ⟨3, ![1, 256, 256]⟩
abbrev S384x256 : Shape := ⟨2, ![384, 256]⟩
abbrev S1x1x256 : Shape := ⟨3, ![1, 1, 256]⟩
abbrev S1x256 : Shape := ⟨2, ![1, 256]⟩
abbrev S74x2x5x32x8 : Shape := ⟨5, ![74, 2, 5, 32, 8]⟩
abbrev S74x2x32x5x8 : Shape := ⟨5, ![74, 2, 32, 5, 8]⟩

abbrev nBuf : Space → Nat
  | .hbm => 39
  | .vmem => 12
  | .smem => 0
  | _ => 0

abbrev bufTy : (tb : Table) → Fin (tcTables nBuf tb) → BufTy
  | .hbm, ⟨0, _⟩ => ⟨S4736x40x128, .fp8e4m3⟩
  | .hbm, ⟨1, _⟩ => ⟨S4736x40, .f32⟩
  | .hbm, ⟨2, _⟩ => ⟨S40x128, .f32⟩
  | .hbm, ⟨3, _⟩ => ⟨S128x256, .f32⟩
  | .hbm, ⟨4, _⟩ => ⟨S128x256, .f32⟩
  | .hbm, ⟨5, _⟩ => ⟨S256, .f32⟩
  | .hbm, ⟨6, _⟩ => ⟨S256, .f32⟩
  | .hbm, ⟨7, _⟩ => ⟨S74x2x32x5x8x128, .fp8e4m3⟩
  | .hbm, ⟨8, _⟩ => ⟨S74x128x2x5x32x8, .fp8e4m3⟩
  | .hbm, ⟨9, _⟩ => ⟨S74x128x2560, .fp8e4m3⟩
  | .hbm, ⟨10, _⟩ => ⟨S74x2x32x5x8x1, .f32⟩
  | .hbm, ⟨11, _⟩ => ⟨S74x1x2x5x32x8, .f32⟩
  | .hbm, ⟨12, _⟩ => ⟨S74x1x2560, .f32⟩
  | .hbm, ⟨13, _⟩ => ⟨S256x128, .f32⟩
  | .hbm, ⟨14, _⟩ => ⟨S256x128, .bf16⟩
  | .hbm, ⟨15, _⟩ => ⟨S256x128, .f32⟩
  | .hbm, ⟨16, _⟩ => ⟨S256x128, .f32⟩
  | .hbm, ⟨17, _⟩ => ⟨S256x128, .bf16⟩
  | .hbm, ⟨18, _⟩ => ⟨S256x128, .f32⟩
  | .hbm, ⟨19, _⟩ => ⟨S256x128, .f32⟩
  | .hbm, ⟨20, _⟩ => ⟨S256x128, .bf16⟩
  | .hbm, ⟨21, _⟩ => ⟨S256x128, .f32⟩
  | .hbm, ⟨22, _⟩ => ⟨S256x128, .f32⟩
  | .hbm, ⟨23, _⟩ => ⟨S256x384, .bf16⟩
  | .hbm, ⟨24, _⟩ => ⟨S5x1x8x128, .f32⟩
  | .hbm, ⟨25, _⟩ => ⟨S1x5x1x1x1x8x1x128, .f32⟩
  | .hbm, ⟨26, _⟩ => ⟨S1x5x32x1x1x8x1x128, .f32⟩
  | .hbm, ⟨27, _⟩ => ⟨S5x32x8x128, .f32⟩
  | .hbm, ⟨28, _⟩ => ⟨S5x256x128, .f32⟩
  | .hbm, ⟨29, _⟩ => ⟨S5x128x256, .f32⟩
  | .hbm, ⟨30, _⟩ => ⟨S256x128, .f32⟩
  | .hbm, ⟨31, _⟩ => ⟨S256x1, .f32⟩
  | .hbm, ⟨32, _⟩ => ⟨S256x256, .f32⟩
  | .hbm, ⟨33, _⟩ => ⟨S256x1, .f32⟩
  | .hbm, ⟨34, _⟩ => ⟨S256x256, .f32⟩
  | .hbm, ⟨35, _⟩ => ⟨S74x1x2560, .f32⟩
  | .hbm, ⟨36, _⟩ => ⟨S74x2x5x32x8, .f32⟩
  | .hbm, ⟨37, _⟩ => ⟨S74x2x32x5x8, .f32⟩
  | .hbm, ⟨38, _⟩ => ⟨S4736x40, .f32⟩
  | .local _ .vmem, ⟨0, _⟩ => ⟨S1x128x2560, .fp8e4m3⟩
  | .local _ .vmem, ⟨1, _⟩ => ⟨S1x128x2560, .fp8e4m3⟩
  | .local _ .vmem, ⟨2, _⟩ => ⟨S1x1x2560, .f32⟩
  | .local _ .vmem, ⟨3, _⟩ => ⟨S1x1x2560, .f32⟩
  | .local _ .vmem, ⟨4, _⟩ => ⟨S256x384, .bf16⟩
  | .local _ .vmem, ⟨5, _⟩ => ⟨S5x128x256, .f32⟩
  | .local _ .vmem, ⟨6, _⟩ => ⟨S256x128, .f32⟩
  | .local _ .vmem, ⟨7, _⟩ => ⟨S256x256, .f32⟩
  | .local _ .vmem, ⟨8, _⟩ => ⟨S256x256, .f32⟩
  | .local _ .vmem, ⟨9, _⟩ => ⟨S1x1x2560, .f32⟩
  | .local _ .vmem, ⟨10, _⟩ => ⟨S1x1x2560, .f32⟩
  | .local _ .vmem, ⟨11, _⟩ => ⟨S5x256x256, .f32⟩
  | _, _ => ⟨S4736x40x128, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨1, ![74], ![false]⟩

@[reducible] def k0_t1_loop : Scf.Loop 32 :=
  let c0_i32_2 : BitVec 32 := 0#32
  let c2_i32 : BitVec 32 := 2#32
  let v5 : BitVec 32 := Scalar.addi c0_i32_2 c2_i32
  let c1_i32 : BitVec 32 := 1#32
  ⟨c0_i32_2, v5, c1_i32⟩
def k0_mult1 (k0_t1 : Fin k0_t1_loop.trips) : BitVec 32 :=
  let c0_i32_2 : BitVec 32 := 0#32
  let c1_i32 : BitVec 32 := 1#32
  let arg10 : BitVec 32 := Scf.iv c0_i32_2 c1_i32 k0_t1
  let c1280_i32 : BitVec 32 := 1280#32
  let v6 : BitVec 32 := Scalar.muli arg10 c1280_i32
  let c0_i32_4 : BitVec 32 := 0#32
  let v7 : BitVec 32 := Scalar.addi v6 c0_i32_4
  v7
def k0_off1 (k0_t1 : Fin k0_t1_loop.trips) (c0_i32_4 : BitVec 32) : Fin 3 → Nat :=
  let c0_5 : Index := 0#32
  let c0_6 : Index := 0#32
  let c0_i32_2 : BitVec 32 := 0#32
  let c1_i32 : BitVec 32 := 1#32
  let arg10 : BitVec 32 := Scf.iv c0_i32_2 c1_i32 k0_t1
  let c1280_i32 : BitVec 32 := 1280#32
  let v6 : BitVec 32 := Scalar.muli arg10 c1280_i32
  let v7 : BitVec 32 := Scalar.addi v6 c0_i32_4
  let v8 : BitVec 32 := v7
  let v9 : Index := Scalar.indexCast v8
  ![0, 0, v9.toNat]
def k0_off2 (k0_t1 : Fin k0_t1_loop.trips) (c0_i32_4 : BitVec 32) : Fin 3 → Nat :=
  let c0_9 : Index := 0#32
  let c0_10 : Index := 0#32
  let c0_i32_2 : BitVec 32 := 0#32
  let c1_i32 : BitVec 32 := 1#32
  let arg10 : BitVec 32 := Scf.iv c0_i32_2 c1_i32 k0_t1
  let c1280_i32 : BitVec 32 := 1280#32
  let v6 : BitVec 32 := Scalar.muli arg10 c1280_i32
  let v7 : BitVec 32 := Scalar.addi v6 c0_i32_4
  let v8 : BitVec 32 := v7
  let v17 : Index := Scalar.indexCast v8
  ![0, 0, v17.toNat]
def k0_mult2 (k0_t1 : Fin k0_t1_loop.trips) : BitVec 32 :=
  let c0_i32_2 : BitVec 32 := 0#32
  let c1_i32 : BitVec 32 := 1#32
  let arg10 : BitVec 32 := Scf.iv c0_i32_2 c1_i32 k0_t1
  let c1280_i32_18 : BitVec 32 := 1280#32
  let v34 : BitVec 32 := Scalar.muli arg10 c1280_i32_18
  let c256_i32 : BitVec 32 := 256#32
  let v35 : BitVec 32 := Scalar.addi v34 c256_i32
  v35
def k0_mult3 (k0_t1 : Fin k0_t1_loop.trips) : BitVec 32 :=
  let c0_i32_2 : BitVec 32 := 0#32
  let c1_i32 : BitVec 32 := 1#32
  let arg10 : BitVec 32 := Scf.iv c0_i32_2 c1_i32 k0_t1
  let c1280_i32_32 : BitVec 32 := 1280#32
  let v62 : BitVec 32 := Scalar.muli arg10 c1280_i32_32
  let c512_i32 : BitVec 32 := 512#32
  let v63 : BitVec 32 := Scalar.addi v62 c512_i32
  v63
def k0_mult4 (k0_t1 : Fin k0_t1_loop.trips) : BitVec 32 :=
  let c0_i32_2 : BitVec 32 := 0#32
  let c1_i32 : BitVec 32 := 1#32
  let arg10 : BitVec 32 := Scf.iv c0_i32_2 c1_i32 k0_t1
  let c1280_i32_46 : BitVec 32 := 1280#32
  let v90 : BitVec 32 := Scalar.muli arg10 c1280_i32_46
  let c768_i32 : BitVec 32 := 768#32
  let v91 : BitVec 32 := Scalar.addi v90 c768_i32
  v91
def k0_mult5 (k0_t1 : Fin k0_t1_loop.trips) : BitVec 32 :=
  let c0_i32_2 : BitVec 32 := 0#32
  let c1_i32 : BitVec 32 := 1#32
  let arg10 : BitVec 32 := Scf.iv c0_i32_2 c1_i32 k0_t1
  let c1280_i32_60 : BitVec 32 := 1280#32
  let v118 : BitVec 32 := Scalar.muli arg10 c1280_i32_60
  let c1024_i32 : BitVec 32 := 1024#32
  let v119 : BitVec 32 := Scalar.addi v118 c1024_i32
  v119
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x128x2560 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x2560 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x384 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S5x128x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1x1x2560 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== MlpRefIdeal.lean ====
abbrev S4736x40x128 : Shape := ⟨3, ![4736, 40, 128]⟩
abbrev S4736x40 : Shape := ⟨2, ![4736, 40]⟩
abbrev S40x128 : Shape := ⟨2, ![40, 128]⟩
abbrev S128x256 : Shape := ⟨2, ![128, 256]⟩
abbrev S256 : Shape := ⟨1, ![256]⟩
abbrev S4736x40x1 : Shape := ⟨3, ![4736, 40, 1]⟩
abbrev S40x256 : Shape := ⟨2, ![40, 256]⟩
abbrev S189440x128 : Shape := ⟨2, ![189440, 128]⟩
abbrev S189440x256 : Shape := ⟨2, ![189440, 256]⟩
abbrev S4736x40x256 : Shape := ⟨3, ![4736, 40, 256]⟩
abbrev S1x40x256 : Shape := ⟨3, ![1, 40, 256]⟩
abbrev S1x1x256 : Shape := ⟨3, ![1, 1, 256]⟩

abbrev nBuf : Space → Nat
  | .hbm => 8
  | .vmem => 8
  | .smem => 0
  | _ => 0

abbrev bufTy : (tb : Table) → Fin (tcTables nBuf tb) → BufTy
  | .hbm, ⟨0, _⟩ => ⟨S4736x40x128, .fp8e4m3⟩
  | .hbm, ⟨1, _⟩ => ⟨S4736x40, .f32⟩
  | .hbm, ⟨2, _⟩ => ⟨S40x128, .f32⟩
  | .hbm, ⟨3, _⟩ => ⟨S128x256, .f32⟩
  | .hbm, ⟨4, _⟩ => ⟨S128x256, .f32⟩
  | .hbm, ⟨5, _⟩ => ⟨S256, .f32⟩
  | .hbm, ⟨6, _⟩ => ⟨S256, .f32⟩
  | .hbm, ⟨7, _⟩ => ⟨S4736x40, .f32⟩
  | .local _ .vmem, ⟨0, _⟩ => ⟨S4736x40x128, .fp8e4m3⟩
  | .local _ .vmem, ⟨1, _⟩ => ⟨S4736x40, .f32⟩
  | .local _ .vmem, ⟨2, _⟩ => ⟨S40x128, .f32⟩
  | .local _ .vmem, ⟨3, _⟩ => ⟨S128x256, .f32⟩
  | .local _ .vmem, ⟨4, _⟩ => ⟨S128x256, .f32⟩
  | .local _ .vmem, ⟨5, _⟩ => ⟨S256, .f32⟩
  | .local _ .vmem, ⟨6, _⟩ => ⟨S256, .f32⟩
  | .local _ .vmem, ⟨7, _⟩ => ⟨S4736x40, .f32⟩
  | _, _ => ⟨S4736x40x128, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

abbrev stage0_0 : Fin 1 → Memref sig .tc .vmem S4736x40x128 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4736x40 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S40x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S128x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S128x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S4736x40 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== Rel.lean ====
abbrev S40x128 : Shape := ⟨2, ![40, 128]⟩
abbrev S40x1 : Shape := ⟨2, ![40, 1]⟩
abbrev S6x128x438x128 : Shape := ⟨4, ![6, 128, 438, 128]⟩
abbrev S6x438x128 : Shape := ⟨3, ![6, 438, 128]⟩
abbrev S_ : Shape := ⟨0, ![]⟩
abbrev S24x128 : Shape := ⟨2, ![24, 128]⟩
abbrev S64x128 : Shape := ⟨2, ![64, 128]⟩
abbrev S6x438x128x128 : Shape := ⟨4, ![6, 438, 128, 128]⟩
abbrev S6x6x73x128 : Shape := ⟨4, ![6, 6, 73, 128]⟩
abbrev S6x6x2920x128 : Shape := ⟨4, ![6, 6, 2920, 128]⟩
abbrev S1x73x128x128 : Shape := ⟨4, ![1, 73, 128, 128]⟩
abbrev S1x1x73x128 : Shape := ⟨4, ![1, 1, 73, 128]⟩
abbrev S1x1x2920x128 : Shape := ⟨4, ![1, 1, 2920, 128]⟩
abbrev S1x1x128x128 : Shape := ⟨4, ![1, 1, 128, 128]⟩
abbrev S128x128 : Shape := ⟨2, ![128, 128]⟩
abbrev S1x1x1x128 : Shape := ⟨4, ![1, 1, 1, 128]⟩
abbrev S1x128 : Shape := ⟨2, ![1, 128]⟩
abbrev S1x1x40x128 : Shape := ⟨4, ![1, 1, 40, 128]⟩
abbrev S6x438x40x128 : Shape := ⟨4, ![6, 438, 40, 128]⟩

abbrev nBuf : Space → Nat
  | .hbm => 14
  | .vmem => 10
  | .smem => 0
  | _ => 0

abbrev bufTy : (tb : Table) → Fin (tcTables nBuf tb) → BufTy
  | .hbm, ⟨0, _⟩ => ⟨S40x128, .fp8e4m3⟩
  | .hbm, ⟨1, _⟩ => ⟨S40x1, .f32⟩
  | .hbm, ⟨2, _⟩ => ⟨S6x128x438x128, .fp8e4m3⟩
  | .hbm, ⟨3, _⟩ => ⟨S6x438x128, .f32⟩
  | .hbm, ⟨4, _⟩ => ⟨S6x438x128, .f32⟩
  | .hbm, ⟨5, _⟩ => ⟨S_, .f32⟩
  | .hbm, ⟨6, _⟩ => ⟨S24x128, .f32⟩
  | .hbm, ⟨7, _⟩ => ⟨S24x128, .fp8e4m3⟩
  | .hbm, ⟨8, _⟩ => ⟨S64x128, .fp8e4m3⟩
  | .hbm, ⟨9, _⟩ => ⟨S6x438x128x128, .fp8e4m3⟩
  | .hbm, ⟨10, _⟩ => ⟨S6x6x73x128, .f32⟩
  | .hbm, ⟨11, _⟩ => ⟨S6x6x73x128, .f32⟩
  | .hbm, ⟨12, _⟩ => ⟨S6x6x2920x128, .f32⟩
  | .hbm, ⟨13, _⟩ => ⟨S6x438x40x128, .f32⟩
  | .local _ .vmem, ⟨0, _⟩ => ⟨S64x128, .fp8e4m3⟩
  | .local _ .vmem, ⟨1, _⟩ => ⟨S40x1, .f32⟩
  | .local _ .vmem, ⟨2, _⟩ => ⟨S1x73x128x128, .fp8e4m3⟩
  | .local _ .vmem, ⟨3, _⟩ => ⟨S1x73x128x128, .fp8e4m3⟩
  | .local _ .vmem, ⟨4, _⟩ => ⟨S1x1x73x128, .f32⟩
  | .local _ .vmem, ⟨5, _⟩ => ⟨S1x1x73x128, .f32⟩
  | .local _ .vmem, ⟨6, _⟩ => ⟨S1x1x73x128, .f32⟩
  | .local _ .vmem, ⟨7, _⟩ => ⟨S1x1x73x128, .f32⟩
  | .local _ .vmem, ⟨8, _⟩ => ⟨S1x1x2920x128, .f32⟩
  | .local _ .vmem, ⟨9, _⟩ => ⟨S1x1x2920x128, .f32⟩
  | _, _ => ⟨S40x128, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![6, 6], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 1 → Memref sig .tc .vmem S64x128 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .vmem S40x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x73x128x128 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x73x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x73x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x2920x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== RelRefIdeal.lean ====
abbrev S40x128 : Shape := ⟨2, ![40, 128]⟩
abbrev S40x1 : Shape := ⟨2, ![40, 1]⟩
abbrev S6x128x438x128 : Shape := ⟨4, ![6, 128, 438, 128]⟩
abbrev S6x438x128 : Shape := ⟨3, ![6, 438, 128]⟩
abbrev S6x438x40x128 : Shape := ⟨4, ![6, 438, 40, 128]⟩
abbrev S1x128x438x128 : Shape := ⟨4, ![1, 128, 438, 128]⟩
abbrev S128x438x128 : Shape := ⟨3, ![128, 438, 128]⟩
abbrev S128x56064 : Shape := ⟨2, ![128, 56064]⟩
abbrev S40x56064 : Shape := ⟨2, ![40, 56064]⟩
abbrev S40x438x128 : Shape := ⟨3, ![40, 438, 128]⟩
abbrev S438x40x128 : Shape := ⟨3, ![438, 40, 128]⟩
abbrev S1x40x1 : Shape := ⟨3, ![1, 40, 1]⟩
abbrev S1x438x128 : Shape := ⟨3, ![1, 438, 128]⟩
abbrev S438x128 : Shape := ⟨2, ![438, 128]⟩
abbrev S438x1x128 : Shape := ⟨3, ![438, 1, 128]⟩
abbrev S1x438x40x128 : Shape := ⟨4, ![1, 438, 40, 128]⟩

abbrev nBuf : Space → Nat
  | .hbm => 6
  | .vmem => 6
  | .smem => 0
  | _ => 0

abbrev bufTy : (tb : Table) → Fin (tcTables nBuf tb) → BufTy
  | .hbm, ⟨0, _⟩ => ⟨S40x128, .fp8e4m3⟩
  | .hbm, ⟨1, _⟩ => ⟨S40x1, .f32⟩
  | .hbm, ⟨2, _⟩ => ⟨S6x128x438x128, .fp8e4m3⟩
  | .hbm, ⟨3, _⟩ => ⟨S6x438x128, .f32⟩
  | .hbm, ⟨4, _⟩ => ⟨S6x438x128, .f32⟩
  | .hbm, ⟨5, _⟩ => ⟨S6x438x40x128, .f32⟩
  | .local _ .vmem, ⟨0, _⟩ => ⟨S40x128, .fp8e4m3⟩
  | .local _ .vmem, ⟨1, _⟩ => ⟨S40x1, .f32⟩
  | .local _ .vmem, ⟨2, _⟩ => ⟨S6x128x438x128, .fp8e4m3⟩
  | .local _ .vmem, ⟨3, _⟩ => ⟨S6x438x128, .f32⟩
  | .local _ .vmem, ⟨4, _⟩ => ⟨S6x438x128, .f32⟩
  | .local _ .vmem, ⟨5, _⟩ => ⟨S6x438x40x128, .f32⟩
  | _, _ => ⟨S40x128, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S40x128 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S40x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S6x128x438x128 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S6x438x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S6x438x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S6x438x40x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Dense.lean ====
abbrev S4736x40x128 : Shape := ⟨3, ![4736, 40, 128]⟩
abbrev S4736x40 : Shape := ⟨2, ![4736, 40]⟩
abbrev S128x128 : Shape := ⟨2, ![128, 128]⟩
abbrev S128 : Shape := ⟨1, ![128]⟩
abbrev S74x2x32x5x8x128 : Shape := ⟨6, ![74, 2, 32, 5, 8, 128]⟩
abbrev S74x2x5x32x8x128 : Shape := ⟨6, ![74, 2, 5, 32, 8, 128]⟩
abbrev S189440x128 : Shape := ⟨2, ![189440, 128]⟩
abbrev S_ : Shape := ⟨0, ![]⟩
abbrev S128x256 : Shape := ⟨2, ![128, 256]⟩
abbrev S256x256 : Shape := ⟨2, ![256, 256]⟩
abbrev S1x128 : Shape := ⟨2, ![1, 128]⟩
abbrev S5x128 : Shape := ⟨2, ![5, 128]⟩
abbrev S5x128x1 : Shape := ⟨3, ![5, 128, 1]⟩
abbrev S5x128x128 : Shape := ⟨3, ![5, 128, 128]⟩
abbrev S74x128x2x5x32x8 : Shape := ⟨6, ![74, 128, 2, 5, 32, 8]⟩
abbrev S74x128x2560 : Shape := ⟨3, ![74, 128, 2560]⟩
abbrev S74x2x32x5x8x1 : Shape := ⟨6, ![74, 2, 32, 5, 8, 1]⟩
abbrev S74x1x2x5x32x8 : Shape := ⟨6, ![74, 1, 2, 5, 32, 8]⟩
abbrev S74x1x2560 : Shape := ⟨3, ![74, 1, 2560]⟩
abbrev S2560x128 : Shape := ⟨2, ![2560, 128]⟩
abbrev S1x128x2560 : Shape := ⟨3, ![1, 128, 2560]⟩
abbrev S1x1x2560 : Shape := ⟨3, ![1, 1, 2560]⟩
abbrev S256x128 : Shape := ⟨2, ![256, 128]⟩
abbrev S256 : Shape := ⟨1, ![256]⟩
abbrev S1x256 : Shape := ⟨2, ![1, 256]⟩
abbrev S254x256 : Shape := ⟨2, ![254, 256]⟩
abbrev S1x128x256 : Shape := ⟨3, ![1, 128, 256]⟩
abbrev S1x1x256 : Shape := ⟨3, ![1, 1, 256]⟩
abbrev S1x128x128 : Shape := ⟨3, ![1, 128, 128]⟩
abbrev S74x2x5x32x8 : Shape := ⟨5, ![74, 2, 5, 32, 8]⟩
abbrev S74x2x32x5x8 : Shape := ⟨5, ![74, 2, 32, 5, 8]⟩

abbrev nBuf : Space → Nat
  | .hbm => 51
  | .vmem => 16
  | .smem => 0
  | _ => 0

abbrev bufTy : (tb : Table) → Fin (tcTables nBuf tb) → BufTy
  | .hbm, ⟨0, _⟩ => ⟨S4736x40x128, .f32⟩
  | .hbm, ⟨1, _⟩ => ⟨S4736x40x128, .fp8e4m3⟩
  | .hbm, ⟨2, _⟩ => ⟨S4736x40, .f32⟩
  | .hbm, ⟨3, _⟩ => ⟨S128x128, .fp8e4m3⟩
  | .hbm, ⟨4, _⟩ => ⟨S128, .f32⟩
  | .hbm, ⟨5, _⟩ => ⟨S128x128, .fp8e4m3⟩
  | .hbm, ⟨6, _⟩ => ⟨S128, .f32⟩
  | .hbm, ⟨7, _⟩ => ⟨S128, .f32⟩
  | .hbm, ⟨8, _⟩ => ⟨S128, .f32⟩
  | .hbm, ⟨9, _⟩ => ⟨S128, .f32⟩
  | .hbm, ⟨10, _⟩ => ⟨S74x2x32x5x8x128, .f32⟩
  | .hbm, ⟨11, _⟩ => ⟨S74x2x5x32x8x128, .f32⟩
  | .hbm, ⟨12, _⟩ => ⟨S189440x128, .f32⟩
  | .hbm, ⟨13, _⟩ => ⟨S_, .f32⟩
  | .hbm, ⟨14, _⟩ => ⟨S128x128, .f32⟩
  | .hbm, ⟨15, _⟩ => ⟨S128x128, .fp8e4m3⟩
  | .hbm, ⟨16, _⟩ => ⟨S128x128, .fp8e4m3⟩
  | .hbm, ⟨17, _⟩ => ⟨S128x256, .fp8e4m3⟩
  | .hbm, ⟨18, _⟩ => ⟨S128x128, .fp8e4m3⟩
  | .hbm, ⟨19, _⟩ => ⟨S128x256, .fp8e4m3⟩
  | .hbm, ⟨20, _⟩ => ⟨S256x256, .fp8e4m3⟩
  | .hbm, ⟨21, _⟩ => ⟨S1x128, .f32⟩
  | .hbm, ⟨22, _⟩ => ⟨S1x128, .f32⟩
  | .hbm, ⟨23, _⟩ => ⟨S1x128, .f32⟩
  | .hbm, ⟨24, _⟩ => ⟨S1x128, .f32⟩
  | .hbm, ⟨25, _⟩ => ⟨S1x128, .f32⟩
  | .hbm, ⟨26, _⟩ => ⟨S5x128, .f32⟩
  | .hbm, ⟨27, _⟩ => ⟨S5x128x1, .f32⟩
  | .hbm, ⟨28, _⟩ => ⟨S5x128x128, .f32⟩
  | .hbm, ⟨29, _⟩ => ⟨S74x2x32x5x8x128, .fp8e4m3⟩
  | .hbm, ⟨30, _⟩ => ⟨S74x128x2x5x32x8, .fp8e4m3⟩
  | .hbm, ⟨31, _⟩ => ⟨S74x128x2560, .fp8e4m3⟩
  | .hbm, ⟨32, _⟩ => ⟨S74x2x32x5x8x1, .f32⟩
  | .hbm, ⟨33, _⟩ => ⟨S74x1x2x5x32x8, .f32⟩
  | .hbm, ⟨34, _⟩ => ⟨S74x1x2560, .f32⟩
  | .hbm, ⟨35, _⟩ => ⟨S74x128x2560, .fp8e4m3⟩
  | .hbm, ⟨36, _⟩ => ⟨S74x1x2560, .f32⟩
  | .hbm, ⟨37, _⟩ => ⟨S74x128x2560, .fp8e4m3⟩
  | .hbm, ⟨38, _⟩ => ⟨S74x1x2560, .f32⟩
  | .hbm, ⟨39, _⟩ => ⟨S74x128x2x5x32x8, .fp8e4m3⟩
  | .hbm, ⟨40, _⟩ => ⟨S74x2x32x5x8x128, .fp8e4m3⟩
  | .hbm, ⟨41, _⟩ => ⟨S4736x40x128, .fp8e4m3⟩
  | .hbm, ⟨42, _⟩ => ⟨S74x2x5x32x8, .f32⟩
  | .hbm, ⟨43, _⟩ => ⟨S74x2x32x5x8, .f32⟩
  | .hbm, ⟨44, _⟩ => ⟨S4736x40, .f32⟩
  | .hbm, ⟨45, _⟩ => ⟨S74x128x2x5x32x8, .fp8e4m3⟩
  | .hbm, ⟨46, _⟩ => ⟨S74x2x32x5x8x128, .fp8e4m3⟩
  | .hbm, ⟨47, _⟩ => ⟨S4736x40x128, .fp8e4m3⟩
  | .hbm, ⟨48, _⟩ => ⟨S74x2x5x32x8, .f32⟩
  | .hbm, ⟨49, _⟩ => ⟨S74x2x32x5x8, .f32⟩
  | .hbm, ⟨50, _⟩ => ⟨S4736x40, .f32⟩
  | .local _ .vmem, ⟨0, _⟩ => ⟨S2560x128, .f32⟩
  | .local _ .vmem, ⟨1, _⟩ => ⟨S2560x128, .f32⟩
  | .local _ .vmem, ⟨2, _⟩ => ⟨S1x128x2560, .fp8e4m3⟩
  | .local _ .vmem, ⟨3, _⟩ => ⟨S1x128x2560, .fp8e4m3⟩
  | .local _ .vmem, ⟨4, _⟩ => ⟨S1x1x2560, .f32⟩
  | .local _ .vmem, ⟨5, _⟩ => ⟨S1x1x2560, .f32⟩
  | .local _ .vmem, ⟨6, _⟩ => ⟨S256x256, .fp8e4m3⟩
  | .local _ .vmem, ⟨7, _⟩ => ⟨S5x128x128, .f32⟩
  | .local _ .vmem, ⟨8, _⟩ => ⟨S1x128x2560, .fp8e4m3⟩
  | .local _ .vmem, ⟨9, _⟩ => ⟨S1x128x2560, .fp8e4m3⟩
  | .local _ .vmem, ⟨10, _⟩ => ⟨S1x1x2560, .f32⟩
  | .local _ .vmem, ⟨11, _⟩ => ⟨S1x1x2560, .f32⟩
  | .local _ .vmem, ⟨12, _⟩ => ⟨S1x128x2560, .fp8e4m3⟩
  | .local _ .vmem, ⟨13, _⟩ => ⟨S1x128x2560, .fp8e4m3⟩
  | .local _ .vmem, ⟨14, _⟩ => ⟨S1x1x2560, .f32⟩
  | .local _ .vmem, ⟨15, _⟩ => ⟨S1x1x2560, .f32⟩
  | _, _ => ⟨S4736x40x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_cst : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24_0 : Ref sig .tc := ⟨.hbm, 35, rfl⟩
abbrev main_v24_1 : Ref sig .tc := ⟨.hbm, 36, rfl⟩
abbrev main_v24_2 : Ref sig .tc := ⟨.hbm, 37, rfl⟩
abbrev main_v24_3 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨1, ![74], ![false]⟩

@[reducible] def k0_t1_loop : Scf.Loop 32 :=
  let c0_i32 : BitVec 32 := 0#32
  let c2_i32 : BitVec 32 := 2#32
  let v0 : BitVec 32 := Scalar.addi c0_i32 c2_i32
  let c1_i32 : BitVec 32 := 1#32
  ⟨c0_i32, v0, c1_i32⟩
def k0_mult1 (k0_t1 : Fin k0_t1_loop.trips) : BitVec 32 :=
  let c0_i32 : BitVec 32 := 0#32
  let c1_i32 : BitVec 32 := 1#32
  let arg10 : BitVec 32 := Scf.iv c0_i32 c1_i32 k0_t1
  let c1280_i32 : BitVec 32 := 1280#32
  let v1 : BitVec 32 := Scalar.muli arg10 c1280_i32
  v1
def k0_mult2 (k0_t1 : Fin k0_t1_loop.trips) : BitVec 32 :=
  let c0_i32 : BitVec 32 := 0#32
  let c1_i32 : BitVec 32 := 1#32
  let arg10 : BitVec 32 := Scf.iv c0_i32 c1_i32 k0_t1
  let c1280_i32 : BitVec 32 := 1280#32
  let v1 : BitVec 32 := Scalar.muli arg10 c1280_i32
  let v2 : BitVec 32 := v1
  let c0_i32_1 : BitVec 32 := 0#32
  let v3 : BitVec 32 := Scalar.addi v2 c0_i32_1
  v3
def k0_off1 (k0_t1 : Fin k0_t1_loop.trips) (c0_i32_1 : BitVec 32) : Fin 2 → Nat :=
  let c0_i32 : BitVec 32 := 0#32
  let c1_i32 : BitVec 32 := 1#32
  let arg10 : BitVec 32 := Scf.iv c0_i32 c1_i32 k0_t1
  let c1280_i32 : BitVec 32 := 1280#32
  let v1 : BitVec 32 := Scalar.muli arg10 c1280_i32
  let v2 : BitVec 32 := v1
  let v3 : BitVec 32 := Scalar.addi v2 c0_i32_1
  let v4 : BitVec 32 := v3
  let v5 : Index := Scalar.indexCast v4
  let c0 : Index := 0#32
  ![v5.toNat, 0]
def k0_off2 (k0_t1 : Fin k0_t1_loop.trips) (c0_i32_1 : BitVec 32) : Fin 3 → Nat :=
  let c0_10 : Index := 0#32
  let c0_11 : Index := 0#32
  let c0_i32 : BitVec 32 := 0#32
  let c1_i32 : BitVec 32 := 1#32
  let arg10 : BitVec 32 := Scf.iv c0_i32 c1_i32 k0_t1
  let c1280_i32 : BitVec 32 := 1280#32
  let v1 : BitVec 32 := Scalar.muli arg10 c1280_i32
  let v2 : BitVec 32 := v1
  let v3 : BitVec 32 := Scalar.addi v2 c0_i32_1
  let v4 : BitVec 32 := v3
  let v40 : Index := Scalar.indexCast v4
  ![0, 0, v40.toNat]
def k0_off3 (k0_t1 : Fin k0_t1_loop.trips) (c0_i32_1 : BitVec 32) : Fin 3 → Nat :=
  let c0_12 : Index := 0#32
  let c0_13 : Index := 0#32
  let c0_i32 : BitVec 32 := 0#32
  let c1_i32 : BitVec 32 := 1#32
  let arg10 : BitVec 32 := Scf.iv c0_i32 c1_i32 k0_t1
  let c1280_i32 : BitVec 32 := 1280#32
  let v1 : BitVec 32 := Scalar.muli arg10 c1280_i32
  let v2 : BitVec 32 := v1
  let v3 : BitVec 32 := Scalar.addi v2 c0_i32_1
  let v4 : BitVec 32 := v3
  let v43 : Index := Scalar.indexCast v4
  ![0, 0, v43.toNat]
def k0_mult3 (k0_t1 : Fin k0_t1_loop.trips) : BitVec 32 :=
  let c0_i32 : BitVec 32 := 0#32
  let c1_i32 : BitVec 32 := 1#32
  let arg10 : BitVec 32 := Scf.iv c0_i32 c1_i32 k0_t1
  let c1280_i32 : BitVec 32 := 1280#32
  let v1 : BitVec 32 := Scalar.muli arg10 c1280_i32
  let v2 : BitVec 32 := v1
  let c256_i32 : BitVec 32 := 256#32
  let v148 : BitVec 32 := Scalar.addi v2 c256_i32
  v148
def k0_mult4 (k0_t1 : Fin k0_t1_loop.trips) : BitVec 32 :=
  let c0_i32 : BitVec 32 := 0#32
  let c1_i32 : BitVec 32 := 1#32
  let arg10 : BitVec 32 := Scf.iv c0_i32 c1_i32 k0_t1
  let c1280_i32 : BitVec 32 := 1280#32
  let v1 : BitVec 32 := Scalar.muli arg10 c1280_i32
  let v2 : BitVec 32 := v1
  let c512_i32 : BitVec 32 := 512#32
  let v293 : BitVec 32 := Scalar.addi v2 c512_i32
  v293
def k0_mult5 (k0_t1 : Fin k0_t1_loop.trips) : BitVec 32 :=
  let c0_i32 : BitVec 32 := 0#32
  let c1_i32 : BitVec 32 := 1#32
  let arg10 : BitVec 32 := Scf.iv c0_i32 c1_i32 k0_t1
  let c1280_i32 : BitVec 32 := 1280#32
  let v1 : BitVec 32 := Scalar.muli arg10 c1280_i32
  let v2 : BitVec 32 := v1
  let c768_i32 : BitVec 32 := 768#32
  let v438 : BitVec 32 := Scalar.addi v2 c768_i32
  v438
def k0_mult6 (k0_t1 : Fin k0_t1_loop.trips) : BitVec 32 :=
  let c0_i32 : BitVec 32 := 0#32
  let c1_i32 : BitVec 32 := 1#32
  let arg10 : BitVec 32 := Scf.iv c0_i32 c1_i32 k0_t1
  let c1280_i32 : BitVec 32 := 1280#32
  let v1 : BitVec 32 := Scalar.muli arg10 c1280_i32
  let v2 : BitVec 32 := v1
  let c1024_i32 : BitVec 32 := 1024#32
  let v583 : BitVec 32 := Scalar.addi v2 c1024_i32
  v583
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2560x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x128x2560 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x2560 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S256x256 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S5x128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x128x2560 .fp8e4m3 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x2560 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x128x2560 .fp8e4m3 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x1x2560 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== DenseRefIdeal.lean ====
abbrev S4736x40x128 : Shape := ⟨3, ![4736, 40, 128]⟩
abbrev S4736x40 : Shape := ⟨2, ![4736, 40]⟩
abbrev S128x128 : Shape := ⟨2, ![128, 128]⟩
abbrev S128 : Shape := ⟨1, ![128]⟩
abbrev S1x254 : Shape := ⟨2, ![1, 254]⟩
abbrev S189440x128 : Shape := ⟨2, ![189440, 128]⟩
abbrev S189440x1 : Shape := ⟨2, ![189440, 1]⟩
abbrev S189440 : Shape := ⟨1, ![189440]⟩
abbrev S189440x254 : Shape := ⟨2, ![189440, 254]⟩
abbrev S1x128 : Shape := ⟨2, ![1, 128]⟩

abbrev nBuf : Space → Nat
  | .hbm => 14
  | .vmem => 14
  | .smem => 0
  | _ => 0

abbrev bufTy : (tb : Table) → Fin (tcTables nBuf tb) → BufTy
  | .hbm, ⟨0, _⟩ => ⟨S4736x40x128, .f32⟩
  | .hbm, ⟨1, _⟩ => ⟨S4736x40x128, .fp8e4m3⟩
  | .hbm, ⟨2, _⟩ => ⟨S4736x40, .f32⟩
  | .hbm, ⟨3, _⟩ => ⟨S128x128, .fp8e4m3⟩
  | .hbm, ⟨4, _⟩ => ⟨S128, .f32⟩
  | .hbm, ⟨5, _⟩ => ⟨S128x128, .fp8e4m3⟩
  | .hbm, ⟨6, _⟩ => ⟨S128, .f32⟩
  | .hbm, ⟨7, _⟩ => ⟨S128, .f32⟩
  | .hbm, ⟨8, _⟩ => ⟨S128, .f32⟩
  | .hbm, ⟨9, _⟩ => ⟨S128, .f32⟩
  | .hbm, ⟨10, _⟩ => ⟨S4736x40x128, .fp8e4m3⟩
  | .hbm, ⟨11, _⟩ => ⟨S4736x40, .f32⟩
  | .hbm, ⟨12, _⟩ => ⟨S4736x40x128, .fp8e4m3⟩
  | .hbm, ⟨13, _⟩ => ⟨S4736x40, .f32⟩
  | .local _ .vmem, ⟨0, _⟩ => ⟨S4736x40x128, .f32⟩
  | .local _ .vmem, ⟨1, _⟩ => ⟨S4736x40x128, .fp8e4m3⟩
  | .local _ .vmem, ⟨2, _⟩ => ⟨S4736x40, .f32⟩
  | .local _ .vmem, ⟨3, _⟩ => ⟨S128x128, .fp8e4m3⟩
  | .local _ .vmem, ⟨4, _⟩ => ⟨S128, .f32⟩
  | .local _ .vmem, ⟨5, _⟩ => ⟨S128x128, .fp8e4m3⟩
  | .local _ .vmem, ⟨6, _⟩ => ⟨S128, .f32⟩
  | .local _ .vmem, ⟨7, _⟩ => ⟨S128, .f32⟩
  | .local _ .vmem, ⟨8, _⟩ => ⟨S128, .f32⟩
  | .local _ .vmem, ⟨9, _⟩ => ⟨S128, .f32⟩
  | .local _ .vmem, ⟨10, _⟩ => ⟨S4736x40x128, .fp8e4m3⟩
  | .local _ .vmem, ⟨11, _⟩ => ⟨S4736x40, .f32⟩
  | .local _ .vmem, ⟨12, _⟩ => ⟨S4736x40x128, .fp8e4m3⟩
  | .local _ .vmem, ⟨13, _⟩ => ⟨S4736x40, .f32⟩
  | _, _ => ⟨S4736x40x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0_0 : Ref sig .tc := ⟨.hbm, 10, rfl⟩
abbrev main_v0_1 : Ref sig .tc := ⟨.hbm, 11, rfl⟩
abbrev main_v0_2 : Ref sig .tc := ⟨.hbm, 12, rfl⟩
abbrev main_v0_3 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13

abbrev nD : Nat := 1
abbrev τ : Topo := Topo.v7x

variable {F : FTy → Type} [FloatOps F]

abbrev grid0 : Pipeline.Grid := .none

abbrev stage0_0 : Fin 1 → Memref sig .tc .vmem S4736x40x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4736x40x128 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4736x40 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S128x128 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S128x128 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S4736x40x128 .fp8e4m3 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S4736x40 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S4736x40x128 .fp8e4m3 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S4736x40 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
-- ==== Query.lean ====
abbrev S40 : Shape := ⟨1, ![40]⟩
abbrev S438x128 : Shape := ⟨2, ![438, 128]⟩
abbrev S40x128 : Shape := ⟨2, ![40, 128]⟩
abbrev S40x1 : Shape := ⟨2, ![40, 1]⟩
abbrev S1 : Shape := ⟨1, ![1]⟩
abbrev S1x128 : Shape := ⟨2, ![1, 128]⟩
abbrev S40x254 : Shape := ⟨2, ![40, 254]⟩

abbrev nBuf : Space → Nat
  | .hbm => 5
  | .vmem => 4
  | .smem => 1
  | _ => 0

abbrev bufTy : (tb : Table) → Fin (tcTables nBuf tb) → BufTy
  | .hbm, ⟨0, _⟩ => ⟨S40, .i32⟩
  | .hbm, ⟨1, _⟩ => ⟨S438x128, .f32⟩
  | .hbm, ⟨2, _⟩ => ⟨S40x128, .f32⟩
  | .hbm, ⟨3, _⟩ => ⟨S40x128, .fp8e4m3⟩
  | .hbm, ⟨4, _⟩ => ⟨S40x1, .f32⟩
  | .local _ .vmem, ⟨0, _⟩ => ⟨S438x128, .f32⟩
  | .local _ .vmem, ⟨1, _⟩ => ⟨S40x128, .f32⟩
  | .local _ .vmem, ⟨2, _⟩ => ⟨S40x128, .fp8e4m3⟩
  | .local _ .vmem, ⟨3, _⟩ => ⟨S40x1, .f32⟩
  | .local _ .smem, ⟨0, _⟩ => ⟨S40, .i32⟩
  | _, _ => ⟨S40, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .smem, ⟨0, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev cc0_stg1_0 : Ref sig .tc := ⟨.vmem, 0, rfl⟩
abbrev cc0_stg2_0 : Ref sig .tc := ⟨.vmem, 1, rfl⟩
abbrev cc0_stg3_0 : Ref sig .tc := ⟨.vmem, 2, rfl⟩
abbrev cc0_stg4_0 : Ref sig .tc := ⟨.vmem, 3, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

@[reducible] def k0_t1_loop : Scf.Loop 32 :=
  let c0_i32 : BitVec 32 := 0#32
  let c40_i32 : BitVec 32 := 40#32
  let v0 : BitVec 32 := Scalar.addi c0_i32 c40_i32
  let c1_i32 : BitVec 32 := 1#32
  ⟨c0_i32, v0, c1_i32⟩
def k0_off1 (k0_t1 : Fin k0_t1_loop.trips) : Fin 1 → Nat :=
  let c0_i32 : BitVec 32 := 0#32
  let c1_i32 : BitVec 32 := 1#32
  let arg5 : BitVec 32 := Scf.iv c0_i32 c1_i32 k0_t1
  let v36 : Index := Scalar.indexCast arg5
  ![v36.toNat]
def k0_off2 (v37 : BitVec 32) : Fin 2 → Nat :=
  let v38 : Index := Scalar.indexCast v37
  let c0_14 : Index := 0#32
  ![v38.toNat, 0]

def k0_chk1 (v37 : BitVec 32) : Prop :=
  (∀ a, (k0_off2 v37) a + S1x128.size a ≤ S438x128.size a)
theorem k0_off2_inb : ∀ (v37 : BitVec 32) (k0_hw1 : k0_chk1 v37), ∀ a, (k0_off2 v37) a + S1x128.size a ≤ S438x128.size a := fun v37 k0_hw1 => k0_hw1

def k0_off3 (k0_t1 : Fin k0_t1_loop.trips) : Fin 2 → Nat :=
  let c0_i32 : BitVec 32 := 0#32
  let c1_i32 : BitVec 32 := 1#32
  let arg5 : BitVec 32 := Scf.iv c0_i32 c1_i32 k0_t1
  let v40 : Index := Scalar.indexCast arg5
  let c0_15 : Index := 0#32
  ![v40.toNat, 0]
abbrev stage0_0 : Fin 1 → Memref sig .tc .smem S40 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S438x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S40x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S40x128 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S40x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== QueryRefIdeal.lean ====
abbrev S40 : Shape := ⟨1, ![40]⟩
abbrev S438x128 : Shape := ⟨2, ![438, 128]⟩
abbrev S_ : Shape := ⟨0, ![]⟩
abbrev S40x1 : Shape := ⟨2, ![40, 1]⟩
abbrev S40x128 : Shape := ⟨2, ![40, 128]⟩
abbrev S1x254 : Shape := ⟨2, ![1, 254]⟩
abbrev S40x254 : Shape := ⟨2, ![40, 254]⟩

abbrev nBuf : Space → Nat
  | .hbm => 14
  | .vmem => 4
  | .smem => 0
  | _ => 0

abbrev bufTy : (tb : Table) → Fin (tcTables nBuf tb) → BufTy
  | .hbm, ⟨0, _⟩ => ⟨S40, .i32⟩
  | .hbm, ⟨1, _⟩ => ⟨S438x128, .f32⟩
  | .hbm, ⟨2, _⟩ => ⟨S_, .i32⟩
  | .hbm, ⟨3, _⟩ => ⟨S40, .i32⟩
  | .hbm, ⟨4, _⟩ => ⟨S40, .i1⟩
  | .hbm, ⟨5, _⟩ => ⟨S_, .i32⟩
  | .hbm, ⟨6, _⟩ => ⟨S40, .i32⟩
  | .hbm, ⟨7, _⟩ => ⟨S40, .i32⟩
  | .hbm, ⟨8, _⟩ => ⟨S40, .i32⟩
  | .hbm, ⟨9, _⟩ => ⟨S40x1, .i32⟩
  | .hbm, ⟨10, _⟩ => ⟨S40x128, .f32⟩
  | .hbm, ⟨11, _⟩ => ⟨S40x128, .f32⟩
  | .hbm, ⟨12, _⟩ => ⟨S40x128, .fp8e4m3⟩
  | .hbm, ⟨13, _⟩ => ⟨S40x1, .f32⟩
  | .local _ .vmem, ⟨0, _⟩ => ⟨S40x128, .f32⟩
  | .local _ .vmem, ⟨1, _⟩ => ⟨S40x128, .f32⟩
  | .local _ .vmem, ⟨2, _⟩ => ⟨S40x128, .fp8e4m3⟩
  | .local _ .vmem, ⟨3, _⟩ => ⟨S40x1, .f32⟩
  | _, _ => ⟨S40, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_v1 : Ref sig .tc := ⟨.hbm, 4, rfl⟩
abbrev main_c_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7_0 : Ref sig .tc := ⟨.hbm, 11, rfl⟩
abbrev main_v7_1 : Ref sig .tc := ⟨.hbm, 12, rfl⟩
abbrev main_v7_2 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S40x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S40x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S40x128 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S40x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== Proof.MlpBlock.lean ====
/-
  What the read-out kernel's body leaves in its two written buffers at one grid point, index by index:
  the output block (`out_A`, `out_B`) and the carried query part (`sout_A`).
-/
module

public import proofs.«01_k».proof.Proof.Gen.MlpIdeal.Frame
public import Idealize.ShloMosaic.Lib.Pipeline.Value
public import Idealize.ShloMosaic.Lib.Pointwise

@[expose] public section

set_option maxRecDepth 16384

noncomputable section

namespace Cert.MlpIdeal.Value

open Cert.MlpIdeal Cert.MlpIdeal.Gen Idealize.ShloMosaic Idealize.ShloMosaic.TcCoe Idealize.SL.Sem
open Idealize.ShloMosaic.Pipeline (Dat)

/-- One lane of the read-out: the three weight parts times the codes, the scale, the query part,
    the clamp at zero, and the sum weighted by `v`. -/
def rowval (w : Vec Ideal S256x384 .bf16) (c : Fin 128 → EReal) (s : EReal) (z v : Fin 256 → EReal) : EReal :=
  ∑ e : Fin 256, max ((∑ k : Fin 384, w (ix2 e k) * c ⟨k.val % 128, Nat.mod_lt _ (by decide)⟩) * s + z e) 0 * v e

/-- A stack of three copies of one column, read at row `k`, is the column at `k % 128`. -/
theorem cat3 (c : Vec Ideal S1x128x256 .fp8e4m3) (x : Fin 256) (k : Fin 384) (h1 : k.val < 128 → k.val < 128) (h2 : k.val - 128 < 128 → k.val - 128 < 128)
    (h3 : ¬ k.val - 128 < 128 → k.val - 128 - 128 < 128) :
    (if h : k.val < 128 then c (ix3 0 ⟨k.val, h1 h⟩ x)
      else if h : k.val - 128 < 128 then c (ix3 0 ⟨k.val - 128, h2 h⟩ x)
      else c (ix3 0 ⟨k.val - 128 - 128, h3 h⟩ x)) = c (ix3 0 ⟨k.val % 128, Nat.mod_lt _ (by decide)⟩ x) := by
  have := k.isLt
  split
  · congr 2; apply Fin.ext; show k.val = k.val % 128; omega
  split
  · congr 2; apply Fin.ext; show k.val - 128 = k.val % 128; omega
  · congr 2; apply Fin.ext; show k.val - 128 - 128 = k.val % 128; omega

theorem pay9_apply (v4 v10 v13 v18 v22) (x : S1x1x256.Idx) : k0_pay9 (F := Ideal) v4 v10 v13 v18 v22 x
    = rowval v13 (fun d => v10 (ix3 0 d (x 2))) (v18 (ix3 0 0 (x 2))) (fun e => v22 (ix3 0 e (x 2))) (fun e => v4 (ix2 e (x 2))) := by
  idx_vars x
  unfold rowval
  pointwise [k0_pay9]
  refine Finset.sum_congr rfl fun e _ => ?_
  congr 4

theorem pay5_apply (v3 v10 v13 v18 v22) (x : S1x1x256.Idx) : k0_pay5 (F := Ideal) v3 v10 v13 v18 v22 x
    = rowval v13 (fun d => v10 (ix3 0 d (x 2))) (v18 (ix3 0 0 (x 2))) (fun e => v22 (ix3 0 e (x 2))) (fun e => v3 (ix2 e (x 2))) := by
  idx_vars x
  unfold rowval
  pointwise [k0_pay5, k0_pay4]
  refine Finset.sum_congr rfl fun e _ => ?_
  congr 4

theorem pay11_apply (v4 v10 v13 v18 v22) (x : S1x1x256.Idx) : k0_pay11 (F := Ideal) v4 (k0_pay10 v10) v13 v18 v22 x
    = rowval v13 (fun d => v10 (ix3 0 d (x 2))) (v18 (ix3 0 0 (x 2))) (fun e => v22 (ix3 0 e (x 2))) (fun e => v4 (ix2 e (x 2))) := by
  idx_vars x
  unfold rowval
  pointwise [k0_pay11, k0_pay10]
  refine Finset.sum_congr rfl fun e _ => ?_
  congr 4

theorem pay13_apply (v4 v10 v13 v18 v22) (x : S1x1x256.Idx) : k0_pay13 (F := Ideal) v4 (k0_pay12 v10 v13 v18) v22 x
    = rowval v13 (fun d => v10 (ix3 0 d (x 2))) (v18 (ix3 0 0 (x 2))) (fun e => v22 (ix3 0 e (x 2))) (fun e => v4 (ix2 e (x 2))) := by
  idx_vars x
  unfold rowval
  pointwise [k0_pay13, k0_pay12]
  refine Finset.sum_congr rfl fun e _ => ?_
  congr 4

theorem pay14_apply (v4 v10 v13 v18 v22) (x : S1x1x256.Idx) : k0_pay14 (F := Ideal) v4 v10 v13 v18 v22 x
    = rowval v13 (fun d => v10 (ix3 0 d (x 2))) (v18 (ix3 0 0 (x 2))) (fun e => v22 (ix3 0 e (x 2))) (fun e => v4 (ix2 e (x 2))) := by
  idx_vars x
  unfold rowval
  pointwise [k0_pay14]
  refine Finset.sum_congr rfl fun e _ => ?_
  congr 4

theorem pay4_eq (v3 : Vec Ideal S256x256 .f32) : k0_pay4 v3 = v3 := shapeCast_self ..

/-- The output block's closed form: lane `l` of a block of 2560 is one read-out, its query part in
    column tile `l % 1280 / 256`. -/
def blockval (A1 : Vec Ideal S1x128x2560 .fp8e4m3) (A2 : Vec Ideal S1x1x2560 .f32) (w : Vec Ideal S256x384 .bf16) (Z : Vec Ideal S5x256x256 .f32)
    (v : Vec Ideal S256x256 .f32) : Vec Ideal S1x1x2560 .f32 := fun y =>
  have hl : (y 2).val < 2560 := (y 2).isLt
  rowval w (fun d => A1 (ix3 0 d (y 2))) (A2 (ix3 0 0 (y 2)))
    (fun e => Z (ix3 ⟨(y 2).val % 1280 / 256, by omega⟩ e ⟨(y 2).val % 256, Nat.mod_lt _ (by decide)⟩))
    (fun e => v (ix2 e ⟨(y 2).val % 256, Nat.mod_lt _ (by decide)⟩))

theorem hz2 : (![0, 0] : Fin 2 → Nat) = fun _ => 0 := funext fun a => by fin_cases a <;> rfl

/-- A tile's payload, its loads read at their places in the blocks, is the block's closed form at the tile's lanes. -/
theorem tile_eq (A1 : Vec Ideal S1x128x2560 .fp8e4m3) (A2 : Vec Ideal S1x1x2560 .f32) (w : Vec Ideal S256x384 .bf16) (Z : Vec Ideal S5x256x256 .f32)
    (v : Vec Ideal S256x256 .f32) (k : Nat) (hk : k < 2) (j : Nat) (hj : j < 5) (off1 off2 off9 : Fin 3 → Nat)
    (h1 : off1 = ![0, 0, 1280 * k + 256 * j]) (h2 : off2 = ![0, 0, 1280 * k + 256 * j]) (h9 : off9 = ![j, 0, 0])
    (i1 : ∀ a, off1 a + S1x128x256.size a ≤ S1x128x2560.size a) (i2 : ∀ a, off2 a + S1x1x256.size a ≤ S1x1x2560.size a)
    (i2' : ∀ a, off2 a + S1x1x256.size a ≤ S1x1x2560.size a)
    (i9 : ∀ a, off9 a + S1x256x256.size a ≤ S5x256x256.size a) (iw : ∀ a, (![0, 0] : Fin 2 → Nat) a + S256x384.size a ≤ S256x384.size a) (x : S1x1x256.Idx) :
    rowval (View.ld w (Rect.unit (s := S256x384) ![0, 0] S256x384.size iw))
      (fun d => View.ld A1 (Rect.unit (s := S1x128x2560) off1 S1x128x256.size i1) (ix3 0 d (x 2)))
      (View.ld A2 (Rect.unit (s := S1x1x2560) off2 S1x1x256.size i2) (ix3 0 0 (x 2)))
      (fun e => View.ld Z (Rect.unit (s := S5x256x256) off9 S1x256x256.size i9) (ix3 0 e (x 2)))
      (fun e => v (ix2 e (x 2)))
    = blockval A1 A2 w Z v ((Rect.unit (s := S1x1x2560) off2 S1x1x256.size i2').emb x) := by
  subst h1 h2 h9
  idx_vars x
  unfold blockval
  have hy : (((Rect.unit (s := S1x1x2560) ![0, 0, 1280 * k + 256 * j] S1x1x256.size i2').emb (ix3 x0 x1 x2)) 2).val = 1280 * k + 256 * j + x2.val := by
    show 1280 * k + 256 * j + 1 * x2.val = _; omega
  rw [View.ld_unit_zero (S := S256x384) hz2]
  have e0 : x2.val < 256 := x2.isLt
  congr 1
  · funext d
    refine congrArg A1 ?_
    funext a; apply Fin.ext
    match a with
    | ⟨0, _⟩ => rfl
    | ⟨1, _⟩ => show 0 + 1 * d.val = d.val; omega
    | ⟨2, _⟩ => rfl
  · refine congrArg A2 ?_
    funext a; apply Fin.ext
    match a with
    | ⟨0, _⟩ => rfl
    | ⟨1, _⟩ => rfl
    | ⟨2, _⟩ => rfl
  · funext e
    refine congrArg Z ?_
    funext a; apply Fin.ext
    match a with
    | ⟨0, _⟩ => show j + 1 * 0 = (1280 * k + 256 * j + 1 * x2.val) % 1280 / 256; omega
    | ⟨1, _⟩ => show 0 + 1 * e.val = e.val; omega
    | ⟨2, _⟩ => show 0 + 1 * x2.val = (1280 * k + 256 * j + 1 * x2.val) % 256; omega
  · funext e
    refine congrArg v ?_
    funext a; apply Fin.ext
    match a with
    | ⟨0, _⟩ => rfl
    | ⟨1, _⟩ => show x2.val = (1280 * k + 256 * j + 1 * x2.val) % 256; omega

set_option maxHeartbeats 2000000 in
/-- What one trip stores is the block's closed form at the lanes it stores to. -/
theorem trip_pieces (𝒱 : Variants) (c : Dev nD) (bd : Option 𝒱.V) (i : grid0.Coords) (arg1 : Memref sig .tc .vmem S1x128x2560 .fp8e4m3) (harg1 : arg1.IsWhole) (arg2 : Memref sig .tc .vmem S1x1x2560 .f32) (harg2 : arg2.IsWhole) (arg3 : Memref sig .tc .vmem S256x384 .bf16) (harg3 : arg3.IsWhole) (arg4 : Memref sig .tc .vmem S5x128x256 .f32) (harg4 : arg4.IsWhole) (arg5 : Memref sig .tc .vmem S256x128 .f32) (harg5 : arg5.IsWhole) (arg6 : Memref sig .tc .vmem S256x256 .f32) (harg6 : arg6.IsWhole) (arg7 : Memref sig .tc .vmem S256x256 .f32) (harg7 : arg7.IsWhole) (arg8 : Memref sig .tc .vmem S1x1x2560 .f32) (harg8 : arg8.IsWhole) (arg9 : Memref sig .tc .vmem S5x256x256 .f32) (harg9 : arg9.IsWhole) (v3 : Vec Ideal S256x256 .f32)
    (X_arg1 : BufTy.Contents (Elt Ideal) arg1.view.ty) (X_arg2 : BufTy.Contents (Elt Ideal) arg2.view.ty) (X_arg3 : BufTy.Contents (Elt Ideal) arg3.view.ty) (X_arg9 : BufTy.Contents (Elt Ideal) arg9.view.ty) (k : Fin k0_t1_loop.trips) (pc) (hpc : pc ∈ tripL_k0_t1 (F := Ideal) 𝒱 c bd i arg1 harg1 arg2 harg2 arg3 harg3 arg4 harg4 arg5 harg5 arg6 harg6 arg7 harg7 arg8 harg8 arg9 harg9 v3 X_arg1 X_arg2 X_arg3 X_arg9 k) :
    ∀ x, pc.2 x = blockval (arg1.view.read _ X_arg1) (arg2.view.read _ X_arg2) (arg3.view.read _ X_arg3) (arg9.view.read _ X_arg9) v3 (pc.1.emb x) := by
  have hk : k.val < 2 := Nat.lt_of_lt_of_le k.isLt k0_t1_abs.2.1
  unfold tripL_k0_t1 trip_k0_t1 at hpc
  dsimp only at hpc
  simp only [List.mem_cons, List.not_mem_nil, or_false, pay4_eq] at hpc
  rcases hpc with rfl | rfl | rfl | rfl | rfl
  · intro x
    refine (pay5_apply ..).trans ?_
    simp only [View.readAt_eq_ld, pay4_eq]
    exact tile_eq _ _ _ _ _ k.val hk 4 (by decide) _ _ _ (k0_off1_eq k 4) (k0_off2_eq k 4) rfl _ _ _ _ _ x
  · intro x
    refine (pay14_apply ..).trans ?_
    simp only [View.readAt_eq_ld, pay4_eq]
    exact tile_eq _ _ _ _ _ k.val hk 3 (by decide) _ _ _ (k0_off1_eq k 3) (k0_off2_eq k 3) rfl _ _ _ _ _ x
  · intro x
    refine (pay13_apply ..).trans ?_
    simp only [View.readAt_eq_ld, pay4_eq]
    exact tile_eq _ _ _ _ _ k.val hk 2 (by decide) _ _ _ (k0_off1_eq k 2) (k0_off2_eq k 2) rfl _ _ _ _ _ x
  · intro x
    refine (pay11_apply ..).trans ?_
    simp only [View.readAt_eq_ld, pay4_eq]
    exact tile_eq _ _ _ _ _ k.val hk 1 (by decide) _ _ _ (k0_off1_eq k 1) (k0_off2_eq k 1) rfl _ _ _ _ _ x
  · intro x
    refine (pay9_apply ..).trans ?_
    simp only [View.readAt_eq_ld, pay4_eq]
    exact tile_eq _ _ _ _ _ k.val hk 0 (by decide) _ _ _ (k0_off1_eq k 0) (k0_off2_eq k 0) rfl _ _ _ _ _ x

/-- The query part: `W_q` times the tiled query plus the bias. -/
def qval (x3 : Vec Ideal S5x128x256 .f32) (x4 : Vec Ideal S256x128 .f32) (x5 : Vec Ideal S256x256 .f32) : Vec Ideal S5x256x256 .f32 := fun y =>
  (∑ d : Fin 128, x4 (ix2 (y 1) d) * x3 (ix3 (y 0) d (y 2))) + x5 (ix2 (y 1) (y 2))

theorem loop_pieces (𝒱 : Variants) (c : Dev nD) (bd : Option 𝒱.V) (i : grid0.Coords) (arg1 : Memref sig .tc .vmem S1x128x2560 .fp8e4m3) (harg1 : arg1.IsWhole) (arg2 : Memref sig .tc .vmem S1x1x2560 .f32) (harg2 : arg2.IsWhole) (arg3 : Memref sig .tc .vmem S256x384 .bf16) (harg3 : arg3.IsWhole) (arg4 : Memref sig .tc .vmem S5x128x256 .f32) (harg4 : arg4.IsWhole) (arg5 : Memref sig .tc .vmem S256x128 .f32) (harg5 : arg5.IsWhole) (arg6 : Memref sig .tc .vmem S256x256 .f32) (harg6 : arg6.IsWhole) (arg7 : Memref sig .tc .vmem S256x256 .f32) (harg7 : arg7.IsWhole) (arg8 : Memref sig .tc .vmem S1x1x2560 .f32) (harg8 : arg8.IsWhole) (arg9 : Memref sig .tc .vmem S5x256x256 .f32) (harg9 : arg9.IsWhole) (v3 : Vec Ideal S256x256 .f32)
    (X_arg1 : BufTy.Contents (Elt Ideal) arg1.view.ty) (X_arg2 : BufTy.Contents (Elt Ideal) arg2.view.ty) (X_arg3 : BufTy.Contents (Elt Ideal) arg3.view.ty) (X_arg9 : BufTy.Contents (Elt Ideal) arg9.view.ty)
    {A1 A2 A3 A9 v} (n : Nat) (h1 : arg1.view.read _ X_arg1 = A1) (h2 : arg2.view.read _ X_arg2 = A2) (h3 : arg3.view.read _ X_arg3 = A3) (h9 : arg9.view.read _ X_arg9 = A9) (hv : v3 = v) :
    ∀ pc ∈ pb_k0_t1 (F := Ideal) 𝒱 c bd i arg1 harg1 arg2 harg2 arg3 harg3 arg4 harg4 arg5 harg5 arg6 harg6 arg7 harg7 arg8 harg8 arg9 harg9 v3 X_arg1 X_arg2 X_arg3 X_arg9 n, ∀ x, pc.2 x = blockval A1 A2 A3 A9 v (pc.1.emb x) := by
  subst h1 h2 h3 h9 hv
  induction n with
  | zero => intro pc hpc; exact absurd hpc List.not_mem_nil
  | succ n ih =>
    intro pc hpc
    rw [pb_k0_t1.eq_2] at hpc
    unfold pb_k0_t1Step at hpc
    split at hpc
    · rcases List.mem_append.mp hpc with h | h
      · exact trip_pieces _ _ _ _ arg1 harg1 arg2 harg2 arg3 harg3 arg4 harg4 arg5 harg5 arg6 harg6 arg7 harg7 arg8 harg8 arg9 harg9 _ _ _ _ _ _ pc h
      · exact ih pc h
    · exact ih pc hpc

/-- Case B (a later point): the block reads the carried query part. -/
theorem out_B (c : Dev nD) (i : grid0.Coords) (arg1 : Memref sig .tc .vmem S1x128x2560 .fp8e4m3) (harg1 : arg1.IsWhole) (arg2 : Memref sig .tc .vmem S1x1x2560 .f32) (harg2 : arg2.IsWhole) (arg3 : Memref sig .tc .vmem S256x384 .bf16) (harg3 : arg3.IsWhole) (arg4 : Memref sig .tc .vmem S5x128x256 .f32) (harg4 : arg4.IsWhole) (arg5 : Memref sig .tc .vmem S256x128 .f32) (harg5 : arg5.IsWhole) (arg6 : Memref sig .tc .vmem S256x256 .f32) (harg6 : arg6.IsWhole) (arg7 : Memref sig .tc .vmem S256x256 .f32) (harg7 : arg7.IsWhole) (arg8 : Memref sig .tc .vmem S1x1x2560 .f32) (harg8 : arg8.IsWhole) (arg9 : Memref sig .tc .vmem S5x256x256 .f32) (harg9 : arg9.IsWhole) (hc0 : ¬cond0_0 i) (x0 : Vec Ideal S1x128x2560 .fp8e4m3) (x1 : Vec Ideal S1x1x2560 .f32) (x2 : Vec Ideal S256x384 .bf16) (x3 : Vec Ideal S5x128x256 .f32) (x4 : Vec Ideal S256x128 .f32) (x5 : Vec Ideal S256x256 .f32) (x6 : Vec Ideal S256x256 .f32) (xs0 : Vec Ideal S5x256x256 .f32) :
    out0_B_7 c i arg1 harg1 arg2 harg2 arg3 harg3 arg4 harg4 arg5 harg5 arg6 harg6 arg7 harg7 arg8 harg8 arg9 harg9 hc0 x0 x1 x2 x3 x4 x5 x6 xs0 = blockval x0 x1 x2 xs0 x6 := by
  unfold out0_B_7
  rw [View.read_writes_eq_canon _ _ _ (cover0_B_7 c i arg1 harg1 arg2 harg2 arg3 harg3 arg4 harg4 arg5 harg5 arg6 harg6 arg7 harg7 arg8 harg8 arg9 harg9 hc0 x0 x1 x2 x3 x4 x5 x6 xs0)]
  funext y
  refine View.canon_apply_of_pieces _ _ ?_ y (cover0_B_7 c i arg1 harg1 arg2 harg2 arg3 harg3 arg4 harg4 arg5 harg5 arg6 harg6 arg7 harg7 arg8 harg8 arg9 harg9 hc0 x0 x1 x2 x3 x4 x5 x6 xs0 y)
  unfold kernelRun0_B
  dsimp only
  refine loop_pieces _ _ _ _ arg1 harg1 arg2 harg2 arg3 harg3 arg4 harg4 arg5 harg5 arg6 harg6 arg7 harg7 arg8 harg8 arg9 harg9 _ _ _ _ _ _ ?_ ?_ ?_ ?_ ?_
  all_goals first | exact Memref.IsWhole.read_unread _ _ | exact (View.readAt_eq_ld _ _ _).trans ((congrArg (View.ld · _) (Memref.IsWhole.read_unread _ _)).trans (View.ld_unit_zero (S := S256x256) hz2 _ _))

theorem qpay6_apply (a b d) (x : S1x256x256.Idx) : k0_pay6 (F := Ideal) a b d x
    = (∑ t : Fin 128, a (ix2 (x 1) t) * b (ix3 0 t (x 2))) + d (ix2 (x 1) (x 2)) := by
  idx_vars x
  pointwise [k0_pay6]

theorem qpay7_apply (a b d) (x : S1x256x256.Idx) : k0_pay7 (F := Ideal) a b d x
    = (∑ t : Fin 128, a (ix2 (x 1) t) * b (ix3 0 t (x 2))) + d (ix2 (x 1) (x 2)) := by
  idx_vars x
  pointwise [k0_pay7]

theorem qpay1_apply (a b d) (x : S1x256x256.Idx) : k0_pay1 (F := Ideal) (k0_pay8 a b) d x
    = (∑ t : Fin 128, a (ix2 (x 1) t) * b (ix3 0 t (x 2))) + d (ix2 (x 1) (x 2)) := by
  idx_vars x
  pointwise [k0_pay1, k0_pay8]

theorem qpay2_apply (a b d) (x : S1x256x256.Idx) : k0_pay2 (F := Ideal) a b d x
    = (∑ t : Fin 128, a (ix2 (x 1) t) * b (ix3 0 t (x 2))) + d (ix2 (x 1) (x 2)) := by
  idx_vars x
  pointwise [k0_pay2]

theorem qpay3_apply (a b d) (x : S1x256x256.Idx) : k0_pay3 (F := Ideal) a b d x
    = (∑ t : Fin 128, a (ix2 (x 1) t) * b (ix3 0 t (x 2))) + d (ix2 (x 1) (x 2)) := by
  idx_vars x
  pointwise [k0_pay3]

/-- A tile of the query part is its closed form at the tile's place. -/
theorem qtile_eq (x3 : Vec Ideal S5x128x256 .f32) (x4 : Vec Ideal S256x128 .f32) (x5 : Vec Ideal S256x256 .f32) (j : Nat) (hj : j < 5)
    (i3 : ∀ a, (![j, 0, 0] : Fin 3 → Nat) a + S1x128x256.size a ≤ S5x128x256.size a) (io : ∀ a, (![j, 0, 0] : Fin 3 → Nat) a + S1x256x256.size a ≤ S5x256x256.size a)
    (i4 : ∀ a, (![0, 0] : Fin 2 → Nat) a + S256x128.size a ≤ S256x128.size a) (i5 : ∀ a, (![0, 0] : Fin 2 → Nat) a + S256x256.size a ≤ S256x256.size a) (x : S1x256x256.Idx) :
    (∑ t : Fin 128, View.ld x4 (Rect.unit (s := S256x128) ![0, 0] S256x128.size i4) (ix2 (x 1) t) * View.ld x3 (Rect.unit (s := S5x128x256) ![j, 0, 0] S1x128x256.size i3) (ix3 0 t (x 2)))
      + View.ld x5 (Rect.unit (s := S256x256) ![0, 0] S256x256.size i5) (ix2 (x 1) (x 2))
    = qval x3 x4 x5 ((Rect.unit (s := S5x256x256) ![j, 0, 0] S1x256x256.size io).emb x) := by
  idx_vars x
  rw [View.ld_unit_zero (S := S256x128) hz2, View.ld_unit_zero (S := S256x256) hz2]
  have h0 : x0.val = 0 := by omega
  have ha : ((Rect.unit (s := S5x256x256) ![j, 0, 0] S1x256x256.size io).emb (ix3 x0 x1 x2)) = ix3 ⟨j, hj⟩ x1 x2 := by
    funext a; apply Fin.ext
    match a with
    | ⟨0, _⟩ => show j + 1 * x0.val = j; omega
    | ⟨1, _⟩ => show 0 + 1 * x1.val = x1.val; omega
    | ⟨2, _⟩ => show 0 + 1 * x2.val = x2.val; omega
  rw [ha]
  unfold qval
  refine congrArg₂ _ (Finset.sum_congr rfl fun t _ => congrArg (_ * ·) (congrArg x3 ?_)) rfl
  funext a; apply Fin.ext
  match a with
  | ⟨0, _⟩ => rfl
  | ⟨1, _⟩ => show 0 + 1 * t.val = t.val; omega
  | ⟨2, _⟩ => show 0 + 1 * x2.val = x2.val; omega

set_option maxHeartbeats 2000000 in
/-- Case A (the first point): the query part is computed and the block reads it. -/
theorem out_A (c : Dev nD) (i : grid0.Coords) (arg1 : Memref sig .tc .vmem S1x128x2560 .fp8e4m3) (harg1 : arg1.IsWhole) (arg2 : Memref sig .tc .vmem S1x1x2560 .f32) (harg2 : arg2.IsWhole) (arg3 : Memref sig .tc .vmem S256x384 .bf16) (harg3 : arg3.IsWhole) (arg4 : Memref sig .tc .vmem S5x128x256 .f32) (harg4 : arg4.IsWhole) (arg5 : Memref sig .tc .vmem S256x128 .f32) (harg5 : arg5.IsWhole) (arg6 : Memref sig .tc .vmem S256x256 .f32) (harg6 : arg6.IsWhole) (arg7 : Memref sig .tc .vmem S256x256 .f32) (harg7 : arg7.IsWhole) (arg8 : Memref sig .tc .vmem S1x1x2560 .f32) (harg8 : arg8.IsWhole) (arg9 : Memref sig .tc .vmem S5x256x256 .f32) (harg9 : arg9.IsWhole) (hc0 : cond0_0 i) (x0 : Vec Ideal S1x128x2560 .fp8e4m3) (x1 : Vec Ideal S1x1x2560 .f32) (x2 : Vec Ideal S256x384 .bf16) (x3 : Vec Ideal S5x128x256 .f32) (x4 : Vec Ideal S256x128 .f32) (x5 : Vec Ideal S256x256 .f32) (x6 : Vec Ideal S256x256 .f32) :
    out0_A_7 c i arg1 harg1 arg2 harg2 arg3 harg3 arg4 harg4 arg5 harg5 arg6 harg6 arg7 harg7 arg8 harg8 arg9 harg9 hc0 x0 x1 x2 x3 x4 x5 x6 = blockval x0 x1 x2 (qval x3 x4 x5) x6 ∧ sout0_A_0 c i arg1 harg1 arg2 harg2 arg3 harg3 arg4 harg4 arg5 harg5 arg6 harg6 arg7 harg7 arg8 harg8 arg9 harg9 hc0 x0 x1 x2 x3 x4 x5 x6 = qval x3 x4 x5 := by
  unfold out0_A_7 sout0_A_0
  rw [View.read_writes_eq_canon _ _ _ (cover0_A_7 c i arg1 harg1 arg2 harg2 arg3 harg3 arg4 harg4 arg5 harg5 arg6 harg6 arg7 harg7 arg8 harg8 arg9 harg9 hc0 x0 x1 x2 x3 x4 x5 x6), View.read_writes_eq_canon _ _ _ (scover0_A_0 c i arg1 harg1 arg2 harg2 arg3 harg3 arg4 harg4 arg5 harg5 arg6 harg6 arg7 harg7 arg8 harg8 arg9 harg9 hc0 x0 x1 x2 x3 x4 x5 x6)]
  unfold kernelRun0_A
  dsimp only
  have hs : View.canon (kernelRun0_A.sl.HS0_5 (F := Ideal) c arg4 harg4 arg5 harg5 arg6 harg6 x3 x4 x5) = qval x3 x4 x5 := by
    funext y
    refine View.canon_apply_of_pieces _ _ ?_ y ?_
    · sl_unfold_words
      intro pc hpc
      simp only [List.mem_cons, List.not_mem_nil, or_false] at hpc
      rcases hpc with rfl | rfl | rfl | rfl | rfl
      · intro x
        refine (qpay3_apply ..).trans ?_
        simp only [View.readAt_eq_ld, Memref.IsWhole.read_unread]
        exact qtile_eq _ _ _ 4 (by decide) _ _ _ _ x
      · intro x
        refine (qpay2_apply ..).trans ?_
        simp only [View.readAt_eq_ld, Memref.IsWhole.read_unread]
        exact qtile_eq _ _ _ 3 (by decide) _ _ _ _ x
      · intro x
        refine (qpay1_apply ..).trans ?_
        simp only [View.readAt_eq_ld, Memref.IsWhole.read_unread]
        exact qtile_eq _ _ _ 2 (by decide) _ _ _ _ x
      · intro x
        refine (qpay7_apply ..).trans ?_
        simp only [View.readAt_eq_ld, Memref.IsWhole.read_unread]
        exact qtile_eq _ _ _ 1 (by decide) _ _ _ _ x
      · intro x
        refine (qpay6_apply ..).trans ?_
        simp only [View.readAt_eq_ld, Memref.IsWhole.read_unread]
        exact qtile_eq _ _ _ 0 (by decide) _ _ _ _ x
    · exact scover0_A_0 c i arg1 harg1 arg2 harg2 arg3 harg3 arg4 harg4 arg5 harg5 arg6 harg6 arg7 harg7 arg8 harg8 arg9 harg9 hc0 x0 x1 x2 x3 x4 x5 x6 y
  refine ⟨?_, hs⟩
  funext y
  refine View.canon_apply_of_pieces _ _ ?_ y (cover0_A_7 c i arg1 harg1 arg2 harg2 arg3 harg3 arg4 harg4 arg5 harg5 arg6 harg6 arg7 harg7 arg8 harg8 arg9 harg9 hc0 x0 x1 x2 x3 x4 x5 x6 y)
  refine loop_pieces _ _ _ _ arg1 harg1 arg2 harg2 arg3 harg3 arg4 harg4 arg5 harg5 arg6 harg6 arg7 harg7 arg8 harg8 arg9 harg9 _ _ _ _ _ _ ?_ ?_ ?_ ?_ ?_
  all_goals first | exact Memref.IsWhole.read_unread _ _ | exact (View.readAt_eq_ld _ _ _).trans ((congrArg (View.ld · _) (Memref.IsWhole.read_unread _ _)).trans (View.ld_unit_zero (S := S256x256) hz2 _ _)) | skip
  exact (View.read_writes_eq_canon _ _ _ (scover0_A_0 c i arg1 harg1 arg2 harg2 arg3 harg3 arg4 harg4 arg5 harg5 arg6 harg6 arg7 harg7 arg8 harg8 arg9 harg9 hc0 x0 x1 x2 x3 x4 x5 x6)).trans hs

end Cert.MlpIdeal.Value
end
-- ==== Proof.MlpArray.lean ====
/-
  The read-out kernel's result array after the whole grid: what the array holds at every index (`final_o`),
  in terms of the arrays the kernel finds at its entry.
-/
module

public import proofs.«01_k».proof.Proof.MlpBlock
public import Idealize.ShloMosaic.Lib.Claim

@[expose] public section

set_option maxRecDepth 16384

noncomputable section

namespace Cert.MlpIdeal.Value

open Cert.MlpIdeal Cert.MlpIdeal.Gen Idealize.ShloMosaic Idealize.ShloMosaic.TcCoe Idealize.SL.Sem
open Idealize.ShloMosaic.Pipeline (Dat)

variable (m : (ℓ : Loc nD τ sig) → Buf (Elt Ideal) ℓ)

/-- The query part of the kernel at its entry arrays. -/
def zq (c : Dev nD) : Vec Ideal S5x256x256 .f32 := qval (V m c main_v22) (V m c main_v23) (V m c main_v25)

/-! ## The blocks of the input windows -/

theorem iblk_2 (c : Dev nD) (t : Fin cfg0.N) : (iblk m c 2 t : Vec Ideal S256x384 .bf16) = V m c main_v16 := by
  have hz' : (fun a => win0_2.index t a * main_v16.ty.shape.size a) = fun _ => 0 := funext fun a => by fin_cases a <;> rfl
  exact Memref.read_access_unit_zero (Elt Ideal) main_v16 hz' (fun a => by rw [congrFun hz' a]; simp) (V m c main_v16)
theorem iblk_3 (c : Dev nD) (t : Fin cfg0.N) : (iblk m c 3 t : Vec Ideal S5x128x256 .f32) = V m c main_v22 := by
  have hz' : (fun a => win0_3.index t a * main_v22.ty.shape.size a) = fun _ => 0 := funext fun a => by fin_cases a <;> rfl
  exact Memref.read_access_unit_zero (Elt Ideal) main_v22 hz' (fun a => by rw [congrFun hz' a]; simp) (V m c main_v22)
theorem iblk_4 (c : Dev nD) (t : Fin cfg0.N) : (iblk m c 4 t : Vec Ideal S256x128 .f32) = V m c main_v23 := by
  have hz' : (fun a => win0_4.index t a * main_v23.ty.shape.size a) = fun _ => 0 := funext fun a => by fin_cases a <;> rfl
  exact Memref.read_access_unit_zero (Elt Ideal) main_v23 hz' (fun a => by rw [congrFun hz' a]; simp) (V m c main_v23)
theorem iblk_5 (c : Dev nD) (t : Fin cfg0.N) : (iblk m c 5 t : Vec Ideal S256x256 .f32) = V m c main_v25 := by
  have hz' : (fun a => win0_5.index t a * main_v25.ty.shape.size a) = fun _ => 0 := funext fun a => by fin_cases a <;> rfl
  exact Memref.read_access_unit_zero (Elt Ideal) main_v25 hz' (fun a => by rw [congrFun hz' a]; simp) (V m c main_v25)
theorem iblk_6 (c : Dev nD) (t : Fin cfg0.N) : (iblk m c 6 t : Vec Ideal S256x256 .f32) = V m c main_v27 := by
  have hz' : (fun a => win0_6.index t a * main_v27.ty.shape.size a) = fun _ => 0 := funext fun a => by fin_cases a <;> rfl
  exact Memref.read_access_unit_zero (Elt Ideal) main_v27 hz' (fun a => by rw [congrFun hz' a]; simp) (V m c main_v27)

theorem index_0 (t : Fin cfg0.N) : win0_0.index t 0 = t.val ∧ win0_0.index t 1 = 0 ∧ win0_0.index t 2 = 0 :=
  (by decide +kernel : ∀ t : Fin grid0.N, win0_0.index t 0 = t.val ∧ win0_0.index t 1 = 0 ∧ win0_0.index t 2 = 0) t
theorem index_1 (t : Fin cfg0.N) : win0_1.index t 0 = t.val ∧ win0_1.index t 1 = 0 ∧ win0_1.index t 2 = 0 :=
  (by decide +kernel : ∀ t : Fin grid0.N, win0_1.index t 0 = t.val ∧ win0_1.index t 1 = 0 ∧ win0_1.index t 2 = 0) t
theorem index_7 (t : Fin cfg0.N) : win0_7.index t 0 = t.val ∧ win0_7.index t 1 = 0 ∧ win0_7.index t 2 = 0 :=
  (by decide +kernel : ∀ t : Fin grid0.N, win0_7.index t 0 = t.val ∧ win0_7.index t 1 = 0 ∧ win0_7.index t 2 = 0) t

theorem lt74 (t : Fin cfg0.N) : t.val < 74 := by have := t.isLt; have h : cfg0.N = 74 := N_0; omega

theorem iblk_0 (c : Dev nD) (t : Fin cfg0.N) (d : Fin 128) (l : Fin 2560) :
    (iblk m c 0 t : Vec Ideal S1x128x2560 .fp8e4m3) (ix3 0 d l) = (V m c main_v2 : Vec Ideal S74x128x2560 .fp8e4m3) (ix3 ⟨t.val, lt74 t⟩ d l) := by
  have hi := index_0 t
  unfold iblk
  rw [View.read_apply]
  show V m c main_v2 _ = V m c main_v2 _
  congr 1
  funext a
  apply Fin.ext
  match a with
  | ⟨0, _⟩ => show win0_0.index t 0 * 1 + 1 * 0 = t.val; rw [hi.1]; omega
  | ⟨1, _⟩ => show win0_0.index t 1 * 128 + 1 * d.val = d.val; rw [hi.2.1]; omega
  | ⟨2, _⟩ => show win0_0.index t 2 * 2560 + 1 * l.val = l.val; rw [hi.2.2]; omega

theorem iblk_1 (c : Dev nD) (t : Fin cfg0.N) (l : Fin 2560) :
    (iblk m c 1 t : Vec Ideal S1x1x2560 .f32) (ix3 0 0 l) = (V m c main_v5 : Vec Ideal S74x1x2560 .f32) (ix3 ⟨t.val, lt74 t⟩ 0 l) := by
  have hi := index_1 t
  unfold iblk
  rw [View.read_apply]
  show V m c main_v5 _ = V m c main_v5 _
  congr 1
  funext a
  apply Fin.ext
  match a with
  | ⟨0, _⟩ => show win0_1.index t 0 * 1 + 1 * 0 = t.val; rw [hi.1]; omega
  | ⟨1, _⟩ => show win0_1.index t 1 * 1 + 1 * 0 = 0; rw [hi.2.1]
  | ⟨2, _⟩ => show win0_1.index t 2 * 2560 + 1 * l.val = l.val; rw [hi.2.2]; omega

/-! ## What the two written buffers hold after every point -/

theorem outsAt_eq (c : Dev nD) : ∀ (n : ℕ) (h : n < cfg0.N), outsAt0 m c n h
    = (blockval (iblk m c 0 ⟨n, h⟩) (iblk m c 1 ⟨n, h⟩) (V m c main_v16) (zq m c) (V m c main_v27), zq m c)
  | 0, h => by
    refine (outsAt0_A m c ⟨0, h⟩ rfl).trans ?_
    have := out_A (c := c) (i := grid0.coords ⟨0, h⟩) (x0 := iblk m c 0 ⟨0, h⟩) (x1 := iblk m c 1 ⟨0, h⟩) (x2 := iblk m c 2 ⟨0, h⟩)
      (x3 := iblk m c 3 ⟨0, h⟩) (x4 := iblk m c 4 ⟨0, h⟩) (x5 := iblk m c 5 ⟨0, h⟩) (x6 := iblk m c 6 ⟨0, h⟩)
    rw [(this ..).1, (this ..).2, iblk_2, iblk_3, iblk_4, iblk_5, iblk_6]
    rfl
  | n + 1, h => by
    have hN : cfg0.N = 74 := N_0
    have hB : ¬(⟨n + 1, h⟩ : Fin cfg0.N).val % 74 = 0 := by dsimp only; omega
    rw [outsAt0_B m c ⟨n + 1, h⟩ hB, out_B, iblk_2, iblk_6]
    show (blockval _ _ _ (outsAt0 m c n _).2 _, (outsAt0 m c n _).2) = _
    rw [outsAt_eq c n]

/-! ## The result array -/

/-- What the result array holds at lane `l` of block `t`. -/
def lane (c : Dev nD) (t : Fin 74) (l : Fin 2560) : EReal :=
  rowval (V m c main_v16) (fun d => (V m c main_v2 : Vec Ideal S74x128x2560 .fp8e4m3) (ix3 t d l))
    ((V m c main_v5 : Vec Ideal S74x1x2560 .f32) (ix3 t 0 l))
    (fun e => zq m c (ix3 ⟨l.val % 1280 / 256, by omega⟩ e ⟨l.val % 256, by omega⟩))
    (fun e => (V m c main_v27 : Vec Ideal S256x256 .f32) (ix2 e ⟨l.val % 256, by omega⟩))

def result (c : Dev nD) : Vec Ideal S74x1x2560 .f32 := fun y => lane m c (y 0) (y 2)

/-- What the body leaves in the output block at point `t` is the lanes of block `t`. -/
theorem block_eq (c : Dev nD) (t : Fin cfg0.N) (y : S1x1x2560.Idx) :
    blockval (iblk m c 0 t) (iblk m c 1 t) (V m c main_v16) (zq m c) (V m c main_v27) y = lane m c ⟨t.val, lt74 t⟩ (y 2) := by
  have hc : (fun d => (iblk m c 0 t : Vec Ideal S1x128x2560 .fp8e4m3) (ix3 0 d (y 2)))
      = fun d => (V m c main_v2 : Vec Ideal S74x128x2560 .fp8e4m3) (ix3 ⟨t.val, lt74 t⟩ d (y 2)) := funext fun d => iblk_0 m c t d (y 2)
  unfold blockval lane
  rw [hc, iblk_1 m c t (y 2)]

theorem emb_7 (t : Fin cfg0.N) (y : S1x1x2560.Idx) : ((cfg0.win 7).blk t).view.emb y = (ix3 ⟨t.val, lt74 t⟩ 0 (y 2) : S74x1x2560.Idx) := by
  have hi := index_7 t
  have h0 : (y 0).val = 0 := by have : (y 0).val < 1 := (y 0).isLt; omega
  have h1 : (y 1).val = 0 := by have : (y 1).val < 1 := (y 1).isLt; omega
  funext a
  apply Fin.ext
  match a with
  | ⟨0, _⟩ => show win0_7.index t 0 * 1 + 1 * (y 0).val = t.val; rw [hi.1, h0]; omega
  | ⟨1, _⟩ => show win0_7.index t 1 * 1 + 1 * (y 1).val = 0; rw [hi.2.1, h1]
  | ⟨2, _⟩ => show win0_7.index t 2 * 2560 + 1 * (y 2).val = (y 2).val; rw [hi.2.2]; omega

theorem flushed_eq (c : Dev nD) (t : Fin cfg0.N) :
    (dats m 0 c).flushed 7 t = ((cfg0.win 7).blk t).view.read (Elt Ideal) (result m c) := by
  show (cfg0.win 7).cut (grid0.coords t) ((dats m 0 c).after 7 t) = _
  rw [after0_7, outsAt_eq]
  refine funext fun (y : S1x1x2560.Idx) => ?_
  rw [View.read_apply]
  refine (block_eq m c t y).trans ?_
  exact (congrArg (result m c) (emb_7 t y)).symm

/-- So the result array ends holding `result`. -/
theorem final_o (c : Dev nD) : (dats m 0 c).arrAt 7 cfg0.N = result m c :=
  (dats m 0 c).arrAt_eq_of_cover 7 (result m c) (fun t _ => flushed_eq m c t) fun i => by
    have hN : cfg0.N = 74 := N_0
    have h0 : (i 0 : Nat) < 74 := (i 0).isLt
    have h1 : (i 1 : Nat) < 1 := (i 1).isLt
    have h2 : (i 2 : Nat) < 2560 := (i 2).isLt
    obtain ⟨t, ht⟩ : ∃ t : Fin cfg0.N, t.val = (i 0).val := ⟨⟨(i 0).val, by rw [hN]; exact h0⟩, rfl⟩
    refine ⟨t, flush0_7 t, ?_⟩
    have hi := index_7 t
    show i ∈ ((View.whole main_v28).slice (win0_7.rect t)).set
    rw [View.set_slice_whole, Rect.mem_set_unit]
    intro a
    match a with
    | ⟨0, _⟩ =>
      show win0_7.index t 0 * 1 ≤ (i 0 : Nat) ∧ (i 0 : Nat) < win0_7.index t 0 * 1 + 1
      rw [hi.1]; omega
    | ⟨1, _⟩ =>
      show win0_7.index t 1 * 1 ≤ (i 1 : Nat) ∧ (i 1 : Nat) < win0_7.index t 1 * 1 + 1
      rw [hi.2.1]; omega
    | ⟨2, _⟩ =>
      show win0_7.index t 2 * 2560 ≤ (i 2 : Nat) ∧ (i 2 : Nat) < win0_7.index t 2 * 2560 + 2560
      rw [hi.2.2]; omega

/-! ## The host operations after the region -/

/-- The program's result, read through the final reshape, transpose and reshape. -/
theorem tail_eq (c : Dev nD) (n : Fin 4736) (q : Fin 40) :
    (Pipeline.afterTail₀ cfgs (dats m) 0 (V0 m) [hostOps1] c main_v31 : Vec Ideal S4736x40 .f32) (ix2 n q)
    = lane m c ⟨n.val / 64, by omega⟩ ⟨n.val / 32 % 2 * 1280 + q.val / 8 * 256 + n.val % 32 * 8 + q.val % 8, by omega⟩ := by
  have hw : Pipeline.withArrays (cfgs 0).spec c (V0 m c) (fun w => (dats m 0 c).arrAt w (cfgs 0).N) (Proc.devRef .tc main_v28) = result m c :=
    (Pipeline.withArrays_arr (cfgs 0).spec (by decide) c (V0 m c) _ 7).trans (final_o m c)
  have h : (Pipeline.afterTail₀ cfgs (dats m) 0 (V0 m) [hostOps1] c main_v31 : Vec Ideal S4736x40 .f32)
      = shapeCast S4736x40 (transpose S74x2x32x5x8 [0, 1, 3, 2, 4] (shapeCast S74x2x5x32x8 (result m c) shapeCasts_S74x1x2560_S74x2x5x32x8) transposes_S74x2x5x32x8_S74x2x32x5x8_0_1_3_2_4) shapeCasts_S74x2x32x5x8_S4736x40 := by
    unfold Pipeline.afterTail₀
    generalize Pipeline.withArrays (cfgs 0).spec c (V0 m c) (fun w => (dats m 0 c).arrAt w (cfgs 0).N) = W at hw ⊢
    rw [← hw]
    show StableHlo.after hostOps1 W (Proc.devRef .tc main_v31) = _
    after_results
    rfl
  rw [h]
  pointwise []
  unfold result
  show lane m c _ _ = _
  congr 1
  all_goals (apply Fin.ext; dsimp only; omega)

end Cert.MlpIdeal.Value
-- ==== Proof.MlpEq.lean ====
/-
  The read-out kernel's result and the reference's result are the same extended reals, index by index, when the
  scales are non-negative and finite and the node weights are finite.
-/
module

public import proofs.«01_k».proof.Proof.MlpArray
public import proofs.«01_k».proof.Proof.Gen.MlpRefIdeal.Value
public import proofs.«01_k».proof.Proof.Gen.Pre_mlp_pre

@[expose] public section

set_option maxRecDepth 16384

noncomputable section

namespace Cert.MlpIdeal.Value

open Cert.MlpIdeal Cert.MlpIdeal.Gen Idealize.ShloMosaic Idealize.ShloMosaic.TcCoe Idealize.SL.Sem

variable (m : (ℓ : Loc nD τ sig) → Buf (Elt Ideal) ℓ)

/-! ## The arguments, and the arrays the host computes from them before the kernel starts -/

abbrev codes (c : Dev nD) : Vec Ideal S4736x40x128 .fp8e4m3 := m ((c : Thread nD τ).loc main_arg0)
abbrev scales (c : Dev nD) : Vec Ideal S4736x40 .f32 := m ((c : Thread nD τ).loc main_arg1)
abbrev query (c : Dev nD) : Vec Ideal S40x128 .f32 := m ((c : Thread nD τ).loc main_arg2)
abbrev wh (c : Dev nD) : Vec Ideal S128x256 .f32 := m ((c : Thread nD τ).loc main_arg3)
abbrev wq (c : Dev nD) : Vec Ideal S128x256 .f32 := m ((c : Thread nD τ).loc main_arg4)
abbrev bias (c : Dev nD) : Vec Ideal S256 .f32 := m ((c : Thread nD τ).loc main_arg5)
abbrev vout (c : Dev nD) : Vec Ideal S256 .f32 := m ((c : Thread nD τ).loc main_arg6)

/-- The node of lane `l` of block `t`. -/
abbrev node (t : Fin 74) (l : Fin 2560) : Fin 4736 := ⟨t.val * 64 + l.val / 1280 * 32 + l.val / 8 % 32, by omega⟩
/-- The query of lane `l`. -/
abbrev qry (l : Fin 2560) : Fin 40 := ⟨l.val / 256 % 5 * 8 + l.val % 8, by omega⟩

theorem v2_apply (c : Dev nD) (t : Fin 74) (d : Fin 128) (l : Fin 2560) :
    (V m c main_v2 : Vec Ideal S74x128x2560 .fp8e4m3) (ix3 t d l) = codes m c (ix3 (node t l) (qry l) d) := by
  show StableHlo.after hostOps0 (fun b => m (c, b)) (Proc.devRef .tc main_v2) _ = _
  after_results
  pointwise []

theorem v5_apply (c : Dev nD) (t : Fin 74) (l : Fin 2560) :
    (V m c main_v5 : Vec Ideal S74x1x2560 .f32) (ix3 t 0 l) = scales m c (ix2 (node t l) (qry l)) := by
  show StableHlo.after hostOps0 (fun b => m (c, b)) (Proc.devRef .tc main_v5) _ = _
  after_results
  pointwise []

/-- The three bfloat16 parts of the node weights, side by side: of finite weights the first part is the weights
    and the other two are zero. -/
theorem v16_apply (c : Dev nD) (hw : ∀ d e, ∃ r : ℝ, wh m c (ix2 d e) = (r : EReal)) (e : Fin 256) (k : Fin 384) :
    (V m c main_v16 : Vec Ideal S256x384 .bf16) (ix2 e k)
    = if k.val < 128 then wh m c (ix2 ⟨k.val % 128, Nat.mod_lt _ (by decide)⟩ e) else (0 : EReal) := by
  have hz : ∀ d e, wh m c (ix2 d e) - wh m c (ix2 d e) = (0 : EReal) := fun d e => by
    obtain ⟨r, hr⟩ := hw d e
    rw [hr, ← EReal.coe_sub, sub_self, EReal.coe_zero]
  show StableHlo.after hostOps0 (fun b => m (c, b)) (Proc.devRef .tc main_v16) _ = _
  after_results
  pointwise []
  have hk := k.isLt
  split
  · rename_i h
    simp only [StableHlo.readResult, StableHlo.readPieces]
    pointwise []
    show wh m c _ = wh m c _
    congr 2
    apply Fin.ext
    show k.val = k.val % 128
    omega
  · rename_i h
    split
    all_goals simp only [StableHlo.readResult, StableHlo.readPieces]
    all_goals pointwise []
    all_goals simp only [hz, sub_zero]

theorem v22_apply (c : Dev nD) (j : Fin 5) (d : Fin 128) (x : Fin 256) :
    (V m c main_v22 : Vec Ideal S5x128x256 .f32) (ix3 j d x) = query m c (ix2 ⟨j.val * 8 + x.val % 8, by omega⟩ d) := by
  show StableHlo.after hostOps0 (fun b => m (c, b)) (Proc.devRef .tc main_v22) _ = _
  after_results
  pointwise []

theorem v23_apply (c : Dev nD) (e : Fin 256) (d : Fin 128) :
    (V m c main_v23 : Vec Ideal S256x128 .f32) (ix2 e d) = wq m c (ix2 d e) := by
  show StableHlo.after hostOps0 (fun b => m (c, b)) (Proc.devRef .tc main_v23) _ = _
  after_results
  pointwise []

theorem v25_apply (c : Dev nD) (e : Fin 256) (x : Fin 256) :
    (V m c main_v25 : Vec Ideal S256x256 .f32) (ix2 e x) = bias m c (ix1 e) := by
  show StableHlo.after hostOps0 (fun b => m (c, b)) (Proc.devRef .tc main_v25) _ = _
  after_results
  pointwise []

theorem v27_apply (c : Dev nD) (e : Fin 256) (x : Fin 256) :
    (V m c main_v27 : Vec Ideal S256x256 .f32) (ix2 e x) = vout m c (ix1 e) := by
  show StableHlo.after hostOps0 (fun b => m (c, b)) (Proc.devRef .tc main_v27) _ = _
  after_results
  pointwise []

theorem qval_apply (x3 : Vec Ideal S5x128x256 .f32) (x4 : Vec Ideal S256x128 .f32) (x5 : Vec Ideal S256x256 .f32) (j : Fin 5) (e x : Fin 256) :
    qval x3 x4 x5 (ix3 j e x) = (∑ d : Fin 128, x4 (ix2 e d) * x3 (ix3 j d x)) + x5 (ix2 e x) := rfl

theorem zq_apply (c : Dev nD) (j : Fin 5) (e : Fin 256) (x : Fin 256) :
    zq m c (ix3 j e x) = (∑ d : Fin 128, query m c (ix2 ⟨j.val * 8 + x.val % 8, by omega⟩ d) * wq m c (ix2 d e)) + bias m c (ix1 e) := by
  unfold zq
  rw [qval_apply, v25_apply]
  congr 1
  refine Finset.sum_congr rfl fun d _ => ?_
  rw [v22_apply, v23_apply, mul_comm]

/-! ## The algebra -/

/-- A finite non-negative factor goes through a sum of extended reals. -/
theorem sum_mul_scale {ι : Type} (S : Finset ι) (f : ι → EReal) (s : EReal) (h0 : 0 ≤ s) (h1 : s ≠ ⊤) :
    (∑ i ∈ S, f i) * s = ∑ i ∈ S, f i * s := by
  classical
  induction S using Finset.induction_on with
  | empty => simp
  | insert a S ha ih => rw [Finset.sum_insert ha, Finset.sum_insert ha, ← ih, mul_comm, EReal.left_distrib_of_nonneg_of_ne_top h0 h1, mul_comm s, mul_comm s]

/-- The three parts against three copies of the codes: only the first part is not zero. -/
theorem sum_parts (w : Fin 128 → EReal) (x : Fin 128 → EReal) :
    (∑ k : Fin 384, (if k.val < 128 then w ⟨k.val % 128, Nat.mod_lt _ (by decide)⟩ else (0 : EReal)) * x ⟨k.val % 128, Nat.mod_lt _ (by decide)⟩)
    = ∑ d : Fin 128, w d * x d := by
  rw [Fin.sum_univ_two_halves 128 256 rfl]
  have h2 : (∑ k : Fin 256, (if 128 + k.val < 128 then w ⟨(128 + k.val) % 128, Nat.mod_lt _ (by decide)⟩ else (0 : EReal)) * x ⟨(128 + k.val) % 128, Nat.mod_lt _ (by decide)⟩) = 0 :=
    Finset.sum_eq_zero fun k _ => by rw [if_neg (by omega), zero_mul]
  have h1 : (∑ k : Fin 128, (if k.val < 128 then w ⟨k.val % 128, Nat.mod_lt _ (by decide)⟩ else (0 : EReal)) * x ⟨k.val % 128, Nat.mod_lt _ (by decide)⟩) = ∑ d : Fin 128, w d * x d :=
    Finset.sum_congr rfl fun k _ => by
      have hk : (⟨k.val % 128, Nat.mod_lt _ (by decide)⟩ : Fin 128) = k := Fin.ext (Nat.mod_eq_of_lt k.isLt)
      rw [if_pos k.isLt, hk]
  exact (congrArg₂ (· + ·) h1 h2).trans (add_zero _)

/-- One lane with the weights in three parts of which only the first is not zero: the scale moves into the sum. -/
theorem rowval_parts (W : Vec Ideal S256x384 .bf16) (w : Fin 128 → Fin 256 → EReal) (x : Fin 128 → EReal) (s : EReal) (z v : Fin 256 → EReal)
    (hW : ∀ e k, W (ix2 e k) = if k.val < 128 then w ⟨k.val % 128, Nat.mod_lt _ (by decide)⟩ e else (0 : EReal)) (h0 : 0 ≤ s) (h1 : s ≠ ⊤) :
    rowval W x s z v = ∑ e : Fin 256, max ((∑ d : Fin 128, x d * s * w d e) + z e) 0 * v e := by
  unfold rowval
  refine Finset.sum_congr rfl fun e _ => ?_
  have hk : (∑ k : Fin 384, W (ix2 e k) * x ⟨k.val % 128, Nat.mod_lt _ (by decide)⟩) * s = ∑ d : Fin 128, x d * s * w d e := by
    rw [Finset.sum_congr rfl fun k _ => congrArg (· * x ⟨k.val % 128, Nat.mod_lt _ (by decide)⟩) (hW e k),
      sum_parts (fun d => w d e) x, sum_mul_scale _ _ _ h0 h1]
    refine Finset.sum_congr rfl fun d _ => ?_
    rw [mul_assoc, mul_comm]
  rw [hk]

/-- One lane of the kernel is the read-out of its node and query, written plainly. -/
theorem lane_eq (c : Dev nD) (hs : ∀ n q, 0 ≤ (scales m c (ix2 n q) : EReal) ∧ (scales m c (ix2 n q) : EReal) ≠ ⊤)
    (hw : ∀ d e, ∃ r : ℝ, wh m c (ix2 d e) = (r : EReal)) (t : Fin 74) (l : Fin 2560) :
    lane m c t l = ∑ e : Fin 256, max ((∑ d : Fin 128, codes m c (ix3 (node t l) (qry l) d) * scales m c (ix2 (node t l) (qry l)) * wh m c (ix2 d e))
      + (∑ d : Fin 128, query m c (ix2 (qry l) d) * wq m c (ix2 d e)) + bias m c (ix1 e)) 0 * vout m c (ix1 e) := by
  obtain ⟨h0, h1⟩ := hs (node t l) (qry l)
  have hq : (⟨(⟨l.val % 1280 / 256, by omega⟩ : Fin 5).val * 8 + (⟨l.val % 256, by omega⟩ : Fin 256).val % 8, by dsimp only; omega⟩ : Fin 40) = qry l := by
    apply Fin.ext; dsimp only; omega
  have hx : (fun d => (V m c main_v2 : Vec Ideal S74x128x2560 .fp8e4m3) (ix3 t d l)) = fun d => codes m c (ix3 (node t l) (qry l) d) :=
    funext fun d => v2_apply m c t d l
  unfold lane
  rw [hx, v5_apply, rowval_parts _ (fun d e => wh m c (ix2 d e)) _ _ _ _ (v16_apply m c hw) h0 h1]
  refine Finset.sum_congr rfl fun e _ => ?_
  beta_reduce
  rw [v27_apply, zq_apply, hq, ← add_assoc]

/-! ## The precondition, read -/

theorem scales_of_pre (c : Dev nD) (h : (Cert.Pre_mlp_pre.fn (F := Ideal) (codes m c) (scales m c) (query m c) (wh m c) (wq m c) (bias m c) (vout m c)).1 = fun _ => 1#1)
    (n : Fin 4736) (q : Fin 40) : 0 ≤ (scales m c (ix2 n q) : EReal) ∧ (scales m c (ix2 n q) : EReal) ≠ ⊤ := by
  have h1 : Ideal.cmp .oge (scales m c (ix2 n q)) (Ideal.ofBits .f32 0x00000000#32) &&& Ideal.cmp .olt (scales m c (ix2 n q)) (Ideal.ofBits .f32 0x7F800000#32) = 1#1 :=
    congrFun h (ix2 n q)
  have ht : Ideal.ofBits .f32 0x7F800000#32 = ⊤ := by simp [Ideal.ofBits, Ideal.ieee]
  have hz : Ideal.ofBits .f32 0x00000000#32 = 0 := by simp [Ideal.ofBits, Ideal.ieee]
  rw [ht, hz] at h1
  unfold Ideal.cmp at h1
  dsimp only at h1
  constructor
  · by_contra hc
    rw [decide_eq_false hc] at h1
    revert h1
    cases decide ((scales m c (ix2 n q) : EReal) < ⊤) <;> decide
  · intro hc
    rw [decide_eq_false (by rw [hc]; exact lt_irrefl _ : ¬(scales m c (ix2 n q) : EReal) < ⊤)] at h1
    revert h1
    cases decide ((0 : EReal) ≤ scales m c (ix2 n q)) <;> decide

theorem wh_of_pre (c : Dev nD) (h : (Cert.Pre_mlp_pre.fn (F := Ideal) (codes m c) (scales m c) (query m c) (wh m c) (wq m c) (bias m c) (vout m c)).2 = fun _ => 1#1)
    (d : Fin 128) (e : Fin 256) : ∃ r : ℝ, wh m c (ix2 d e) = (r : EReal) := by
  have h1 : Ideal.cmp .olt (max (wh m c (ix2 d e) : EReal) (-(wh m c (ix2 d e) : EReal))) (Ideal.ofBits .f32 0x7F800000#32) = 1#1 :=
    congrFun h (ix2 d e)
  have ht : Ideal.ofBits .f32 0x7F800000#32 = ⊤ := by simp [Ideal.ofBits, Ideal.ieee]
  rw [ht] at h1
  unfold Ideal.cmp at h1
  dsimp only at h1
  have h2 : max (wh m c (ix2 d e) : EReal) (-(wh m c (ix2 d e) : EReal)) < ⊤ := by
    by_contra hc
    rw [decide_eq_false hc] at h1
    revert h1; decide
  obtain ⟨ha, hb⟩ := max_lt_iff.mp h2
  generalize (wh m c (ix2 d e) : EReal) = x at ha hb
  induction x using EReal.rec with
  | bot => simp at hb
  | coe r => exact ⟨r, rfl⟩
  | top => exact absurd ha (lt_irrefl _)

end Cert.MlpIdeal.Value

namespace Cert.MlpRefIdeal.Value
open Cert.MlpRefIdeal Cert.MlpRefIdeal.Gen Idealize.ShloMosaic

/-- The reference's result at node `n` and query `q`. -/
theorem ref_apply (a0 : Vec Ideal S4736x40x128 .fp8e4m3) (a1 : Vec Ideal S4736x40 .f32) (a2 : Vec Ideal S40x128 .f32)
    (a3 a4 : Vec Ideal S128x256 .f32) (a5 a6 : Vec Ideal S256 .f32) (n : Fin 4736) (q : Fin 40) :
    k0_pay1 (F := Ideal) a0 a1 a2 a4 a3 a5 a6 (ix2 n q)
    = ∑ e : Fin 256, max ((∑ d : Fin 128, a0 (ix3 n q d) * a1 (ix2 n q) * a3 (ix2 d e)) + (∑ d : Fin 128, a2 (ix2 q d) * a4 (ix2 d e)) + a5 (ix1 e)) 0 * a6 (ix1 e) := by
  pointwise [k0_pay1]
end Cert.MlpRefIdeal.Value

namespace Cert.MlpIdeal.Value

open Cert.MlpIdeal Cert.MlpIdeal.Gen Idealize.ShloMosaic Idealize.ShloMosaic.TcCoe Idealize.SL.Sem

/-- The digits of a lane. -/
theorem digits (b j n s : ℕ) (hb : b < 2) (hj : j < 5) (hn : n < 32) (hs : s < 8) :
    (b * 1280 + j * 256 + n * 8 + s) / 1280 = b ∧ (b * 1280 + j * 256 + n * 8 + s) / 8 % 32 = n
    ∧ (b * 1280 + j * 256 + n * 8 + s) / 256 % 5 = j ∧ (b * 1280 + j * 256 + n * 8 + s) % 8 = s := by
  refine ⟨by omega, by omega, by omega, by omega⟩

/-- The kernel program's result is the reference's function of the arguments. -/
theorem value_eq (m : (ℓ : Loc nD τ sig) → Buf (Elt Ideal) ℓ) (c : Dev nD)
    (h : (Cert.Pre_mlp_pre.fn (F := Ideal) (codes m c) (scales m c) (query m c) (wh m c) (wq m c) (bias m c) (vout m c)).1 = fun _ => 1#1)
    (h' : (Cert.Pre_mlp_pre.fn (F := Ideal) (codes m c) (scales m c) (query m c) (wh m c) (wq m c) (bias m c) (vout m c)).2 = fun _ => 1#1) :
    (Pipeline.afterTail₀ cfgs (dats m) 0 (V0 m) [hostOps1] c main_v31 : Vec Ideal S4736x40 .f32)
    = Cert.MlpRefIdeal.Gen.k0_pay1 (F := Ideal) (codes m c) (scales m c) (query m c) (wq m c) (wh m c) (bias m c) (vout m c) := by
  refine funext fun (y : S4736x40.Idx) => ?_
  idx_vars y
  rw [tail_eq, Cert.MlpRefIdeal.Value.ref_apply, lane_eq m c (scales_of_pre m c h) (wh_of_pre m c h')]
  have hd := digits (y0.val / 32 % 2) (y1.val / 8) (y0.val % 32) (y1.val % 8) (by omega) (by omega) (by omega) (by omega)
  have hn : node ⟨y0.val / 64, by omega⟩ ⟨y0.val / 32 % 2 * 1280 + y1.val / 8 * 256 + y0.val % 32 * 8 + y1.val % 8, by omega⟩ = y0 := by
    apply Fin.ext; dsimp only; rw [hd.1, hd.2.1]; omega
  have hq : qry ⟨y0.val / 32 % 2 * 1280 + y1.val / 8 * 256 + y0.val % 32 * 8 + y1.val % 8, by omega⟩ = y1 := by
    apply Fin.ext; dsimp only; rw [hd.2.2.1, hd.2.2.2]; omega
  rw [hn, hq]

end Cert.MlpIdeal.Value
-- ==== Proof.RelBlock.lean ====
/-
  What the relation-vector kernel's body leaves in its output block at one grid point, index by index (`out_eq`),
  and the same of the reference's body (`ref_out_eq`).
-/
module

public import proofs.«01_k».proof.Proof.Gen.RelIdeal.Frame
public import proofs.«01_k».proof.Proof.Gen.RelRefIdeal.Frame
public import Idealize.ShloMosaic.Lib.Pipeline.Value
public import Idealize.ShloMosaic.Lib.Pointwise

@[expose] public section

set_option maxRecDepth 16384

noncomputable section

namespace Cert.RelIdeal.Value

open Cert.RelIdeal Cert.RelIdeal.Gen Idealize.ShloMosaic Idealize.ShloMosaic.TcCoe Idealize.SL.Sem

/-- The output block of one layer's group of 73 relations: row `40 * j + q` is query `q` under relation `j`. -/
def blockval (x0 : Vec Ideal S64x128 .fp8e4m3) (x1 : Vec Ideal S40x1 .f32) (x2 : Vec Ideal S1x73x128x128 .fp8e4m3)
    (x3 x4 : Vec Ideal S1x1x73x128 .f32) : Vec Ideal S1x1x2920x128 .f32 := fun y =>
  have h : (y 2).val < 2920 := (y 2).isLt
  (∑ k : Fin 128, x0 (ix2 ⟨(y 2).val % 40, by omega⟩ k) * x2 (ix4 0 ⟨(y 2).val / 40, by omega⟩ k (y 3)))
      * x1 (ix2 ⟨(y 2).val % 40, by omega⟩ 0) * x3 (ix4 0 0 ⟨(y 2).val / 40, by omega⟩ (y 3))
    + x4 (ix4 0 0 ⟨(y 2).val / 40, by omega⟩ (y 3))

/-- One relation's rows, before they are placed in the block. -/
theorem pay3_apply (v0 v2 v3 v9 v13) (q : Fin 40) (d : Fin 128) :
    k0_pay3 (F := Ideal) v0 v2 v3 v9 v13 (ix4 0 0 q d)
    = (∑ k : Fin 128, v0 (ix2 ⟨q.val, by omega⟩ k) * v3 (ix4 0 0 k d)) * v2 (ix2 q 0) * v9 (ix4 0 0 0 d) + v13 (ix4 0 0 0 d) := by
  pointwise [k0_pay3, k0_pay2]

theorem hz2 : (![0, 0] : Fin 2 → Nat) = fun _ => 0 := by funext a; fin_cases a <;> rfl

/-- One relation's rows are the block's closed form at the rows it is stored to. -/
theorem piece_eq (x0 : Vec Ideal S64x128 .fp8e4m3) (x1 : Vec Ideal S40x1 .f32) (x2 : Vec Ideal S1x73x128x128 .fp8e4m3)
    (x3 x4 : Vec Ideal S1x1x73x128 .f32) (j o : Nat) (hj : j < 73) (ho : o = 40 * j)
    (i2 : ∀ a, (![0, j, 0, 0] : Fin 4 → Nat) a + S1x1x128x128.size a ≤ S1x73x128x128.size a)
    (i3 : ∀ a, (![0, 0, j, 0] : Fin 4 → Nat) a + S1x1x1x128.size a ≤ S1x1x73x128.size a)
    (i5 : ∀ a, (![0, 0, o, 0] : Fin 4 → Nat) a + S1x1x40x128.size a ≤ S1x1x2920x128.size a) (x : S1x1x40x128.Idx) :
    k0_pay3 (F := Ideal) (View.ld x0 r0_0) (View.ld x1 r0_1) (View.ld x2 (Rect.unit (s := S1x73x128x128) ![0, j, 0, 0] S1x1x128x128.size i2))
      (View.ld x3 (Rect.unit (s := S1x1x73x128) ![0, 0, j, 0] S1x1x1x128.size i3)) (View.ld x4 (Rect.unit (s := S1x1x73x128) ![0, 0, j, 0] S1x1x1x128.size i3)) x
    = blockval x0 x1 x2 x3 x4 ((Rect.unit (s := S1x1x2920x128) ![0, 0, o, 0] S1x1x40x128.size i5).emb x) := by
  subst ho
  obtain ⟨q, d, rfl⟩ : ∃ (q : Fin 40) (d : Fin 128), x = ix4 0 0 q d := by
    idx_vars x
    exact ⟨x2, x3, by rw [Subsingleton.elim x0 0, Subsingleton.elim x1 0]⟩
  rw [pay3_apply, View.ld_unit_zero (S := S64x128) hz2, View.ld_unit_zero (S := S40x1) hz2]
  have e2 : (((Rect.unit (s := S1x1x2920x128) ![0, 0, 40 * j, 0] S1x1x40x128.size i5).emb (ix4 0 0 q d)) 2).val = 40 * j + q.val := by
    show 40 * j + 1 * q.val = _; omega
  have e3 : (((Rect.unit (s := S1x1x2920x128) ![0, 0, 40 * j, 0] S1x1x40x128.size i5).emb (ix4 0 0 q d)) 3) = d := by
    apply Fin.ext; show 0 + 1 * d.val = _; omega
  have hq := q.isLt
  unfold blockval
  have em : (⟨(((Rect.unit (s := S1x1x2920x128) ![0, 0, 40 * j, 0] S1x1x40x128.size i5).emb (ix4 0 0 q d)) 2).val % 40, Nat.mod_lt _ (by decide)⟩ : Fin 40) = q := by
    exact Fin.ext ((congrArg (· % 40) e2).trans (show (40 * j + q.val) % 40 = q.val by omega))
  have em' : ∀ h, (⟨(((Rect.unit (s := S1x1x2920x128) ![0, 0, 40 * j, 0] S1x1x40x128.size i5).emb (ix4 0 0 q d)) 2).val % 40, h⟩ : Fin 64) = ⟨q.val, by omega⟩ := by
    intro h; exact Fin.ext ((congrArg (· % 40) e2).trans (show (40 * j + q.val) % 40 = q.val by omega))
  have ed : ∀ h, (⟨(((Rect.unit (s := S1x1x2920x128) ![0, 0, 40 * j, 0] S1x1x40x128.size i5).emb (ix4 0 0 q d)) 2).val / 40, h⟩ : Fin 73) = ⟨j, hj⟩ := by
    intro h; exact Fin.ext ((congrArg (· / 40) e2).trans (show (40 * j + q.val) / 40 = j by omega))
  dsimp only
  rw [e3, em', ed, em]
  have l2 : ∀ k : Fin 128, View.ld x2 (Rect.unit (s := S1x73x128x128) ![0, j, 0, 0] S1x1x128x128.size i2) (ix4 0 0 k d) = x2 (ix4 0 ⟨j, hj⟩ k d) := fun k => by
    refine congrArg x2 ?_
    funext a; apply Fin.ext
    match a with
    | ⟨0, _⟩ => rfl
    | ⟨1, _⟩ => show j + 1 * 0 = j; omega
    | ⟨2, _⟩ => show 0 + 1 * k.val = k.val; omega
    | ⟨3, _⟩ => show 0 + 1 * d.val = d.val; omega
  have l3 : ∀ z : Vec Ideal S1x1x73x128 .f32, View.ld z (Rect.unit (s := S1x1x73x128) ![0, 0, j, 0] S1x1x1x128.size i3) (ix4 0 0 0 d) = z (ix4 0 0 ⟨j, hj⟩ d) := fun z => by
    refine congrArg z ?_
    funext a; apply Fin.ext
    match a with
    | ⟨0, _⟩ => rfl
    | ⟨1, _⟩ => rfl
    | ⟨2, _⟩ => show j + 1 * 0 = j; omega
    | ⟨3, _⟩ => show 0 + 1 * d.val = d.val; omega
  rw [l3, l3]
  simp only [l2]

set_option maxHeartbeats 4000000 in
/-- The whole output block: its 73 stores are the closed form at their rows. -/
theorem out_eq (x0 : Vec Ideal S64x128 .fp8e4m3) (x1 : Vec Ideal S40x1 .f32) (x2 : Vec Ideal S1x73x128x128 .fp8e4m3)
    (x3 x4 : Vec Ideal S1x1x73x128 .f32) : out0_5 x0 x1 x2 x3 x4 = blockval x0 x1 x2 x3 x4 := by
  funext y
  unfold out0_5
  refine View.canon_apply_of_pieces _ _ ?_ y (by apply cover0_5)
  refine List.forall_mem_cons.2 ⟨piece_eq x0 x1 x2 x3 x4 72 2880 (by decide) rfl inb_S1x73x128x128_S1x1x128x128_0_72_0_0 inb_S1x1x73x128_S1x1x1x128_0_0_72_0 inb_S1x1x2920x128_S1x1x40x128_0_0_2880_0,
    List.forall_mem_cons.2 ⟨piece_eq x0 x1 x2 x3 x4 71 2840 (by decide) rfl inb_S1x73x128x128_S1x1x128x128_0_71_0_0 inb_S1x1x73x128_S1x1x1x128_0_0_71_0 inb_S1x1x2920x128_S1x1x40x128_0_0_2840_0,
    List.forall_mem_cons.2 ⟨piece_eq x0 x1 x2 x3 x4 70 2800 (by decide) rfl inb_S1x73x128x128_S1x1x128x128_0_70_0_0 inb_S1x1x73x128_S1x1x1x128_0_0_70_0 inb_S1x1x2920x128_S1x1x40x128_0_0_2800_0,
    List.forall_mem_cons.2 ⟨piece_eq x0 x1 x2 x3 x4 69 2760 (by decide) rfl inb_S1x73x128x128_S1x1x128x128_0_69_0_0 inb_S1x1x73x128_S1x1x1x128_0_0_69_0 inb_S1x1x2920x128_S1x1x40x128_0_0_2760_0,
    List.forall_mem_cons.2 ⟨piece_eq x0 x1 x2 x3 x4 68 2720 (by decide) rfl inb_S1x73x128x128_S1x1x128x128_0_68_0_0 inb_S1x1x73x128_S1x1x1x128_0_0_68_0 inb_S1x1x2920x128_S1x1x40x128_0_0_2720_0,
    List.forall_mem_cons.2 ⟨piece_eq x0 x1 x2 x3 x4 67 2680 (by decide) rfl inb_S1x73x128x128_S1x1x128x128_0_67_0_0 inb_S1x1x73x128_S1x1x1x128_0_0_67_0 inb_S1x1x2920x128_S1x1x40x128_0_0_2680_0,
    List.forall_mem_cons.2 ⟨piece_eq x0 x1 x2 x3 x4 66 2640 (by decide) rfl inb_S1x73x128x128_S1x1x128x128_0_66_0_0 inb_S1x1x73x128_S1x1x1x128_0_0_66_0 inb_S1x1x2920x128_S1x1x40x128_0_0_2640_0,
    List.forall_mem_cons.2 ⟨piece_eq x0 x1 x2 x3 x4 65 2600 (by decide) rfl inb_S1x73x128x128_S1x1x128x128_0_65_0_0 inb_S1x1x73x128_S1x1x1x128_0_0_65_0 inb_S1x1x2920x128_S1x1x40x128_0_0_2600_0,
    List.forall_mem_cons.2 ⟨piece_eq x0 x1 x2 x3 x4 64 2560 (by decide) rfl inb_S1x73x128x128_S1x1x128x128_0_64_0_0 inb_S1x1x73x128_S1x1x1x128_0_0_64_0 inb_S1x1x2920x128_S1x1x40x128_0_0_2560_0,
    List.forall_mem_cons.2 ⟨piece_eq x0 x1 x2 x3 x4 63 2520 (by decide) rfl inb_S1x73x128x128_S1x1x128x128_0_63_0_0 inb_S1x1x73x128_S1x1x1x128_0_0_63_0 inb_S1x1x2920x128_S1x1x40x128_0_0_2520_0,
    List.forall_mem_cons.2 ⟨piece_eq x0 x1 x2 x3 x4 62 2480 (by decide) rfl inb_S1x73x128x128_S1x1x128x128_0_62_0_0 inb_S1x1x73x128_S1x1x1x128_0_0_62_0 inb_S1x1x2920x128_S1x1x40x128_0_0_2480_0,
    List.forall_mem_cons.2 ⟨piece_eq x0 x1 x2 x3 x4 61 2440 (by decide) rfl inb_S1x73x128x128_S1x1x128x128_0_61_0_0 inb_S1x1x73x128_S1x1x1x128_0_0_61_0 inb_S1x1x2920x128_S1x1x40x128_0_0_2440_0,
    List.forall_mem_cons.2 ⟨piece_eq x0 x1 x2 x3 x4 60 2400 (by decide) rfl inb_S1x73x128x128_S1x1x128x128_0_60_0_0 inb_S1x1x73x128_S1x1x1x128_0_0_60_0 inb_S1x1x2920x128_S1x1x40x128_0_0_2400_0,
    List.forall_mem_cons.2 ⟨piece_eq x0 x1 x2 x3 x4 59 2360 (by decide) rfl inb_S1x73x128x128_S1x1x128x128_0_59_0_0 inb_S1x1x73x128_S1x1x1x128_0_0_59_0 inb_S1x1x2920x128_S1x1x40x128_0_0_2360_0,
    List.forall_mem_cons.2 ⟨piece_eq x0 x1 x2 x3 x4 58 2320 (by decide) rfl inb_S1x73x128x128_S1x1x128x128_0_58_0_0 inb_S1x1x73x128_S1x1x1x128_0_0_58_0 inb_S1x1x2920x128_S1x1x40x128_0_0_2320_0,
    List.forall_mem_cons.2 ⟨piece_eq x0 x1 x2 x3 x4 57 2280 (by decide) rfl inb_S1x73x128x128_S1x1x128x128_0_57_0_0 inb_S1x1x73x128_S1x1x1x128_0_0_57_0 inb_S1x1x2920x128_S1x1x40x128_0_0_2280_0,
    List.forall_mem_cons.2 ⟨piece_eq x0 x1 x2 x3 x4 56 2240 (by decide) rfl inb_S1x73x128x128_S1x1x128x128_0_56_0_0 inb_S1x1x73x128_S1x1x1x128_0_0_56_0 inb_S1x1x2920x128_S1x1x40x128_0_0_2240_0,
    List.forall_mem_cons.2 ⟨piece_eq x0 x1 x2 x3 x4 55 2200 (by decide) rfl inb_S1x73x128x128_S1x1x128x128_0_55_0_0 inb_S1x1x73x128_S1x1x1x128_0_0_55_0 inb_S1x1x2920x128_S1x1x40x128_0_0_2200_0,
    List.forall_mem_cons.2 ⟨piece_eq x0 x1 x2 x3 x4 54 2160 (by decide) rfl inb_S1x73x128x128_S1x1x128x128_0_54_0_0 inb_S1x1x73x128_S1x1x1x128_0_0_54_0 inb_S1x1x2920x128_S1x1x40x128_0_0_2160_0,
    List.forall_mem_cons.2 ⟨piece_eq x0 x1 x2 x3 x4 53 2120 (by decide) rfl inb_S1x73x128x128_S1x1x128x128_0_53_0_0 inb_S1x1x73x128_S1x1x1x128_0_0_53_0 inb_S1x1x2920x128_S1x1x40x128_0_0_2120_0,
    List.forall_mem_cons.2 ⟨piece_eq x0 x1 x2 x3 x4 52 2080 (by decide) rfl inb_S1x73x128x128_S1x1x128x128_0_52_0_0 inb_S1x1x73x128_S1x1x1x128_0_0_52_0 inb_S1x1x2920x128_S1x1x40x128_0_0_2080_0,
    List.forall_mem_cons.2 ⟨piece_eq x0 x1 x2 x3 x4 51 2040 (by decide) rfl inb_S1x73x128x128_S1x1x128x128_0_51_0_0 inb_S1x1x73x128_S1x1x1x128_0_0_51_0 inb_S1x1x2920x128_S1x1x40x128_0_0_2040_0,
    List.forall_mem_cons.2 ⟨piece_eq x0 x1 x2 x3 x4 50 2000 (by decide) rfl inb_S1x73x128x128_S1x1x128x128_0_50_0_0 inb_S1x1x73x128_S1x1x1x128_0_0_50_0 inb_S1x1x2920x128_S1x1x40x128_0_0_2000_0,
    List.forall_mem_cons.2 ⟨piece_eq x0 x1 x2 x3 x4 49 1960 (by decide) rfl inb_S1x73x128x128_S1x1x128x128_0_49_0_0 inb_S1x1x73x128_S1x1x1x128_0_0_49_0 inb_S1x1x2920x128_S1x1x40x128_0_0_1960_0,
    List.forall_mem_cons.2 ⟨piece_eq x0 x1 x2 x3 x4 48 1920 (by decide) rfl inb_S1x73x128x128_S1x1x128x128_0_48_0_0 inb_S1x1x73x128_S1x1x1x128_0_0_48_0 inb_S1x1x2920x128_S1x1x40x128_0_0_1920_0,
    List.forall_mem_cons.2 ⟨piece_eq x0 x1 x2 x3 x4 47 1880 (by decide) rfl inb_S1x73x128x128_S1x1x128x128_0_47_0_0 inb_S1x1x73x128_S1x1x1x128_0_0_47_0 inb_S1x1x2920x128_S1x1x40x128_0_0_1880_0,
    List.forall_mem_cons.2 ⟨piece_eq x0 x1 x2 x3 x4 46 1840 (by decide) rfl inb_S1x73x128x128_S1x1x128x128_0_46_0_0 inb_S1x1x73x128_S1x1x1x128_0_0_46_0 inb_S1x1x2920x128_S1x1x40x128_0_0_1840_0,
    List.forall_mem_cons.2 ⟨piece_eq x0 x1 x2 x3 x4 45 1800 (by decide) rfl inb_S1x73x128x128_S1x1x128x128_0_45_0_0 inb_S1x1x73x128_S1x1x1x128_0_0_45_0 inb_S1x1x2920x128_S1x1x40x128_0_0_1800_0,
    List.forall_mem_cons.2 ⟨piece_eq x0 x1 x2 x3 x4 44 1760 (by decide) rfl inb_S1x73x128x128_S1x1x128x128_0_44_0_0 inb_S1x1x73x128_S1x1x1x128_0_0_44_0 inb_S1x1x2920x128_S1x1x40x128_0_0_1760_0,
    List.forall_mem_cons.2 ⟨piece_eq x0 x1 x2 x3 x4 43 1720 (by decide) rfl inb_S1x73x128x128_S1x1x128x128_0_43_0_0 inb_S1x1x73x128_S1x1x1x128_0_0_43_0 inb_S1x1x2920x128_S1x1x40x128_0_0_1720_0,
    List.forall_mem_cons.2 ⟨piece_eq x0 x1 x2 x3 x4 42 1680 (by decide) rfl inb_S1x73x128x128_S1x1x128x128_0_42_0_0 inb_S1x1x73x128_S1x1x1x128_0_0_42_0 inb_S1x1x2920x128_S1x1x40x128_0_0_1680_0,
    List.forall_mem_cons.2 ⟨piece_eq x0 x1 x2 x3 x4 41 1640 (by decide) rfl inb_S1x73x128x128_S1x1x128x128_0_41_0_0 inb_S1x1x73x128_S1x1x1x128_0_0_41_0 inb_S1x1x2920x128_S1x1x40x128_0_0_1640_0,
    List.forall_mem_cons.2 ⟨piece_eq x0 x1 x2 x3 x4 40 1600 (by decide) rfl inb_S1x73x128x128_S1x1x128x128_0_40_0_0 inb_S1x1x73x128_S1x1x1x128_0_0_40_0 inb_S1x1x2920x128_S1x1x40x128_0_0_1600_0,
    List.forall_mem_cons.2 ⟨piece_eq x0 x1 x2 x3 x4 39 1560 (by decide) rfl inb_S1x73x128x128_S1x1x128x128_0_39_0_0 inb_S1x1x73x128_S1x1x1x128_0_0_39_0 inb_S1x1x2920x128_S1x1x40x128_0_0_1560_0,
    List.forall_mem_cons.2 ⟨piece_eq x0 x1 x2 x3 x4 38 1520 (by decide) rfl inb_S1x73x128x128_S1x1x128x128_0_38_0_0 inb_S1x1x73x128_S1x1x1x128_0_0_38_0 inb_S1x1x2920x128_S1x1x40x128_0_0_1520_0,
    List.forall_mem_cons.2 ⟨piece_eq x0 x1 x2 x3 x4 37 1480 (by decide) rfl inb_S1x73x128x128_S1x1x128x128_0_37_0_0 inb_S1x1x73x128_S1x1x1x128_0_0_37_0 inb_S1x1x2920x128_S1x1x40x128_0_0_1480_0,
    List.forall_mem_cons.2 ⟨piece_eq x0 x1 x2 x3 x4 36 1440 (by decide) rfl inb_S1x73x128x128_S1x1x128x128_0_36_0_0 inb_S1x1x73x128_S1x1x1x128_0_0_36_0 inb_S1x1x2920x128_S1x1x40x128_0_0_1440_0,
    List.forall_mem_cons.2 ⟨piece_eq x0 x1 x2 x3 x4 35 1400 (by decide) rfl inb_S1x73x128x128_S1x1x128x128_0_35_0_0 inb_S1x1x73x128_S1x1x1x128_0_0_35_0 inb_S1x1x2920x128_S1x1x40x128_0_0_1400_0,
    List.forall_mem_cons.2 ⟨piece_eq x0 x1 x2 x3 x4 34 1360 (by decide) rfl inb_S1x73x128x128_S1x1x128x128_0_34_0_0 inb_S1x1x73x128_S1x1x1x128_0_0_34_0 inb_S1x1x2920x128_S1x1x40x128_0_0_1360_0,
    List.forall_mem_cons.2 ⟨piece_eq x0 x1 x2 x3 x4 33 1320 (by decide) rfl inb_S1x73x128x128_S1x1x128x128_0_33_0_0 inb_S1x1x73x128_S1x1x1x128_0_0_33_0 inb_S1x1x2920x128_S1x1x40x128_0_0_1320_0,
    List.forall_mem_cons.2 ⟨piece_eq x0 x1 x2 x3 x4 32 1280 (by decide) rfl inb_S1x73x128x128_S1x1x128x128_0_32_0_0 inb_S1x1x73x128_S1x1x1x128_0_0_32_0 inb_S1x1x2920x128_S1x1x40x128_0_0_1280_0,
    List.forall_mem_cons.2 ⟨piece_eq x0 x1 x2 x3 x4 31 1240 (by decide) rfl inb_S1x73x128x128_S1x1x128x128_0_31_0_0 inb_S1x1x73x128_S1x1x1x128_0_0_31_0 inb_S1x1x2920x128_S1x1x40x128_0_0_1240_0,
    List.forall_mem_cons.2 ⟨piece_eq x0 x1 x2 x3 x4 30 1200 (by decide) rfl inb_S1x73x128x128_S1x1x128x128_0_30_0_0 inb_S1x1x73x128_S1x1x1x128_0_0_30_0 inb_S1x1x2920x128_S1x1x40x128_0_0_1200_0,
    List.forall_mem_cons.2 ⟨piece_eq x0 x1 x2 x3 x4 29 1160 (by decide) rfl inb_S1x73x128x128_S1x1x128x128_0_29_0_0 inb_S1x1x73x128_S1x1x1x128_0_0_29_0 inb_S1x1x2920x128_S1x1x40x128_0_0_1160_0,
    List.forall_mem_cons.2 ⟨piece_eq x0 x1 x2 x3 x4 28 1120 (by decide) rfl inb_S1x73x128x128_S1x1x128x128_0_28_0_0 inb_S1x1x73x128_S1x1x1x128_0_0_28_0 inb_S1x1x2920x128_S1x1x40x128_0_0_1120_0,
    List.forall_mem_cons.2 ⟨piece_eq x0 x1 x2 x3 x4 27 1080 (by decide) rfl inb_S1x73x128x128_S1x1x128x128_0_27_0_0 inb_S1x1x73x128_S1x1x1x128_0_0_27_0 inb_S1x1x2920x128_S1x1x40x128_0_0_1080_0,
    List.forall_mem_cons.2 ⟨piece_eq x0 x1 x2 x3 x4 26 1040 (by decide) rfl inb_S1x73x128x128_S1x1x128x128_0_26_0_0 inb_S1x1x73x128_S1x1x1x128_0_0_26_0 inb_S1x1x2920x128_S1x1x40x128_0_0_1040_0,
    List.forall_mem_cons.2 ⟨piece_eq x0 x1 x2 x3 x4 25 1000 (by decide) rfl inb_S1x73x128x128_S1x1x128x128_0_25_0_0 inb_S1x1x73x128_S1x1x1x128_0_0_25_0 inb_S1x1x2920x128_S1x1x40x128_0_0_1000_0,
    List.forall_mem_cons.2 ⟨piece_eq x0 x1 x2 x3 x4 24 960 (by decide) rfl inb_S1x73x128x128_S1x1x128x128_0_24_0_0 inb_S1x1x73x128_S1x1x1x128_0_0_24_0 inb_S1x1x2920x128_S1x1x40x128_0_0_960_0,
    List.forall_mem_cons.2 ⟨piece_eq x0 x1 x2 x3 x4 23 920 (by decide) rfl inb_S1x73x128x128_S1x1x128x128_0_23_0_0 inb_S1x1x73x128_S1x1x1x128_0_0_23_0 inb_S1x1x2920x128_S1x1x40x128_0_0_920_0,
    List.forall_mem_cons.2 ⟨piece_eq x0 x1 x2 x3 x4 22 880 (by decide) rfl inb_S1x73x128x128_S1x1x128x128_0_22_0_0 inb_S1x1x73x128_S1x1x1x128_0_0_22_0 inb_S1x1x2920x128_S1x1x40x128_0_0_880_0,
    List.forall_mem_cons.2 ⟨piece_eq x0 x1 x2 x3 x4 21 840 (by decide) rfl inb_S1x73x128x128_S1x1x128x128_0_21_0_0 inb_S1x1x73x128_S1x1x1x128_0_0_21_0 inb_S1x1x2920x128_S1x1x40x128_0_0_840_0,
    List.forall_mem_cons.2 ⟨piece_eq x0 x1 x2 x3 x4 20 800 (by decide) rfl inb_S1x73x128x128_S1x1x128x128_0_20_0_0 inb_S1x1x73x128_S1x1x1x128_0_0_20_0 inb_S1x1x2920x128_S1x1x40x128_0_0_800_0,
    List.forall_mem_cons.2 ⟨piece_eq x0 x1 x2 x3 x4 19 760 (by decide) rfl inb_S1x73x128x128_S1x1x128x128_0_19_0_0 inb_S1x1x73x128_S1x1x1x128_0_0_19_0 inb_S1x1x2920x128_S1x1x40x128_0_0_760_0,
    List.forall_mem_cons.2 ⟨piece_eq x0 x1 x2 x3 x4 18 720 (by decide) rfl inb_S1x73x128x128_S1x1x128x128_0_18_0_0 inb_S1x1x73x128_S1x1x1x128_0_0_18_0 inb_S1x1x2920x128_S1x1x40x128_0_0_720_0,
    List.forall_mem_cons.2 ⟨piece_eq x0 x1 x2 x3 x4 17 680 (by decide) rfl inb_S1x73x128x128_S1x1x128x128_0_17_0_0 inb_S1x1x73x128_S1x1x1x128_0_0_17_0 inb_S1x1x2920x128_S1x1x40x128_0_0_680_0,
    List.forall_mem_cons.2 ⟨piece_eq x0 x1 x2 x3 x4 16 640 (by decide) rfl inb_S1x73x128x128_S1x1x128x128_0_16_0_0 inb_S1x1x73x128_S1x1x1x128_0_0_16_0 inb_S1x1x2920x128_S1x1x40x128_0_0_640_0,
    List.forall_mem_cons.2 ⟨piece_eq x0 x1 x2 x3 x4 15 600 (by decide) rfl inb_S1x73x128x128_S1x1x128x128_0_15_0_0 inb_S1x1x73x128_S1x1x1x128_0_0_15_0 inb_S1x1x2920x128_S1x1x40x128_0_0_600_0,
    List.forall_mem_cons.2 ⟨piece_eq x0 x1 x2 x3 x4 14 560 (by decide) rfl inb_S1x73x128x128_S1x1x128x128_0_14_0_0 inb_S1x1x73x128_S1x1x1x128_0_0_14_0 inb_S1x1x2920x128_S1x1x40x128_0_0_560_0,
    List.forall_mem_cons.2 ⟨piece_eq x0 x1 x2 x3 x4 13 520 (by decide) rfl inb_S1x73x128x128_S1x1x128x128_0_13_0_0 inb_S1x1x73x128_S1x1x1x128_0_0_13_0 inb_S1x1x2920x128_S1x1x40x128_0_0_520_0,
    List.forall_mem_cons.2 ⟨piece_eq x0 x1 x2 x3 x4 12 480 (by decide) rfl inb_S1x73x128x128_S1x1x128x128_0_12_0_0 inb_S1x1x73x128_S1x1x1x128_0_0_12_0 inb_S1x1x2920x128_S1x1x40x128_0_0_480_0,
    List.forall_mem_cons.2 ⟨piece_eq x0 x1 x2 x3 x4 11 440 (by decide) rfl inb_S1x73x128x128_S1x1x128x128_0_11_0_0 inb_S1x1x73x128_S1x1x1x128_0_0_11_0 inb_S1x1x2920x128_S1x1x40x128_0_0_440_0,
    List.forall_mem_cons.2 ⟨piece_eq x0 x1 x2 x3 x4 10 400 (by decide) rfl inb_S1x73x128x128_S1x1x128x128_0_10_0_0 inb_S1x1x73x128_S1x1x1x128_0_0_10_0 inb_S1x1x2920x128_S1x1x40x128_0_0_400_0,
    List.forall_mem_cons.2 ⟨piece_eq x0 x1 x2 x3 x4 9 360 (by decide) rfl inb_S1x73x128x128_S1x1x128x128_0_9_0_0 inb_S1x1x73x128_S1x1x1x128_0_0_9_0 inb_S1x1x2920x128_S1x1x40x128_0_0_360_0,
    List.forall_mem_cons.2 ⟨piece_eq x0 x1 x2 x3 x4 8 320 (by decide) rfl inb_S1x73x128x128_S1x1x128x128_0_8_0_0 inb_S1x1x73x128_S1x1x1x128_0_0_8_0 inb_S1x1x2920x128_S1x1x40x128_0_0_320_0,
    List.forall_mem_cons.2 ⟨piece_eq x0 x1 x2 x3 x4 7 280 (by decide) rfl inb_S1x73x128x128_S1x1x128x128_0_7_0_0 inb_S1x1x73x128_S1x1x1x128_0_0_7_0 inb_S1x1x2920x128_S1x1x40x128_0_0_280_0,
    List.forall_mem_cons.2 ⟨piece_eq x0 x1 x2 x3 x4 6 240 (by decide) rfl inb_S1x73x128x128_S1x1x128x128_0_6_0_0 inb_S1x1x73x128_S1x1x1x128_0_0_6_0 inb_S1x1x2920x128_S1x1x40x128_0_0_240_0,
    List.forall_mem_cons.2 ⟨piece_eq x0 x1 x2 x3 x4 5 200 (by decide) rfl inb_S1x73x128x128_S1x1x128x128_0_5_0_0 inb_S1x1x73x128_S1x1x1x128_0_0_5_0 inb_S1x1x2920x128_S1x1x40x128_0_0_200_0,
    List.forall_mem_cons.2 ⟨piece_eq x0 x1 x2 x3 x4 4 160 (by decide) rfl inb_S1x73x128x128_S1x1x128x128_0_4_0_0 inb_S1x1x73x128_S1x1x1x128_0_0_4_0 inb_S1x1x2920x128_S1x1x40x128_0_0_160_0,
    List.forall_mem_cons.2 ⟨piece_eq x0 x1 x2 x3 x4 3 120 (by decide) rfl inb_S1x73x128x128_S1x1x128x128_0_3_0_0 inb_S1x1x73x128_S1x1x1x128_0_0_3_0 inb_S1x1x2920x128_S1x1x40x128_0_0_120_0,
    List.forall_mem_cons.2 ⟨piece_eq x0 x1 x2 x3 x4 2 80 (by decide) rfl inb_S1x73x128x128_S1x1x128x128_0_2_0_0 inb_S1x1x73x128_S1x1x1x128_0_0_2_0 inb_S1x1x2920x128_S1x1x40x128_0_0_80_0,
    List.forall_mem_cons.2 ⟨piece_eq x0 x1 x2 x3 x4 1 40 (by decide) rfl inb_S1x73x128x128_S1x1x128x128_0_1_0_0 inb_S1x1x73x128_S1x1x1x128_0_0_1_0 inb_S1x1x2920x128_S1x1x40x128_0_0_40_0,
    List.forall_mem_cons.2 ⟨piece_eq x0 x1 x2 x3 x4 0 0 (by decide) rfl inb_S1x73x128x128_S1x1x128x128_0_0_0_0 inb_S1x1x73x128_S1x1x1x128_0_0_0_0 inb_S1x1x2920x128_S1x1x40x128_0_0_0_0,
    (by intro p hp; exact absurd hp List.not_mem_nil)⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩

end Cert.RelIdeal.Value

namespace Cert.RelRefIdeal.Value

open Cert.RelRefIdeal Cert.RelRefIdeal.Gen Idealize.ShloMosaic Idealize.ShloMosaic.TcCoe Idealize.SL.Sem

/-- The relation vectors, written plainly. -/
def refval (x0 : Vec Ideal S40x128 .fp8e4m3) (x1 : Vec Ideal S40x1 .f32) (x2 : Vec Ideal S6x128x438x128 .fp8e4m3)
    (x3 x4 : Vec Ideal S6x438x128 .f32) : Vec Ideal S6x438x40x128 .f32 := fun y =>
  (∑ k : Fin 128, x0 (ix2 (y 2) k) * x2 (ix4 (y 0) k (y 1) (y 3))) * x1 (ix2 (y 2) 0) * x3 (ix3 (y 0) (y 1) (y 3)) + x4 (ix3 (y 0) (y 1) (y 3))

theorem pay2_apply (v0 v3 v7 v11 v16) (r : Fin 438) (q : Fin 40) (d : Fin 128) :
    k0_pay2 (F := Ideal) v0 v3 v7 v11 v16 (ix4 0 r q d)
    = (∑ k : Fin 128, v3 (ix2 q k) * v0 (ix4 0 k r d)) * v7 (ix2 q 0) * v11 (ix3 0 r d) + v16 (ix3 0 r d) := by
  pointwise [k0_pay2]

theorem zero2 : (![0, 0] : Fin 2 → Nat) = fun _ => 0 := by funext a; fin_cases a <;> rfl

theorem piece_eq (x0 : Vec Ideal S40x128 .fp8e4m3) (x1 : Vec Ideal S40x1 .f32) (x2 : Vec Ideal S6x128x438x128 .fp8e4m3)
    (x3 x4 : Vec Ideal S6x438x128 .f32) (l : Nat) (hl : l < 6)
    (i2 : ∀ a, (![l, 0, 0, 0] : Fin 4 → Nat) a + S1x128x438x128.size a ≤ S6x128x438x128.size a)
    (i3 : ∀ a, (![l, 0, 0] : Fin 3 → Nat) a + S1x438x128.size a ≤ S6x438x128.size a)
    (i5 : ∀ a, (![l, 0, 0, 0] : Fin 4 → Nat) a + S1x438x40x128.size a ≤ S6x438x40x128.size a) (x : S1x438x40x128.Idx) :
    k0_pay2 (F := Ideal) (View.ld x2 (Rect.unit (s := S6x128x438x128) ![l, 0, 0, 0] S1x128x438x128.size i2)) (View.ld x0 r0_1) (View.ld x1 r0_2)
      (View.ld x3 (Rect.unit (s := S6x438x128) ![l, 0, 0] S1x438x128.size i3)) (View.ld x4 (Rect.unit (s := S6x438x128) ![l, 0, 0] S1x438x128.size i3)) x
    = refval x0 x1 x2 x3 x4 ((Rect.unit (s := S6x438x40x128) ![l, 0, 0, 0] S1x438x40x128.size i5).emb x) := by
  obtain ⟨r, q, d, rfl⟩ : ∃ (r : Fin 438) (q : Fin 40) (d : Fin 128), x = ix4 0 r q d := by
    idx_vars x
    exact ⟨x1, x2, x3, by rw [Subsingleton.elim x0 0]⟩
  rw [pay2_apply, View.ld_unit_zero (S := S40x128) zero2, View.ld_unit_zero (S := S40x1) zero2]
  have ee : (Rect.unit (s := S6x438x40x128) ![l, 0, 0, 0] S1x438x40x128.size i5).emb (ix4 0 r q d) = ix4 ⟨l, hl⟩ r q d := by
    funext a; apply Fin.ext
    match a with
    | ⟨0, _⟩ => show l + 1 * 0 = l; omega
    | ⟨1, _⟩ => show 0 + 1 * r.val = r.val; omega
    | ⟨2, _⟩ => show 0 + 1 * q.val = q.val; omega
    | ⟨3, _⟩ => show 0 + 1 * d.val = d.val; omega
  rw [ee]
  have l2 : ∀ k : Fin 128, View.ld x2 (Rect.unit (s := S6x128x438x128) ![l, 0, 0, 0] S1x128x438x128.size i2) (ix4 0 k r d) = x2 (ix4 ⟨l, hl⟩ k r d) := fun k => by
    refine congrArg x2 ?_
    funext a; apply Fin.ext
    match a with
    | ⟨0, _⟩ => show l + 1 * 0 = l; omega
    | ⟨1, _⟩ => show 0 + 1 * k.val = k.val; omega
    | ⟨2, _⟩ => show 0 + 1 * r.val = r.val; omega
    | ⟨3, _⟩ => show 0 + 1 * d.val = d.val; omega
  have l3 : ∀ z : Vec Ideal S6x438x128 .f32, View.ld z (Rect.unit (s := S6x438x128) ![l, 0, 0] S1x438x128.size i3) (ix3 0 r d) = z (ix3 ⟨l, hl⟩ r d) := fun z => by
    refine congrArg z ?_
    funext a; apply Fin.ext
    match a with
    | ⟨0, _⟩ => show l + 1 * 0 = l; omega
    | ⟨1, _⟩ => show 0 + 1 * r.val = r.val; omega
    | ⟨2, _⟩ => show 0 + 1 * d.val = d.val; omega
  rw [l3, l3]
  simp only [l2]
  rfl

/-- The reference's result is the relation vectors, written plainly. -/
theorem ref_out_eq (x0 : Vec Ideal S40x128 .fp8e4m3) (x1 : Vec Ideal S40x1 .f32) (x2 : Vec Ideal S6x128x438x128 .fp8e4m3)
    (x3 x4 : Vec Ideal S6x438x128 .f32) : out0_5 x0 x1 x2 x3 x4 = refval x0 x1 x2 x3 x4 := by
  funext y
  unfold out0_5
  refine View.canon_apply_of_pieces _ _ ?_ y (by apply cover0_5)
  refine List.forall_mem_cons.2 ⟨piece_eq x0 x1 x2 x3 x4 5 (by decide) inb_S6x128x438x128_S1x128x438x128_5_0_0_0 inb_S6x438x128_S1x438x128_5_0_0 inb_S6x438x40x128_S1x438x40x128_5_0_0_0,
    List.forall_mem_cons.2 ⟨piece_eq x0 x1 x2 x3 x4 4 (by decide) inb_S6x128x438x128_S1x128x438x128_4_0_0_0 inb_S6x438x128_S1x438x128_4_0_0 inb_S6x438x40x128_S1x438x40x128_4_0_0_0,
    List.forall_mem_cons.2 ⟨piece_eq x0 x1 x2 x3 x4 3 (by decide) inb_S6x128x438x128_S1x128x438x128_3_0_0_0 inb_S6x438x128_S1x438x128_3_0_0 inb_S6x438x40x128_S1x438x40x128_3_0_0_0,
    List.forall_mem_cons.2 ⟨piece_eq x0 x1 x2 x3 x4 2 (by decide) inb_S6x128x438x128_S1x128x438x128_2_0_0_0 inb_S6x438x128_S1x438x128_2_0_0 inb_S6x438x40x128_S1x438x40x128_2_0_0_0,
    List.forall_mem_cons.2 ⟨piece_eq x0 x1 x2 x3 x4 1 (by decide) inb_S6x128x438x128_S1x128x438x128_1_0_0_0 inb_S6x438x128_S1x438x128_1_0_0 inb_S6x438x40x128_S1x438x40x128_1_0_0_0,
    List.forall_mem_cons.2 ⟨piece_eq x0 x1 x2 x3 x4 0 (by decide) inb_S6x128x438x128_S1x128x438x128_0_0_0_0 inb_S6x438x128_S1x438x128_0_0_0 inb_S6x438x40x128_S1x438x40x128_0_0_0_0,
    (by intro p hp; exact absurd hp List.not_mem_nil)⟩⟩⟩⟩⟩⟩

end Cert.RelRefIdeal.Value
-- ==== Proof.RelEq.lean ====
/-
  The relation-vector program's result, index by index, and that it is the reference's.
-/
module

public import proofs.«01_k».proof.Proof.RelBlock
public import proofs.«01_k».proof.Proof.Gen.RelRefIdeal.Value
public import Idealize.ShloMosaic.Lib.Claim

@[expose] public section

set_option maxRecDepth 16384

noncomputable section

namespace Cert.RelIdeal.Value

open Cert.RelIdeal Cert.RelIdeal.Gen Idealize.ShloMosaic Idealize.ShloMosaic.TcCoe Idealize.SL.Sem
open Idealize.ShloMosaic.Pipeline (Dat)

variable (m : (ℓ : Loc nD τ sig) → Buf (Elt Ideal) ℓ)

/-! ## The arguments, and the arrays the host computes from them before the kernel starts -/

abbrev codes (c : Dev nD) : Vec Ideal S40x128 .fp8e4m3 := m ((c : Thread nD τ).loc main_arg0)
abbrev scales (c : Dev nD) : Vec Ideal S40x1 .f32 := m ((c : Thread nD τ).loc main_arg1)
abbrev wrel (c : Dev nD) : Vec Ideal S6x128x438x128 .fp8e4m3 := m ((c : Thread nD τ).loc main_arg2)
abbrev srel (c : Dev nD) : Vec Ideal S6x438x128 .f32 := m ((c : Thread nD τ).loc main_arg3)
abbrev brel (c : Dev nD) : Vec Ideal S6x438x128 .f32 := m ((c : Thread nD τ).loc main_arg4)

theorem v2_apply (c : Dev nD) (q : Fin 40) (k : Fin 128) :
    (V m c main_v2 : Vec Ideal S64x128 .fp8e4m3) (ix2 ⟨q.val, by omega⟩ k) = codes m c (ix2 q k) := by
  show StableHlo.after hostOps0 (fun b => m (c, b)) (Proc.devRef .tc main_v2) _ = _
  after_results
  pointwise []

theorem v3_apply (c : Dev nD) (l : Fin 6) (r : Fin 438) (k d : Fin 128) :
    (V m c main_v3 : Vec Ideal S6x438x128x128 .fp8e4m3) (ix4 l r k d) = wrel m c (ix4 l k r d) := by
  show StableHlo.after hostOps0 (fun b => m (c, b)) (Proc.devRef .tc main_v3) _ = _
  after_results
  pointwise []

theorem v4_apply (c : Dev nD) (l g : Fin 6) (j : Fin 73) (d : Fin 128) :
    (V m c main_v4 : Vec Ideal S6x6x73x128 .f32) (ix4 l g j d) = srel m c (ix3 l ⟨g.val * 73 + j.val, by omega⟩ d) := by
  show StableHlo.after hostOps0 (fun b => m (c, b)) (Proc.devRef .tc main_v4) _ = _
  after_results
  pointwise []

theorem v5_apply (c : Dev nD) (l g : Fin 6) (j : Fin 73) (d : Fin 128) :
    (V m c main_v5 : Vec Ideal S6x6x73x128 .f32) (ix4 l g j d) = brel m c (ix3 l ⟨g.val * 73 + j.val, by omega⟩ d) := by
  show StableHlo.after hostOps0 (fun b => m (c, b)) (Proc.devRef .tc main_v5) _ = _
  after_results
  pointwise []

/-! ## The blocks of the input windows -/

theorem iblk_0 (c : Dev nD) (t : Fin cfg0.N) : (iblk m c 0 t : Vec Ideal S64x128 .fp8e4m3) = V m c main_v2 := by
  have hz' : (fun a => win0_0.index t a * main_v2.ty.shape.size a) = fun _ => 0 := funext fun a => by fin_cases a <;> rfl
  exact Memref.read_access_unit_zero (Elt Ideal) main_v2 hz' (fun a => by rw [congrFun hz' a]; simp) (V m c main_v2)
theorem iblk_1 (c : Dev nD) (t : Fin cfg0.N) : (iblk m c 1 t : Vec Ideal S40x1 .f32) = scales m c := by
  have hz' : (fun a => win0_1.index t a * main_arg1.ty.shape.size a) = fun _ => 0 := funext fun a => by fin_cases a <;> rfl
  exact (Memref.read_access_unit_zero (Elt Ideal) main_arg1 hz' (fun a => by rw [congrFun hz' a]; simp) (V m c main_arg1)).trans (V_main_arg1 m c)

theorem index_2 (t : Fin cfg0.N) : win0_2.index t 0 = t.val / 6 ∧ win0_2.index t 1 = t.val % 6 ∧ win0_2.index t 2 = 0 ∧ win0_2.index t 3 = 0 :=
  (by decide +kernel : ∀ t : Fin grid0.N, win0_2.index t 0 = t.val / 6 ∧ win0_2.index t 1 = t.val % 6 ∧ win0_2.index t 2 = 0 ∧ win0_2.index t 3 = 0) t
theorem index_3 (t : Fin cfg0.N) : win0_3.index t 0 = t.val / 6 ∧ win0_3.index t 1 = t.val % 6 ∧ win0_3.index t 2 = 0 ∧ win0_3.index t 3 = 0 :=
  (by decide +kernel : ∀ t : Fin grid0.N, win0_3.index t 0 = t.val / 6 ∧ win0_3.index t 1 = t.val % 6 ∧ win0_3.index t 2 = 0 ∧ win0_3.index t 3 = 0) t
theorem index_4 (t : Fin cfg0.N) : win0_4.index t 0 = t.val / 6 ∧ win0_4.index t 1 = t.val % 6 ∧ win0_4.index t 2 = 0 ∧ win0_4.index t 3 = 0 :=
  (by decide +kernel : ∀ t : Fin grid0.N, win0_4.index t 0 = t.val / 6 ∧ win0_4.index t 1 = t.val % 6 ∧ win0_4.index t 2 = 0 ∧ win0_4.index t 3 = 0) t
theorem index_5 (t : Fin cfg0.N) : win0_5.index t 0 = t.val / 6 ∧ win0_5.index t 1 = t.val % 6 ∧ win0_5.index t 2 = 0 ∧ win0_5.index t 3 = 0 :=
  (by decide +kernel : ∀ t : Fin grid0.N, win0_5.index t 0 = t.val / 6 ∧ win0_5.index t 1 = t.val % 6 ∧ win0_5.index t 2 = 0 ∧ win0_5.index t 3 = 0) t

theorem lt36 (t : Fin cfg0.N) : t.val < 36 := by have := t.isLt; have h : cfg0.N = 36 := N_0; omega

/-- The layer and the group of relations of a grid point. -/
abbrev lay (t : Fin cfg0.N) : Fin 6 := ⟨t.val / 6, by have := lt36 t; omega⟩
abbrev grp (t : Fin cfg0.N) : Fin 6 := ⟨t.val % 6, by omega⟩

theorem iblk_2 (c : Dev nD) (t : Fin cfg0.N) (j : Fin 73) (k d : Fin 128) :
    (iblk m c 2 t : Vec Ideal S1x73x128x128 .fp8e4m3) (ix4 0 j k d) = wrel m c (ix4 (lay t) k ⟨(grp t).val * 73 + j.val, by omega⟩ d) := by
  have hi := index_2 t
  refine Eq.trans ?_ (v3_apply m c (lay t) ⟨(grp t).val * 73 + j.val, by omega⟩ k d)
  unfold iblk
  rw [View.read_apply]
  show V m c main_v3 _ = V m c main_v3 _
  congr 1
  funext a
  apply Fin.ext
  match a with
  | ⟨0, _⟩ => show win0_2.index t 0 * 1 + 1 * 0 = t.val / 6; rw [hi.1]; omega
  | ⟨1, _⟩ => show win0_2.index t 1 * 73 + 1 * j.val = t.val % 6 * 73 + j.val; rw [hi.2.1]; omega
  | ⟨2, _⟩ => show win0_2.index t 2 * 128 + 1 * k.val = k.val; rw [hi.2.2.1]; omega
  | ⟨3, _⟩ => show win0_2.index t 3 * 128 + 1 * d.val = d.val; rw [hi.2.2.2]; omega

theorem iblk_3 (c : Dev nD) (t : Fin cfg0.N) (j : Fin 73) (d : Fin 128) :
    (iblk m c 3 t : Vec Ideal S1x1x73x128 .f32) (ix4 0 0 j d) = srel m c (ix3 (lay t) ⟨(grp t).val * 73 + j.val, by omega⟩ d) := by
  have hi := index_3 t
  refine Eq.trans ?_ (v4_apply m c (lay t) (grp t) j d)
  unfold iblk
  rw [View.read_apply]
  show V m c main_v4 _ = V m c main_v4 _
  congr 1
  funext a
  apply Fin.ext
  match a with
  | ⟨0, _⟩ => show win0_3.index t 0 * 1 + 1 * 0 = t.val / 6; rw [hi.1]; omega
  | ⟨1, _⟩ => show win0_3.index t 1 * 1 + 1 * 0 = t.val % 6; rw [hi.2.1]; omega
  | ⟨2, _⟩ => show win0_3.index t 2 * 73 + 1 * j.val = j.val; rw [hi.2.2.1]; omega
  | ⟨3, _⟩ => show win0_3.index t 3 * 128 + 1 * d.val = d.val; rw [hi.2.2.2]; omega

theorem iblk_4 (c : Dev nD) (t : Fin cfg0.N) (j : Fin 73) (d : Fin 128) :
    (iblk m c 4 t : Vec Ideal S1x1x73x128 .f32) (ix4 0 0 j d) = brel m c (ix3 (lay t) ⟨(grp t).val * 73 + j.val, by omega⟩ d) := by
  have hi := index_4 t
  refine Eq.trans ?_ (v5_apply m c (lay t) (grp t) j d)
  unfold iblk
  rw [View.read_apply]
  show V m c main_v5 _ = V m c main_v5 _
  congr 1
  funext a
  apply Fin.ext
  match a with
  | ⟨0, _⟩ => show win0_4.index t 0 * 1 + 1 * 0 = t.val / 6; rw [hi.1]; omega
  | ⟨1, _⟩ => show win0_4.index t 1 * 1 + 1 * 0 = t.val % 6; rw [hi.2.1]; omega
  | ⟨2, _⟩ => show win0_4.index t 2 * 73 + 1 * j.val = j.val; rw [hi.2.2.1]; omega
  | ⟨3, _⟩ => show win0_4.index t 3 * 128 + 1 * d.val = d.val; rw [hi.2.2.2]; omega

/-! ## The result array -/

/-- One entry of the relation vectors, from the arguments. -/
def cell (c : Dev nD) (l : Fin 6) (r : Fin 438) (q : Fin 40) (d : Fin 128) : EReal :=
  (∑ k : Fin 128, codes m c (ix2 q k) * wrel m c (ix4 l k r d)) * scales m c (ix2 q 0) * srel m c (ix3 l r d) + brel m c (ix3 l r d)

def result (c : Dev nD) : Vec Ideal S6x6x2920x128 .f32 := fun y =>
  have h1 : (y 1).val < 6 := (y 1).isLt
  have h2 : (y 2).val < 2920 := (y 2).isLt
  cell m c (y 0) ⟨(y 1).val * 73 + (y 2).val / 40, by omega⟩ ⟨(y 2).val % 40, by omega⟩ (y 3)

theorem blockval_apply (x0 : Vec Ideal S64x128 .fp8e4m3) (x1 : Vec Ideal S40x1 .f32) (x2 : Vec Ideal S1x73x128x128 .fp8e4m3)
    (x3 x4 : Vec Ideal S1x1x73x128 .f32) (x : Fin 2920) (d : Fin 128) :
    blockval x0 x1 x2 x3 x4 (ix4 0 0 x d)
    = (∑ k : Fin 128, x0 (ix2 ⟨x.val % 40, by omega⟩ k) * x2 (ix4 0 ⟨x.val / 40, by omega⟩ k d))
      * x1 (ix2 ⟨x.val % 40, by omega⟩ 0) * x3 (ix4 0 0 ⟨x.val / 40, by omega⟩ d) + x4 (ix4 0 0 ⟨x.val / 40, by omega⟩ d) := rfl

theorem result_apply (c : Dev nD) (l g : Fin 6) (x : Fin 2920) (d : Fin 128) :
    result m c (ix4 l g x d) = cell m c l ⟨g.val * 73 + x.val / 40, by omega⟩ ⟨x.val % 40, by omega⟩ d := rfl

theorem block_eq (c : Dev nD) (t : Fin cfg0.N) (x : Fin 2920) (d : Fin 128) :
    blockval (iblk m c 0 t) (iblk m c 1 t) (iblk m c 2 t) (iblk m c 3 t) (iblk m c 4 t) (ix4 0 0 x d)
    = cell m c (lay t) ⟨(grp t).val * 73 + x.val / 40, by omega⟩ ⟨x.val % 40, by omega⟩ d := by
  rw [blockval_apply]
  rw [iblk_0, iblk_1, iblk_3, iblk_4]
  unfold cell
  have hs : ∀ k : Fin 128, (V m c main_v2 : Vec Ideal S64x128 .fp8e4m3) (ix2 ⟨x.val % 40, by omega⟩ k) = codes m c (ix2 ⟨x.val % 40, by omega⟩ k) :=
    fun k => v2_apply m c ⟨x.val % 40, by omega⟩ k
  simp only [hs, iblk_2]

theorem emb_5 (t : Fin cfg0.N) (x : Fin 2920) (d : Fin 128) : ((cfg0.win 5).blk t).view.emb (ix4 0 0 x d) = (ix4 (lay t) (grp t) x d : S6x6x2920x128.Idx) := by
  have hi := index_5 t
  funext a
  apply Fin.ext
  match a with
  | ⟨0, _⟩ => show win0_5.index t 0 * 1 + 1 * 0 = t.val / 6; rw [hi.1]; omega
  | ⟨1, _⟩ => show win0_5.index t 1 * 1 + 1 * 0 = t.val % 6; rw [hi.2.1]; omega
  | ⟨2, _⟩ => show win0_5.index t 2 * 2920 + 1 * x.val = x.val; rw [hi.2.2.1]; omega
  | ⟨3, _⟩ => show win0_5.index t 3 * 128 + 1 * d.val = d.val; rw [hi.2.2.2]; omega

theorem flushed_eq (c : Dev nD) (t : Fin cfg0.N) :
    (dats m 0 c).flushed 5 t = ((cfg0.win 5).blk t).view.read (Elt Ideal) (result m c) := by
  show (cfg0.win 5).cut (grid0.coords t) ((dats m 0 c).after 5 t) = _
  rw [after0_5, out_eq]
  refine funext fun (y : S1x1x2920x128.Idx) => ?_
  rw [View.read_apply]
  obtain ⟨x, d, rfl⟩ : ∃ (x : Fin 2920) (d : Fin 128), y = ix4 0 0 x d := by
    idx_vars y
    exact ⟨y2, y3, by rw [Subsingleton.elim y0 0, Subsingleton.elim y1 0]⟩
  refine (block_eq m c t x d).trans ?_
  exact (congrArg (result m c) (emb_5 t x d)).symm

theorem final_o (c : Dev nD) : (dats m 0 c).arrAt 5 cfg0.N = result m c :=
  (dats m 0 c).arrAt_eq_of_cover 5 (result m c) (fun t _ => flushed_eq m c t) fun i => by
    have hN : cfg0.N = 36 := N_0
    have h0 : (i 0 : Nat) < 6 := (i 0).isLt
    have h1 : (i 1 : Nat) < 6 := (i 1).isLt
    have h2 : (i 2 : Nat) < 2920 := (i 2).isLt
    have h3 : (i 3 : Nat) < 128 := (i 3).isLt
    obtain ⟨t, ht⟩ : ∃ t : Fin cfg0.N, t.val = (i 0).val * 6 + (i 1).val := ⟨⟨(i 0).val * 6 + (i 1).val, by rw [hN]; omega⟩, rfl⟩
    refine ⟨t, flush0_5 t, ?_⟩
    have hi := index_5 t
    show i ∈ ((View.whole main_v6).slice (win0_5.rect t)).set
    rw [View.set_slice_whole, Rect.mem_set_unit]
    intro a
    match a with
    | ⟨0, _⟩ =>
      show win0_5.index t 0 * 1 ≤ (i 0 : Nat) ∧ (i 0 : Nat) < win0_5.index t 0 * 1 + 1
      rw [hi.1]; omega
    | ⟨1, _⟩ =>
      show win0_5.index t 1 * 1 ≤ (i 1 : Nat) ∧ (i 1 : Nat) < win0_5.index t 1 * 1 + 1
      rw [hi.2.1]; omega
    | ⟨2, _⟩ =>
      show win0_5.index t 2 * 2920 ≤ (i 2 : Nat) ∧ (i 2 : Nat) < win0_5.index t 2 * 2920 + 2920
      rw [hi.2.2.1]; omega
    | ⟨3, _⟩ =>
      show win0_5.index t 3 * 128 ≤ (i 3 : Nat) ∧ (i 3 : Nat) < win0_5.index t 3 * 128 + 128
      rw [hi.2.2.2]; omega

/-! ## The host operation after the region -/

theorem tail_eq (c : Dev nD) (l : Fin 6) (r : Fin 438) (q : Fin 40) (d : Fin 128) :
    (Pipeline.afterTail₀ cfgs (dats m) 0 (V0 m) [hostOps1] c main_v7 : Vec Ideal S6x438x40x128 .f32) (ix4 l r q d) = cell m c l r q d := by
  have hw : Pipeline.withArrays (cfgs 0).spec c (V0 m c) (fun w => (dats m 0 c).arrAt w (cfgs 0).N) (Proc.devRef .tc main_v6) = result m c :=
    (Pipeline.withArrays_arr (cfgs 0).spec (by decide) c (V0 m c) _ 5).trans (final_o m c)
  have h : (Pipeline.afterTail₀ cfgs (dats m) 0 (V0 m) [hostOps1] c main_v7 : Vec Ideal S6x438x40x128 .f32)
      = shapeCast S6x438x40x128 (result m c) shapeCasts_S6x6x2920x128_S6x438x40x128 := by
    unfold Pipeline.afterTail₀
    generalize Pipeline.withArrays (cfgs 0).spec c (V0 m c) (fun w => (dats m 0 c).arrAt w (cfgs 0).N) = W at hw ⊢
    rw [← hw]
    show StableHlo.after hostOps1 W (Proc.devRef .tc main_v7) = _
    after_results
    rfl
  rw [h]
  pointwise []
  rw [result_apply]
  congr 1
  all_goals (apply Fin.ext; dsimp only; omega)

/-- The kernel program's result is the reference's function of the arguments. -/
theorem value_eq (c : Dev nD) :
    (Pipeline.afterTail₀ cfgs (dats m) 0 (V0 m) [hostOps1] c main_v7 : Vec Ideal S6x438x40x128 .f32)
    = Cert.RelRefIdeal.Value.refval (codes m c) (scales m c) (wrel m c) (srel m c) (brel m c) := by
  refine funext fun (y : S6x438x40x128.Idx) => ?_
  idx_vars y
  rw [tail_eq]
  rfl

end Cert.RelIdeal.Value

namespace Cert.RelRefIdeal.Value

open Cert.RelRefIdeal Cert.RelRefIdeal.Gen Idealize.ShloMosaic Idealize.ShloMosaic.TcCoe Idealize.SL.Sem

/-- The reference program's function of its arguments is the relation vectors, written plainly. -/
theorem G5_eq (a0 : Vec Ideal S40x128 .fp8e4m3) (a1 : Vec Ideal S40x1 .f32) (a2 : Vec Ideal S6x128x438x128 .fp8e4m3)
    (a3 a4 : Vec Ideal S6x438x128 .f32) : G5 a0 a1 a2 a3 a4 = refval a0 a1 a2 a3 a4 :=
  (out5_eq a0 a1 a2 a3 a4).symm.trans (ref_out_eq a0 a1 a2 a3 a4)

end Cert.RelRefIdeal.Value
-- ==== Proof.DenseFn.lean ====
/-
  The functions of one node row (128 entries) that the dense part of a layer computes: the row's scale and
  codes, the two scaled products, the layer norm, and the new row. Kernel and reference are both read into
  these; the facts that the kernel's and the reference's way of writing the layer norm agree are at the end.
-/
module

public import Idealize.ShloMosaic.Lib.Pointwise
public import Idealize.ShloMosaic.Lib.IdealHost

@[expose] public section

noncomputable section

namespace Cert.DenseFn

open Idealize.ShloMosaic

/-- The power of two number `x`, from its exponent bits. -/
def pow (x : Fin 254) : EReal :=
  Ideal.ofBits .f32 (IntOp.shli ArithUnit.vector (IntOp.addi (BitVec.ofNat 32 x.val) 1#32) 23#32)

/-- The row's largest magnitude over 448. -/
def amax (v : Fin 128 → EReal) : EReal :=
  Finset.fold max (Ideal.ofBits .f32 0xFF800000#32) (fun x => FloatOps.absf (F := Ideal) (φ := .f32) (v x)) Finset.univ
    * Ideal.ofBits .f32 0x3B124925#32

/-- The least power of two above a row maximum, one for a zero row. -/
def up (t : EReal) : EReal :=
  if t = 0 then 1 else Finset.fold min (Ideal.ofBits .f32 0x7F800000#32)
    (fun x => if t < pow x then pow x else Ideal.ofBits .f32 2130706432#32) Finset.univ

/-- A row's scale. -/
def qscale (v : Fin 128 → EReal) : EReal := up (amax v)

/-- A row's code of entry `e`. -/
def qcode (v : Fin 128 → EReal) (e : Fin 128) : EReal :=
  min (Ideal.ofBits .f32 0x43E00000#32) (max (Ideal.ofBits .f32 0xC3E00000#32) (v e * Ideal.div 1 (qscale v)))

/-- An entry less the row's mean. -/
def cen (y : Fin 128 → EReal) (i : Fin 128) : EReal := y i - (∑ x, y x) * Ideal.ofBits .f32 0x3C000000#32

/-- The root of the row's variance, the small constant added. -/
def sdev (y : Fin 128 → EReal) : EReal :=
  Ideal.sqrt ((∑ x, cen y x * cen y x) * Ideal.ofBits .f32 0x3C000000#32 + Ideal.ofBits .f32 0x3727C5AC#32)

/-- The new row: the old one and the clamped layer norm. -/
def newrow (hc : Fin 128 → EReal) (hs : EReal) (g b y : Fin 128 → EReal) (i : Fin 128) : EReal :=
  hc i * hs + max (cen y i * Ideal.div 1 (sdev y) * g i + b i) 0

/-- The linear part of a row: the row's own product and the message's product, each with its scales, and the bias. -/
def lin (ws wa : Fin 128 → Fin 128 → EReal) (ss sa bl hc : Fin 128 → EReal) (hs : EReal) (uc : Fin 128 → EReal) (us : EReal)
    (i : Fin 128) : EReal :=
  (∑ x, hc x * ws x i) * hs * ss i + (∑ x, uc x * wa x i) * us * sa i + bl i

/-- The new row, from the old row's codes and scale and the summed message. -/
def outrow (ws wa : Fin 128 → Fin 128 → EReal) (ss sa bl g b hc : Fin 128 → EReal) (hs : EReal) (u : Fin 128 → EReal) : Fin 128 → EReal :=
  newrow hc hs g b (lin ws wa ss sa bl hc hs (qcode u) (qscale u))

theorem c128 : Ideal.ofBits .f32 0x43000000#32 = ((128 : ℝ) : EReal) := by
  simp [Ideal.ofBits, Ideal.ieee, -EReal.coe_mul]; norm_num

theorem c128inv : Ideal.ofBits .f32 0x3C000000#32 = ((1 / 128 : ℝ) : EReal) := by
  simp [Ideal.ofBits, Ideal.ieee, -EReal.coe_mul]; norm_num

theorem eps_pos : 0 < Ideal.ofBits .f32 0x3727C5AC#32 := by
  simp [Ideal.ofBits, Ideal.ieee, -EReal.coe_mul]

/-- Division by 128 is multiplication by 1/128. -/
theorem div128 (x : EReal) : Ideal.div x (Ideal.ofBits .f32 0x43000000#32) = x * Ideal.ofBits .f32 0x3C000000#32 := by
  rw [c128, c128inv]; exact Ideal.div_coe (by norm_num) x

theorem sq_nonneg (x : EReal) : 0 ≤ x * x := by
  rcases le_total 0 x with h | h
  · exact mul_nonneg h h
  · have := mul_nonneg (EReal.neg_nonneg.2 h) (EReal.neg_nonneg.2 h)
    rwa [neg_mul_neg] at this

theorem sqrt_ne_zero {x : EReal} (h : 0 < x) : Ideal.sqrt x ≠ 0 := by
  induction x using EReal.rec with
  | bot => exact absurd h (by simp)
  | top => simp
  | coe r =>
    have hr : 0 < r := by exact_mod_cast h
    rw [Ideal.sqrt_coe, if_neg (not_lt.2 hr.le)]
    have := Real.sqrt_pos.2 hr
    exact_mod_cast this.ne'

/-- The root is not zero: the variance is not negative and the constant is positive. -/
theorem sdev_ne_zero (y : Fin 128 → EReal) : sdev y ≠ 0 := by
  refine sqrt_ne_zero (lt_of_lt_of_le eps_pos (le_add_of_nonneg_left (mul_nonneg (Finset.sum_nonneg fun x _ => sq_nonneg _) ?_)))
  rw [c128inv]; exact_mod_cast (by norm_num : (0 : ℝ) ≤ 1 / 128)

end Cert.DenseFn
end
-- ==== Proof.DenseBlock.lean ====
/-
  A block of the dense part of a layer: two trips of the loop, five tiles of 256 lanes each. The five tiles run the
  same operations; every tile's stored values are read into the row functions of DenseFn.
-/
module

public import proofs.«01_k».proof.Proof.Gen.DenseIdeal.Frame
public import proofs.«01_k».proof.Proof.DenseFn
public import Idealize.ShloMosaic.Lib.Pipeline.Value
public import Idealize.ShloMosaic.Lib.Pointwise

@[expose] public section

set_option maxRecDepth 16384

noncomputable section

namespace Cert.DenseIdeal.Value

open Cert.DenseIdeal Cert.DenseIdeal.Gen Idealize.ShloMosaic Idealize.ShloMosaic.TcCoe Idealize.SL.Sem Cert.DenseFn
open Idealize.ShloMosaic.Pipeline (Dat)

/-- Every lane's largest magnitude. -/
def xY (Y : FVec Ideal S128x256 .f32) : FVec Ideal S1x256 .f32 :=
  shapeCast S1x256 (multiReduction .maximumf [0] S256 (absf Y) 0xFF800000#32 reduces_S128x256_S256 (.inl rfl) rfl) shapeCasts_S256_S1x256

/-- Every lane's maximum over 448. -/
def tY (Y : FVec Ideal S128x256 .f32) : FVec Ideal S1x256 .f32 :=
  mulf (xY Y) (broadcast S1x256 (Scalar.ofBits .f32 0x3B124925#32))

/-- Every lane's least power of two above `T`, one where `T` is zero. -/
def mY (T : FVec Ideal S1x256 .f32) : FVec Ideal S1x256 .f32 :=
  select (cmpf .oeq T (broadcast S1x256 (Scalar.ofBits .f32 0x00000000#32))) (broadcast S1x256 (Scalar.ofBits .f32 0x3F800000#32))
    (shapeCast S1x256 (multiReduction .minimumf [0] S256 (select (cmpf .olt (broadcastTo S254x256 T broadcasts_S1x256_S254x256) k0_pay22) k0_pay22 k0_pay23) 0x7F800000#32 reduces_S254x256_S256 (.inl rfl) rfl) shapeCasts_S256_S1x256)

/-- Every lane's scale. -/
def sY (Y : FVec Ideal S128x256 .f32) : FVec Ideal S1x256 .f32 := mY (tY Y)

/-- Every lane's codes. -/
def codes (Y : FVec Ideal S128x256 .f32) : FVec Ideal S128x256 .fp8e4m3 :=
  truncf .fp8e4m3 (minimumf (broadcast S128x256 (Scalar.ofBits .f32 0x43E00000#32)) (maximumf (broadcast S128x256 (Scalar.ofBits .f32 0xC3E00000#32))
    (mulf Y (broadcastTo S128x256 (divf (broadcast S1x256 (Scalar.ofBits .f32 0x3F800000#32)) (sY Y)) broadcasts_S1x256_S128x256)))) bitsLt_fp8e4m3_f32

/-- One constant column, twice side by side. -/
def twice (c : Vec Ideal S1x128x128 .f32) : FVec Ideal S128x256 .f32 :=
  concatenate S128x256 1 [⟨S128x128, shapeCast S128x128 c shapeCasts_S1x128x128_S128x128⟩, ⟨S128x128, shapeCast S128x128 c shapeCasts_S1x128x128_S128x128⟩] concatenates_S128x128_S128x128_S128x256_d1

/-- The two products at once. -/
def dY (uc hc : FVec Ideal S128x256 .fp8e4m3) (w : Vec Ideal S256x256 .fp8e4m3) : FVec Ideal S256x256 .f32 :=
  matmul dot_S256x256_S256x256_S256x256_1_0_0_1_n_n none (shapeCast S256x256 w shapeCasts_S256x256_S256x256 : FVec Ideal S256x256 .fp8e4m3)
    (concatenate S256x256 0 [⟨S128x256, hc⟩, ⟨S128x256, uc⟩] concatenates_S128x256_S128x256_S256x256_d0) (constant S256x256 .f32 0x00000000#32)

/-- The linear part. -/
def yY (us : FVec Ideal S1x256 .f32) (uc hc : FVec Ideal S128x256 .fp8e4m3) (hs : FVec Ideal S1x256 .f32) (w : Vec Ideal S256x256 .fp8e4m3)
    (c0 c1 c2 : Vec Ideal S1x128x128 .f32) : FVec Ideal S128x256 .f32 :=
  addf (addf (mulf (mulf (extractStridedSlice S128x256 ![0, 0] (dY uc hc w) slices_S256x256_o0_0_S128x256) (broadcastTo S128x256 hs broadcasts_S1x256_S128x256)) (twice c0))
    (mulf (mulf (extractStridedSlice S128x256 ![128, 0] (dY uc hc w) slices_S256x256_o128_0_S128x256) (broadcastTo S128x256 us broadcasts_S1x256_S128x256)) (twice c1)))
    (twice c2)

/-- The layer norm's centred entries. -/
def cY (Y : FVec Ideal S128x256 .f32) : FVec Ideal S128x256 .f32 :=
  subf Y (broadcastTo S128x256 (mulf (shapeCast S1x256 (multiReduction .add [0] S256 Y 0x00000000#32 reduces_S128x256_S256 (.inl rfl) rfl) shapeCasts_S256_S1x256)
    (broadcast S1x256 (Scalar.ofBits .f32 0x3C000000#32))) broadcasts_S1x256_S128x256)

/-- The layer norm's root. -/
def rY (D : FVec Ideal S128x256 .f32) : FVec Ideal S1x256 .f32 :=
  sqrt (addf (mulf (shapeCast S1x256 (multiReduction .add [0] S256 (mulf D D) 0x00000000#32 reduces_S128x256_S256 (.inl rfl) rfl) shapeCasts_S256_S1x256)
    (broadcast S1x256 (Scalar.ofBits .f32 0x3C000000#32))) (broadcast S1x256 (Scalar.ofBits .f32 0x3727C5AC#32)))

/-- The new rows. -/
def nY (hc : FVec Ideal S128x256 .fp8e4m3) (hs : FVec Ideal S1x256 .f32) (D : FVec Ideal S128x256 .f32) (R : FVec Ideal S1x256 .f32) (c3 c4 : Vec Ideal S1x128x128 .f32) :
    FVec Ideal S128x256 .f32 :=
  addf (mulf (extf .f32 hc bitsLt_fp8e4m3_f32) (broadcastTo S128x256 hs broadcasts_S1x256_S128x256))
    (maximumf (addf (mulf (mulf D (broadcastTo S128x256 (divf (broadcast S1x256 (Scalar.ofBits .f32 0x3F800000#32)) R) broadcasts_S1x256_S128x256)) (twice c3)) (twice c4))
      (broadcast S128x256 (Scalar.ofBits .f32 0x00000000#32)))

/-- The new rows of a tile, from the tile's loads. -/
def newv (u : Vec Ideal S256x128 .f32) (hc : Vec Ideal S1x128x256 .fp8e4m3) (hs : Vec Ideal S1x1x256 .f32) (w : Vec Ideal S256x256 .fp8e4m3)
    (c0 c1 c2 c3 c4 : Vec Ideal S1x128x128 .f32) : FVec Ideal S128x256 .f32 :=
  nY (k0_pay8 hc) (k0_pay9 hs) (cY (yY (sY (k0_pay5 u)) (codes (k0_pay5 u)) (k0_pay8 hc) (k0_pay9 hs) w c0 c1 c2))
    (rY (cY (yY (sY (k0_pay5 u)) (codes (k0_pay5 u)) (k0_pay8 hc) (k0_pay9 hs) w c0 c1 c2))) c3 c4

def o6 (u : Vec Ideal S256x128 .f32) (hc : Vec Ideal S1x128x256 .fp8e4m3) (hs : Vec Ideal S1x1x256 .f32) (w : Vec Ideal S256x256 .fp8e4m3)
    (c0 c1 c2 c3 c4 : Vec Ideal S1x128x128 .f32) : FVec Ideal S1x128x256 .fp8e4m3 :=
  shapeCast S1x128x256 (codes (newv u hc hs w c0 c1 c2 c3 c4)) shapeCasts_S128x256_S1x128x256

def o7 (u : Vec Ideal S256x128 .f32) (hc : Vec Ideal S1x128x256 .fp8e4m3) (hs : Vec Ideal S1x1x256 .f32) (w : Vec Ideal S256x256 .fp8e4m3)
    (c0 c1 c2 c3 c4 : Vec Ideal S1x128x128 .f32) : FVec Ideal S1x1x256 .f32 :=
  shapeCast S1x1x256 (sY (newv u hc hs w c0 c1 c2 c3 c4)) shapeCasts_S1x256_S1x1x256

def o8 (u : Vec Ideal S256x128 .f32) : FVec Ideal S1x128x256 .fp8e4m3 := shapeCast S1x128x256 (codes (k0_pay5 u)) shapeCasts_S128x256_S1x128x256

def o9 (u : Vec Ideal S256x128 .f32) : FVec Ideal S1x1x256 .f32 := shapeCast S1x1x256 (sY (k0_pay5 u)) shapeCasts_S1x256_S1x1x256

section Chains
variable (u : Vec Ideal S256x128 .f32) (hc : Vec Ideal S1x128x256 .fp8e4m3) (hs : Vec Ideal S1x1x256 .f32) (w : Vec Ideal S256x256 .fp8e4m3)
    (c0 c1 c2 c3 c4 : Vec Ideal S1x128x128 .f32)

theorem s0 : k0_pay6 (F := Ideal) u = sY (k0_pay5 u) := rfl
theorem q0 : k0_pay7 (F := Ideal) u = codes (k0_pay5 u) := rfl
theorem d0 (us uc v42 v45) : k0_pay10 (F := Ideal) us uc v42 v45 w c0 c1 c2 = cY (yY us uc v42 (k0_pay9 v45) w c0 c1 c2) := rfl
theorem r0 (us uc v42 v45) : k0_pay11 (F := Ideal) us uc v42 v45 w c0 c1 c2 = rY (k0_pay10 us uc v42 v45 w c0 c1 c2) := rfl
theorem n0 (v42 v45 v74 v82) : k0_pay14 (F := Ideal) v42 v45 v74 v82 (k0_pay12 (F := Ideal)) c3 c4 = sY (nY v42 v45 v74 v82 c3 c4) := rfl
theorem k0 (v42 v45 v74 v82) : k0_pay16 (F := Ideal) (k0_pay15 (F := Ideal) v42 v45 v74 v82 (k0_pay12 (F := Ideal)) c3 c4) (Scalar.ofBits .f32 0xC3E00000#32)
    = shapeCast S1x128x256 (codes (nY v42 v45 v74 v82 c3 c4)) shapeCasts_S128x256_S1x128x256 := rfl

theorem chain6_0 : k0_pay16 (F := Ideal) (k0_pay15 (F := Ideal) (k0_pay8 hc) (k0_pay9 hs) (k0_pay10 (k0_pay6 u) (k0_pay7 u) (k0_pay8 hc) hs w c0 c1 c2)
      (k0_pay11 (k0_pay6 u) (k0_pay7 u) (k0_pay8 hc) hs w c0 c1 c2) (k0_pay12 (F := Ideal)) c3 c4) (Scalar.ofBits .f32 0xC3E00000#32) = o6 u hc hs w c0 c1 c2 c3 c4 := by
  rw [k0, r0, d0, s0, q0]; rfl
theorem chain7_0 : k0_pay17 (F := Ideal) (k0_pay14 (F := Ideal) (k0_pay8 hc) (k0_pay9 hs) (k0_pay10 (k0_pay6 u) (k0_pay7 u) (k0_pay8 hc) hs w c0 c1 c2)
      (k0_pay11 (k0_pay6 u) (k0_pay7 u) (k0_pay8 hc) hs w c0 c1 c2) (k0_pay12 (F := Ideal)) c3 c4) = o7 u hc hs w c0 c1 c2 c3 c4 := by
  rw [n0, r0, d0, s0, q0]; rfl
theorem chain8_0 : k0_pay18 (F := Ideal) (k0_pay7 u) = o8 u := rfl
theorem chain9_0 : k0_pay19 (F := Ideal) (k0_pay6 u) = o9 u := rfl

theorem s2 : k0_pay41 (F := Ideal) u = sY (k0_pay5 u) := rfl
theorem q2 : k0_pay42 (F := Ideal) u = codes (k0_pay5 u) := rfl
theorem d2 (us uc v42 v45) : k0_pay45 (F := Ideal) us uc v42 v45 w c0 c1 c2 = cY (yY us uc v42 (k0_pay9 v45) w c0 c1 c2) := rfl
theorem r2 (us uc v42 v45) : k0_pay46 (F := Ideal) us uc v42 v45 w c0 c1 c2 = rY (k0_pay45 us uc v42 v45 w c0 c1 c2) := rfl
theorem n2 (v42 v45 v74 v82) : k0_pay49 (F := Ideal) v42 v45 v74 v82 (k0_pay47 (F := Ideal)) c3 c4 = sY (nY v42 v45 v74 v82 c3 c4) := rfl
theorem k2 (v42 v45 v74 v82) : k0_pay51 (F := Ideal) (k0_pay50 (F := Ideal) v42 v45 v74 v82 (k0_pay47 (F := Ideal)) c3 c4) (Scalar.ofBits .f32 0xC3E00000#32)
    = shapeCast S1x128x256 (codes (nY v42 v45 v74 v82 c3 c4)) shapeCasts_S128x256_S1x128x256 := rfl

theorem chain6_2 : k0_pay51 (F := Ideal) (k0_pay50 (F := Ideal) (k0_pay43 hc) (k0_pay44 hs) (k0_pay45 (k0_pay41 u) (k0_pay42 u) (k0_pay43 hc) hs w c0 c1 c2)
      (k0_pay46 (k0_pay41 u) (k0_pay42 u) (k0_pay43 hc) hs w c0 c1 c2) (k0_pay47 (F := Ideal)) c3 c4) (Scalar.ofBits .f32 0xC3E00000#32) = o6 u hc hs w c0 c1 c2 c3 c4 := by
  rw [k2, r2, d2, s2, q2]; rfl
theorem chain7_2 : k0_pay52 (F := Ideal) (k0_pay49 (F := Ideal) (k0_pay43 hc) (k0_pay44 hs) (k0_pay45 (k0_pay41 u) (k0_pay42 u) (k0_pay43 hc) hs w c0 c1 c2)
      (k0_pay46 (k0_pay41 u) (k0_pay42 u) (k0_pay43 hc) hs w c0 c1 c2) (k0_pay47 (F := Ideal)) c3 c4) = o7 u hc hs w c0 c1 c2 c3 c4 := by
  rw [n2, r2, d2, s2, q2]; rfl
theorem chain8_2 : k0_pay53 (F := Ideal) (k0_pay42 u) = o8 u := rfl
theorem chain9_2 : k0_pay54 (F := Ideal) (k0_pay41 u) = o9 u := rfl

theorem s4 : k0_pay76 (F := Ideal) u = sY (k0_pay5 u) := rfl
theorem q4 : k0_pay77 (F := Ideal) u = codes (k0_pay5 u) := rfl
theorem d4 (us uc v42 v45) : k0_pay80 (F := Ideal) us uc v42 v45 w c0 c1 c2 = cY (yY us uc v42 (k0_pay9 v45) w c0 c1 c2) := rfl
theorem r4 (us uc v42 v45) : k0_pay81 (F := Ideal) us uc v42 v45 w c0 c1 c2 = rY (k0_pay80 us uc v42 v45 w c0 c1 c2) := rfl
theorem n4 (v42 v45 v74 v82) : k0_pay84 (F := Ideal) v42 v45 v74 v82 (k0_pay82 (F := Ideal)) c3 c4 = sY (nY v42 v45 v74 v82 c3 c4) := rfl
theorem k4 (v42 v45 v74 v82) : k0_pay1 (F := Ideal) (k0_pay85 (F := Ideal) v42 v45 v74 v82 (k0_pay82 (F := Ideal)) c3 c4) (Scalar.ofBits .f32 0xC3E00000#32)
    = shapeCast S1x128x256 (codes (nY v42 v45 v74 v82 c3 c4)) shapeCasts_S128x256_S1x128x256 := rfl

theorem chain6_4 : k0_pay1 (F := Ideal) (k0_pay85 (F := Ideal) (k0_pay78 hc) (k0_pay79 hs) (k0_pay80 (k0_pay76 u) (k0_pay77 u) (k0_pay78 hc) hs w c0 c1 c2)
      (k0_pay81 (k0_pay76 u) (k0_pay77 u) (k0_pay78 hc) hs w c0 c1 c2) (k0_pay82 (F := Ideal)) c3 c4) (Scalar.ofBits .f32 0xC3E00000#32) = o6 u hc hs w c0 c1 c2 c3 c4 := by
  rw [k4, r4, d4, s4, q4]; rfl
theorem chain7_4 : k0_pay2 (F := Ideal) (k0_pay84 (F := Ideal) (k0_pay78 hc) (k0_pay79 hs) (k0_pay80 (k0_pay76 u) (k0_pay77 u) (k0_pay78 hc) hs w c0 c1 c2)
      (k0_pay81 (k0_pay76 u) (k0_pay77 u) (k0_pay78 hc) hs w c0 c1 c2) (k0_pay82 (F := Ideal)) c3 c4) = o7 u hc hs w c0 c1 c2 c3 c4 := by
  rw [n4, r4, d4, s4, q4]; rfl
theorem chain8_4 : k0_pay3 (F := Ideal) (k0_pay77 u) = o8 u := rfl
theorem chain9_4 : k0_pay4 (F := Ideal) (k0_pay76 u) = o9 u := rfl

theorem s1 : k0_pay24 (F := Ideal) (k0_pay21 u) (k0_pay22 (F := Ideal)) (k0_pay23 (F := Ideal)) = sY (k0_pay5 u) := rfl
theorem q1 : k0_pay25 (F := Ideal) (k0_pay20 u) (k0_pay21 u) (k0_pay22 (F := Ideal)) (k0_pay23 (F := Ideal)) = codes (k0_pay5 u) := rfl
theorem y1 (us) : k0_pay29 (F := Ideal) (k0_pay5 u) us (k0_pay22 (F := Ideal)) (k0_pay23 (F := Ideal)) hc hs w c0
    = mulf (mulf (extractStridedSlice S128x256 ![0, 0] (dY (k0_pay25 (F := Ideal) (k0_pay5 u) us (k0_pay22 (F := Ideal)) (k0_pay23 (F := Ideal))) (k0_pay8 hc) w) slices_S256x256_o0_0_S128x256) (broadcastTo S128x256 (k0_pay9 hs) broadcasts_S1x256_S128x256)) (twice c0) := rfl
theorem z1 (us) : k0_pay30 (F := Ideal) (k0_pay5 u) us (k0_pay22 (F := Ideal)) (k0_pay23 (F := Ideal)) hc w
    = mulf (extractStridedSlice S128x256 ![128, 0] (dY (k0_pay25 (F := Ideal) (k0_pay5 u) us (k0_pay22 (F := Ideal)) (k0_pay23 (F := Ideal))) (k0_pay8 hc) w) slices_S256x256_o128_0_S128x256) (broadcastTo S128x256 (k0_pay24 (F := Ideal) us (k0_pay22 (F := Ideal)) (k0_pay23 (F := Ideal))) broadcasts_S1x256_S128x256) := rfl
theorem n1 (v42 v45 a b d) : k0_pay32 (F := Ideal) v42 v45 a b d c2 c3 c4 = nY v42 v45 (cY (addf (addf a (mulf b d)) (twice c2))) (rY (cY (addf (addf a (mulf b d)) (twice c2)))) c3 c4 := rfl
theorem t1 (v42 v45 a b d) : k0_pay33 (F := Ideal) v42 v45 a b d c2 c3 c4 = xY (k0_pay32 (F := Ideal) v42 v45 a b d c2 c3 c4) := rfl
theorem new1 : k0_pay32 (F := Ideal) (k0_pay26 hc) (k0_pay27 hs) (k0_pay29 (k0_pay20 u) (k0_pay21 u) (k0_pay22 (F := Ideal)) (k0_pay23 (F := Ideal)) hc hs w c0) (k0_pay30 (k0_pay20 u) (k0_pay21 u) (k0_pay22 (F := Ideal)) (k0_pay23 (F := Ideal)) hc w) (k0_pay31 c1) c2 c3 c4 = newv u hc hs w c0 c1 c2 c3 c4 := by
  rw [n1]
  rw [show k0_pay20 (F := Ideal) u = k0_pay5 u from rfl, y1, z1, show k0_pay21 (F := Ideal) u = tY (k0_pay5 u) from rfl]
  rfl
theorem w1 (Y : FVec Ideal S128x256 .f32) : k0_pay36 (F := Ideal) Y (xY Y) (k0_pay34 (F := Ideal)) = shapeCast S1x128x256 (codes Y) shapeCasts_S128x256_S1x128x256 := rfl
theorem v1 (Y : FVec Ideal S128x256 .f32) : k0_pay37 (F := Ideal) (xY Y) (k0_pay34 (F := Ideal)) = shapeCast S1x1x256 (sY Y) shapeCasts_S1x256_S1x1x256 := rfl

theorem chain6_1 : k0_pay36 (F := Ideal) (k0_pay32 (F := Ideal) (k0_pay26 hc) (k0_pay27 hs) (k0_pay29 (k0_pay20 u) (k0_pay21 u) (k0_pay22 (F := Ideal)) (k0_pay23 (F := Ideal)) hc hs w c0) (k0_pay30 (k0_pay20 u) (k0_pay21 u) (k0_pay22 (F := Ideal)) (k0_pay23 (F := Ideal)) hc w) (k0_pay31 c1) c2 c3 c4) (k0_pay33 (F := Ideal) (k0_pay26 hc) (k0_pay27 hs) (k0_pay29 (k0_pay20 u) (k0_pay21 u) (k0_pay22 (F := Ideal)) (k0_pay23 (F := Ideal)) hc hs w c0) (k0_pay30 (k0_pay20 u) (k0_pay21 u) (k0_pay22 (F := Ideal)) (k0_pay23 (F := Ideal)) hc w) (k0_pay31 c1) c2 c3 c4) (k0_pay34 (F := Ideal)) = o6 u hc hs w c0 c1 c2 c3 c4 := by
  rw [t1, new1, w1]; rfl
theorem chain7_1 : k0_pay37 (F := Ideal) (k0_pay33 (F := Ideal) (k0_pay26 hc) (k0_pay27 hs) (k0_pay29 (k0_pay20 u) (k0_pay21 u) (k0_pay22 (F := Ideal)) (k0_pay23 (F := Ideal)) hc hs w c0) (k0_pay30 (k0_pay20 u) (k0_pay21 u) (k0_pay22 (F := Ideal)) (k0_pay23 (F := Ideal)) hc w) (k0_pay31 c1) c2 c3 c4) (k0_pay34 (F := Ideal)) = o7 u hc hs w c0 c1 c2 c3 c4 := by
  rw [t1, new1, v1]; rfl
theorem chain8_1 : k0_pay38 (F := Ideal) (k0_pay25 (F := Ideal) (k0_pay20 u) (k0_pay21 u) (k0_pay22 (F := Ideal)) (k0_pay23 (F := Ideal))) = o8 u := rfl
theorem chain9_1 : k0_pay39 (F := Ideal) (k0_pay24 (F := Ideal) (k0_pay21 u) (k0_pay22 (F := Ideal)) (k0_pay23 (F := Ideal))) = o9 u := rfl

theorem s3 : k0_pay59 (F := Ideal) (k0_pay56 u) (k0_pay57 (F := Ideal)) (k0_pay58 (F := Ideal)) = sY (k0_pay5 u) := rfl
theorem q3 : k0_pay60 (F := Ideal) (k0_pay55 u) (k0_pay56 u) (k0_pay57 (F := Ideal)) (k0_pay58 (F := Ideal)) = codes (k0_pay5 u) := rfl
theorem y3 (us) : k0_pay64 (F := Ideal) (k0_pay5 u) us (k0_pay57 (F := Ideal)) (k0_pay58 (F := Ideal)) hc hs w c0
    = mulf (mulf (extractStridedSlice S128x256 ![0, 0] (dY (k0_pay60 (F := Ideal) (k0_pay5 u) us (k0_pay57 (F := Ideal)) (k0_pay58 (F := Ideal))) (k0_pay8 hc) w) slices_S256x256_o0_0_S128x256) (broadcastTo S128x256 (k0_pay9 hs) broadcasts_S1x256_S128x256)) (twice c0) := rfl
theorem z3 (us) : k0_pay65 (F := Ideal) (k0_pay5 u) us (k0_pay57 (F := Ideal)) (k0_pay58 (F := Ideal)) hc w
    = mulf (extractStridedSlice S128x256 ![128, 0] (dY (k0_pay60 (F := Ideal) (k0_pay5 u) us (k0_pay57 (F := Ideal)) (k0_pay58 (F := Ideal))) (k0_pay8 hc) w) slices_S256x256_o128_0_S128x256) (broadcastTo S128x256 (k0_pay59 (F := Ideal) us (k0_pay57 (F := Ideal)) (k0_pay58 (F := Ideal))) broadcasts_S1x256_S128x256) := rfl
theorem n3 (v42 v45 a b d) : k0_pay67 (F := Ideal) v42 v45 a b d c2 c3 c4 = nY v42 v45 (cY (addf (addf a (mulf b d)) (twice c2))) (rY (cY (addf (addf a (mulf b d)) (twice c2)))) c3 c4 := rfl
theorem t3 (v42 v45 a b d) : k0_pay68 (F := Ideal) v42 v45 a b d c2 c3 c4 = xY (k0_pay67 (F := Ideal) v42 v45 a b d c2 c3 c4) := rfl
theorem new3 : k0_pay67 (F := Ideal) (k0_pay61 hc) (k0_pay62 hs) (k0_pay64 (k0_pay55 u) (k0_pay56 u) (k0_pay57 (F := Ideal)) (k0_pay58 (F := Ideal)) hc hs w c0) (k0_pay65 (k0_pay55 u) (k0_pay56 u) (k0_pay57 (F := Ideal)) (k0_pay58 (F := Ideal)) hc w) (k0_pay66 c1) c2 c3 c4 = newv u hc hs w c0 c1 c2 c3 c4 := by
  rw [n3]
  rw [show k0_pay55 (F := Ideal) u = k0_pay5 u from rfl, y3, z3, show k0_pay56 (F := Ideal) u = tY (k0_pay5 u) from rfl]
  rfl
theorem w3 (Y : FVec Ideal S128x256 .f32) : k0_pay71 (F := Ideal) Y (xY Y) (k0_pay69 (F := Ideal)) = shapeCast S1x128x256 (codes Y) shapeCasts_S128x256_S1x128x256 := rfl
theorem v3 (Y : FVec Ideal S128x256 .f32) : k0_pay72 (F := Ideal) (xY Y) (k0_pay69 (F := Ideal)) = shapeCast S1x1x256 (sY Y) shapeCasts_S1x256_S1x1x256 := rfl

theorem chain6_3 : k0_pay71 (F := Ideal) (k0_pay67 (F := Ideal) (k0_pay61 hc) (k0_pay62 hs) (k0_pay64 (k0_pay55 u) (k0_pay56 u) (k0_pay57 (F := Ideal)) (k0_pay58 (F := Ideal)) hc hs w c0) (k0_pay65 (k0_pay55 u) (k0_pay56 u) (k0_pay57 (F := Ideal)) (k0_pay58 (F := Ideal)) hc w) (k0_pay66 c1) c2 c3 c4) (k0_pay68 (F := Ideal) (k0_pay61 hc) (k0_pay62 hs) (k0_pay64 (k0_pay55 u) (k0_pay56 u) (k0_pay57 (F := Ideal)) (k0_pay58 (F := Ideal)) hc hs w c0) (k0_pay65 (k0_pay55 u) (k0_pay56 u) (k0_pay57 (F := Ideal)) (k0_pay58 (F := Ideal)) hc w) (k0_pay66 c1) c2 c3 c4) (k0_pay69 (F := Ideal)) = o6 u hc hs w c0 c1 c2 c3 c4 := by
  rw [t3, new3, w3]; rfl
theorem chain7_3 : k0_pay72 (F := Ideal) (k0_pay68 (F := Ideal) (k0_pay61 hc) (k0_pay62 hs) (k0_pay64 (k0_pay55 u) (k0_pay56 u) (k0_pay57 (F := Ideal)) (k0_pay58 (F := Ideal)) hc hs w c0) (k0_pay65 (k0_pay55 u) (k0_pay56 u) (k0_pay57 (F := Ideal)) (k0_pay58 (F := Ideal)) hc w) (k0_pay66 c1) c2 c3 c4) (k0_pay69 (F := Ideal)) = o7 u hc hs w c0 c1 c2 c3 c4 := by
  rw [t3, new3, v3]; rfl
theorem chain8_3 : k0_pay73 (F := Ideal) (k0_pay60 (F := Ideal) (k0_pay55 u) (k0_pay56 u) (k0_pay57 (F := Ideal)) (k0_pay58 (F := Ideal))) = o8 u := rfl
theorem chain9_3 : k0_pay74 (F := Ideal) (k0_pay59 (F := Ideal) (k0_pay56 u) (k0_pay57 (F := Ideal)) (k0_pay58 (F := Ideal))) = o9 u := rfl

end Chains

theorem pay5_apply (u) (e : Fin 128) (l : Fin 256) : k0_pay5 (F := Ideal) u (ix2 e l) = u (ix2 l e) := by
  pointwise [k0_pay5]
theorem pay8_apply (v) (e : Fin 128) (l : Fin 256) : k0_pay8 (F := Ideal) v (ix2 e l) = v (ix3 0 e l) := by
  pointwise [k0_pay8]
theorem pay9_apply (v) (l : Fin 256) : k0_pay9 (F := Ideal) v (ix2 0 l) = v (ix3 0 0 l) := by
  pointwise [k0_pay9]
theorem xY_apply (Y) (l : Fin 256) : xY Y (ix2 0 l)
    = Finset.fold max (Ideal.ofBits .f32 0xFF800000#32) (fun x => FloatOps.absf (F := Ideal) (φ := .f32) (Y (ix2 x l))) Finset.univ := by
  pointwise [xY]
theorem tY_apply (Y) (l : Fin 256) : tY Y (ix2 0 l) = amax (fun e => Y (ix2 e l)) := by
  unfold amax
  rw [← xY_apply]
  rfl
theorem pow_apply (x : Fin 254) (l : Fin 256) : k0_pay22 (F := Ideal) (ix2 x l) = pow x := by
  unfold pow
  pointwise [k0_pay22]
theorem top_apply (x : Fin 254) (l : Fin 256) : k0_pay23 (F := Ideal) (ix2 x l) = Ideal.ofBits .f32 2130706432#32 := by
  pointwise [k0_pay23]
theorem mY_apply (T) (l : Fin 256) : mY T (ix2 0 l) = up (T (ix2 0 l)) := by
  unfold up
  simp only [← pow_apply _ l, ← top_apply _ l]
  pointwise [mY]
  simp only [top_apply]
theorem sY_apply (Y) (l : Fin 256) : sY Y (ix2 0 l) = qscale (fun e => Y (ix2 e l)) := by
  unfold sY qscale
  rw [mY_apply, tY_apply]
theorem codes_apply (Y) (e : Fin 128) (l : Fin 256) : codes Y (ix2 e l) = qcode (fun e => Y (ix2 e l)) e := by
  unfold qcode
  rw [← sY_apply]
  pointwise [codes]
theorem twice_apply (c) (i : Fin 128) (l : Fin 256) : twice c (ix2 i l) = c (ix3 0 i ⟨l.val % 128, Nat.mod_lt _ (by decide)⟩) := by
  pointwise [twice]
  split
  · exact congrArg (fun z => c (ix3 0 i z)) (Fin.ext (by show l.val = l.val % 128; omega))
  · exact congrArg (fun z => c (ix3 0 i z)) (Fin.ext (by show l.val - 128 = l.val % 128; omega))

/-- The linear part of a lane, the two products computed at once with the stacked weights `w`. -/
def blin (w : Vec Ideal S256x256 .fp8e4m3) (c0 c1 c2 hc : Fin 128 → EReal) (hs : EReal) (uc : Fin 128 → EReal) (us : EReal) (i : Fin 128) : EReal :=
  ((∑ x : Fin 128, w (ix2 ⟨i.val, by omega⟩ ⟨x.val, by omega⟩) * hc x) + (∑ x : Fin 128, w (ix2 ⟨i.val, by omega⟩ ⟨128 + x.val, by omega⟩) * uc x)) * hs * c0 i
  + ((∑ x : Fin 128, w (ix2 ⟨128 + i.val, by omega⟩ ⟨x.val, by omega⟩) * hc x) + (∑ x : Fin 128, w (ix2 ⟨128 + i.val, by omega⟩ ⟨128 + x.val, by omega⟩) * uc x)) * us * c1 i
  + c2 i

theorem yY_apply (us uc hc hs w c0 c1 c2) (i : Fin 128) (l : Fin 256) : yY us uc hc hs w c0 c1 c2 (ix2 i l)
    = blin w (fun i => twice c0 (ix2 i l)) (fun i => twice c1 (ix2 i l)) (fun i => twice c2 (ix2 i l)) (fun x => hc (ix2 x l)) (hs (ix2 0 l)) (fun x => uc (ix2 x l)) (us (ix2 0 l)) i := by
  unfold blin
  pointwise [yY, dY]
theorem cY_apply (Y) (i : Fin 128) (l : Fin 256) : cY Y (ix2 i l) = cen (fun x => Y (ix2 x l)) i := by
  unfold cen
  pointwise [cY]
theorem rY_apply (D) (l : Fin 256) : rY D (ix2 0 l)
    = Ideal.sqrt ((∑ x, D (ix2 x l) * D (ix2 x l)) * Ideal.ofBits .f32 0x3C000000#32 + Ideal.ofBits .f32 0x3727C5AC#32) := by
  pointwise [rY]
theorem nY_apply (hc hs D R c3 c4) (i : Fin 128) (l : Fin 256) : nY hc hs D R c3 c4 (ix2 i l)
    = hc (ix2 i l) * hs (ix2 0 l) + max (D (ix2 i l) * Ideal.div 1 (R (ix2 0 l)) * twice c3 (ix2 i l) + twice c4 (ix2 i l)) 0 := by
  pointwise [nY]

/-- A lane's new row, from the lane's message, old codes and scale, and the constants. -/
def brow (w : Vec Ideal S256x256 .fp8e4m3) (c0 c1 c2 c3 c4 hc : Fin 128 → EReal) (hs : EReal) (u : Fin 128 → EReal) : Fin 128 → EReal :=
  newrow hc hs c3 c4 (blin w c0 c1 c2 hc hs (qcode u) (qscale u))

theorem newv_apply (u hc hs w c0 c1 c2 c3 c4) (i : Fin 128) (l : Fin 256) : newv u hc hs w c0 c1 c2 c3 c4 (ix2 i l)
    = brow w (fun i => c0 (ix3 0 i ⟨l.val % 128, Nat.mod_lt _ (by decide)⟩)) (fun i => c1 (ix3 0 i ⟨l.val % 128, Nat.mod_lt _ (by decide)⟩))
        (fun i => c2 (ix3 0 i ⟨l.val % 128, Nat.mod_lt _ (by decide)⟩)) (fun i => c3 (ix3 0 i ⟨l.val % 128, Nat.mod_lt _ (by decide)⟩))
        (fun i => c4 (ix3 0 i ⟨l.val % 128, Nat.mod_lt _ (by decide)⟩)) (fun x => hc (ix3 0 x l)) (hs (ix3 0 0 l)) (fun x => u (ix2 l x)) i := by
  unfold brow newrow newv
  rw [nY_apply, rY_apply]
  simp only [cY_apply, yY_apply, sY_apply, codes_apply, pay5_apply, pay8_apply, pay9_apply, twice_apply]
  rfl

theorem o6_apply (u hc hs w c0 c1 c2 c3 c4) (x : S1x128x256.Idx) : o6 u hc hs w c0 c1 c2 c3 c4 x
    = qcode (fun i => newv u hc hs w c0 c1 c2 c3 c4 (ix2 i (x 2))) (x 1) := by
  idx_vars x
  rw [← codes_apply]
  pointwise [o6]
theorem o7_apply (u hc hs w c0 c1 c2 c3 c4) (x : S1x1x256.Idx) : o7 u hc hs w c0 c1 c2 c3 c4 x
    = qscale (fun i => newv u hc hs w c0 c1 c2 c3 c4 (ix2 i (x 2))) := by
  idx_vars x
  rw [← sY_apply]
  pointwise [o7]
theorem o8_apply (u) (x : S1x128x256.Idx) : o8 u x = qcode (fun i => u (ix2 (x 2) i)) (x 1) := by
  idx_vars x
  simp only [← pay5_apply]
  rw [← codes_apply]
  pointwise [o8]
theorem o9_apply (u) (x : S1x1x256.Idx) : o9 u x = qscale (fun i => u (ix2 (x 2) i)) := by
  idx_vars x
  simp only [← pay5_apply]
  rw [← sY_apply]
  pointwise [o9]

end Cert.DenseIdeal.Value
end
-- ==== Proof.DenseTile.lean ====
/-
  The stored values of a tile, read at the tile's lanes of the block.
-/
module

public import proofs.«01_k».proof.Proof.DenseBlock
public import Idealize.ShloMosaic.Lib.Pipeline.Value
public import Idealize.ShloMosaic.Lib.Pointwise

@[expose] public section

set_option maxRecDepth 16384

noncomputable section

namespace Cert.DenseIdeal.Value

open Cert.DenseIdeal Cert.DenseIdeal.Gen Idealize.ShloMosaic Idealize.ShloMosaic.TcCoe Idealize.SL.Sem Cert.DenseFn
open Idealize.ShloMosaic.Pipeline (Dat)

/-- A lane of a block: the new row. -/
def bnew (U : Vec Ideal S2560x128 .f32) (H : Vec Ideal S1x128x2560 .fp8e4m3) (Hs : Vec Ideal S1x1x2560 .f32) (w : Vec Ideal S256x256 .fp8e4m3)
    (Z : Vec Ideal S5x128x128 .f32) (l : Fin 2560) : Fin 128 → EReal :=
  brow w (fun i => Z (ix3 0 i ⟨l.val % 128, Nat.mod_lt _ (by decide)⟩)) (fun i => Z (ix3 1 i ⟨l.val % 128, Nat.mod_lt _ (by decide)⟩))
    (fun i => Z (ix3 2 i ⟨l.val % 128, Nat.mod_lt _ (by decide)⟩)) (fun i => Z (ix3 3 i ⟨l.val % 128, Nat.mod_lt _ (by decide)⟩))
    (fun i => Z (ix3 4 i ⟨l.val % 128, Nat.mod_lt _ (by decide)⟩)) (fun x => H (ix3 0 x l)) (Hs (ix3 0 0 l)) (fun x => U (ix2 l x))

/-- A block's four results in closed form: the new codes and scales, the message's codes and scales. -/
def G6 (U : Vec Ideal S2560x128 .f32) (H : Vec Ideal S1x128x2560 .fp8e4m3) (Hs : Vec Ideal S1x1x2560 .f32) (w : Vec Ideal S256x256 .fp8e4m3)
    (Z : Vec Ideal S5x128x128 .f32) : Vec Ideal S1x128x2560 .fp8e4m3 := fun y => qcode (bnew U H Hs w Z (y 2)) (y 1)
def G7 (U : Vec Ideal S2560x128 .f32) (H : Vec Ideal S1x128x2560 .fp8e4m3) (Hs : Vec Ideal S1x1x2560 .f32) (w : Vec Ideal S256x256 .fp8e4m3)
    (Z : Vec Ideal S5x128x128 .f32) : Vec Ideal S1x1x2560 .f32 := fun y => qscale (bnew U H Hs w Z (y 2))
def G8 (U : Vec Ideal S2560x128 .f32) (H : Vec Ideal S1x128x2560 .fp8e4m3) (Hs : Vec Ideal S1x1x2560 .f32) (w : Vec Ideal S256x256 .fp8e4m3)
    (Z : Vec Ideal S5x128x128 .f32) : Vec Ideal S1x128x2560 .fp8e4m3 := fun y => qcode (fun x => U (ix2 (y 2) x)) (y 1)
def G9 (U : Vec Ideal S2560x128 .f32) (H : Vec Ideal S1x128x2560 .fp8e4m3) (Hs : Vec Ideal S1x1x2560 .f32) (w : Vec Ideal S256x256 .fp8e4m3)
    (Z : Vec Ideal S5x128x128 .f32) : Vec Ideal S1x1x2560 .f32 := fun y => qscale (fun x => U (ix2 (y 2) x))

theorem hz2 : (![0, 0] : Fin 2 → Nat) = fun _ => 0 := funext fun a => by fin_cases a <;> rfl

section Tile
variable (U : Vec Ideal S2560x128 .f32) (H : Vec Ideal S1x128x2560 .fp8e4m3) (Hs : Vec Ideal S1x1x2560 .f32) (w : Vec Ideal S256x256 .fp8e4m3)
  (Z : Vec Ideal S5x128x128 .f32) (k : Nat) (hk : k < 2) (j : Nat) (hj : j < 5) (off1 : Fin 2 → Nat) (off2 off3 : Fin 3 → Nat)
  (h1 : off1 = ![1280 * k + 256 * j, 0]) (h2 : off2 = ![0, 0, 1280 * k + 256 * j]) (h3 : off3 = ![0, 0, 1280 * k + 256 * j])
  (i1 : ∀ a, off1 a + S256x128.size a ≤ S2560x128.size a) (i2 : ∀ a, off2 a + S1x128x256.size a ≤ S1x128x2560.size a)
  (i3 : ∀ a, off3 a + S1x1x256.size a ≤ S1x1x2560.size a) (iw : ∀ a, (![0, 0] : Fin 2 → Nat) a + S256x256.size a ≤ S256x256.size a)
  (z0 : ∀ a, (![0, 0, 0] : Fin 3 → Nat) a + S1x128x128.size a ≤ S5x128x128.size a) (z1 : ∀ a, (![1, 0, 0] : Fin 3 → Nat) a + S1x128x128.size a ≤ S5x128x128.size a)
  (z2 : ∀ a, (![2, 0, 0] : Fin 3 → Nat) a + S1x128x128.size a ≤ S5x128x128.size a) (z3 : ∀ a, (![3, 0, 0] : Fin 3 → Nat) a + S1x128x128.size a ≤ S5x128x128.size a)
  (z4 : ∀ a, (![4, 0, 0] : Fin 3 → Nat) a + S1x128x128.size a ≤ S5x128x128.size a)

include h1 in
theorem ldU (l : Fin 256) (hl : 1280 * k + 256 * j + l.val < 2560) (x : Fin 128) : View.ld U (Rect.unit (s := S2560x128) off1 S256x128.size i1) (ix2 l x) = U (ix2 ⟨1280 * k + 256 * j + l.val, hl⟩ x) := by
  subst h1
  refine congrArg U ?_
  funext a; apply Fin.ext
  match a with
  | ⟨0, _⟩ => show 1280 * k + 256 * j + 1 * l.val = 1280 * k + 256 * j + l.val; omega
  | ⟨1, _⟩ => show 0 + 1 * x.val = x.val; omega

include h2 in
theorem ldH (l : Fin 256) (hl : 1280 * k + 256 * j + l.val < 2560) (x : Fin 128) : View.ld H (Rect.unit (s := S1x128x2560) off2 S1x128x256.size i2) (ix3 0 x l) = H (ix3 0 x ⟨1280 * k + 256 * j + l.val, hl⟩) := by
  subst h2
  refine congrArg H ?_
  funext a; apply Fin.ext
  match a with
  | ⟨0, _⟩ => rfl
  | ⟨1, _⟩ => show 0 + 1 * x.val = x.val; omega
  | ⟨2, _⟩ => show 1280 * k + 256 * j + 1 * l.val = 1280 * k + 256 * j + l.val; omega

include h3 in
theorem ldS (l : Fin 256) (hl : 1280 * k + 256 * j + l.val < 2560) : View.ld Hs (Rect.unit (s := S1x1x2560) off3 S1x1x256.size i3) (ix3 0 0 l) = Hs (ix3 0 0 ⟨1280 * k + 256 * j + l.val, hl⟩) := by
  subst h3
  refine congrArg Hs ?_
  funext a; apply Fin.ext
  match a with
  | ⟨0, _⟩ => rfl
  | ⟨1, _⟩ => rfl
  | ⟨2, _⟩ => show 1280 * k + 256 * j + 1 * l.val = 1280 * k + 256 * j + l.val; omega

theorem ldZ (p : Nat) (hp : p < 5) (z : ∀ a, (![p, 0, 0] : Fin 3 → Nat) a + S1x128x128.size a ≤ S5x128x128.size a) (i y : Fin 128) :
    View.ld Z (Rect.unit (s := S5x128x128) ![p, 0, 0] S1x128x128.size z) (ix3 0 i y) = Z (ix3 ⟨p, hp⟩ i y) := by
  refine congrArg Z ?_
  funext a; apply Fin.ext
  match a with
  | ⟨0, _⟩ => show p + 1 * 0 = p; omega
  | ⟨1, _⟩ => show 0 + 1 * i.val = i.val; omega
  | ⟨2, _⟩ => show 0 + 1 * y.val = y.val; omega

include h1 h2 h3 hk hj in
theorem tile_new (l : Fin 256) (L : Fin 2560) (hL : L.val = 1280 * k + 256 * j + l.val) :
    (fun i => newv (View.ld U (Rect.unit (s := S2560x128) off1 S256x128.size i1)) (View.ld H (Rect.unit (s := S1x128x2560) off2 S1x128x256.size i2))
      (View.ld Hs (Rect.unit (s := S1x1x2560) off3 S1x1x256.size i3)) (View.ld w (Rect.unit (s := S256x256) ![0, 0] S256x256.size iw))
      (View.ld Z (Rect.unit (s := S5x128x128) ![0, 0, 0] S1x128x128.size z0)) (View.ld Z (Rect.unit (s := S5x128x128) ![1, 0, 0] S1x128x128.size z1))
      (View.ld Z (Rect.unit (s := S5x128x128) ![2, 0, 0] S1x128x128.size z2)) (View.ld Z (Rect.unit (s := S5x128x128) ![3, 0, 0] S1x128x128.size z3))
      (View.ld Z (Rect.unit (s := S5x128x128) ![4, 0, 0] S1x128x128.size z4)) (ix2 i l)) = bnew U H Hs w Z L := by
  have hl : 1280 * k + 256 * j + l.val < 2560 := by omega
  obtain rfl : L = ⟨1280 * k + 256 * j + l.val, hl⟩ := Fin.ext hL
  funext i
  rw [newv_apply, View.ld_unit_zero (S := S256x256) hz2]
  simp only [ldU U k j off1 h1 i1 l hl, ldH H k j off2 h2 i2 l hl, ldS Hs k j off3 h3 i3 l hl, ldZ Z 0 (by decide) z0, ldZ Z 1 (by decide) z1, ldZ Z 2 (by decide) z2,
    ldZ Z 3 (by decide) z3, ldZ Z 4 (by decide) z4]
  unfold bnew
  have hm : (1280 * k + 256 * j + l.val) % 128 = l.val % 128 := by omega
  simp only [hm]
  rfl

include h1 in
theorem tile_u (l : Fin 256) (L : Fin 2560) (hL : L.val = 1280 * k + 256 * j + l.val) :
    (fun i => View.ld U (Rect.unit (s := S2560x128) off1 S256x128.size i1) (ix2 l i)) = fun i => U (ix2 L i) := by
  have hl : 1280 * k + 256 * j + l.val < 2560 := by omega
  obtain rfl : L = ⟨1280 * k + 256 * j + l.val, hl⟩ := Fin.ext hL
  funext i
  exact ldU U k j off1 h1 i1 l hl i

include h1 h2 h3 hk hj in
theorem tile6 (io : ∀ a, off2 a + S1x128x256.size a ≤ S1x128x2560.size a) (x : S1x128x256.Idx) : o6 (View.ld U (Rect.unit (s := S2560x128) off1 S256x128.size i1)) (View.ld H (Rect.unit (s := S1x128x2560) off2 S1x128x256.size i2))
      (View.ld Hs (Rect.unit (s := S1x1x2560) off3 S1x1x256.size i3)) (View.ld w (Rect.unit (s := S256x256) ![0, 0] S256x256.size iw))
      (View.ld Z (Rect.unit (s := S5x128x128) ![0, 0, 0] S1x128x128.size z0)) (View.ld Z (Rect.unit (s := S5x128x128) ![1, 0, 0] S1x128x128.size z1))
      (View.ld Z (Rect.unit (s := S5x128x128) ![2, 0, 0] S1x128x128.size z2)) (View.ld Z (Rect.unit (s := S5x128x128) ![3, 0, 0] S1x128x128.size z3))
      (View.ld Z (Rect.unit (s := S5x128x128) ![4, 0, 0] S1x128x128.size z4)) x
    = G6 U H Hs w Z ((Rect.unit (s := S1x128x2560) off2 S1x128x256.size io).emb x) := by
  idx_vars x
  have e2 : (((Rect.unit (s := S1x128x2560) off2 S1x128x256.size io).emb (ix3 x0 x1 x2)) 2).val = 1280 * k + 256 * j + x2.val := by
    show off2 2 + 1 * x2.val = _; rw [h2]; show 1280 * k + 256 * j + 1 * x2.val = _; omega
  have e1 : ((Rect.unit (s := S1x128x2560) off2 S1x128x256.size io).emb (ix3 x0 x1 x2)) 1 = x1 := Fin.ext (by show off2 1 + 1 * x1.val = x1.val; rw [h2]; show 0 + 1 * x1.val = _; omega)
  unfold G6
  rw [o6_apply]
  rw [e1]
  exact congrArg (fun f => qcode f x1) (tile_new U H Hs w Z k hk j hj off1 off2 off3 h1 h2 h3 i1 i2 i3 iw z0 z1 z2 z3 z4 x2 _ e2)

include h1 h2 h3 hk hj in
theorem tile7 (io : ∀ a, off3 a + S1x1x256.size a ≤ S1x1x2560.size a) (x : S1x1x256.Idx) : o7 (View.ld U (Rect.unit (s := S2560x128) off1 S256x128.size i1)) (View.ld H (Rect.unit (s := S1x128x2560) off2 S1x128x256.size i2))
      (View.ld Hs (Rect.unit (s := S1x1x2560) off3 S1x1x256.size i3)) (View.ld w (Rect.unit (s := S256x256) ![0, 0] S256x256.size iw))
      (View.ld Z (Rect.unit (s := S5x128x128) ![0, 0, 0] S1x128x128.size z0)) (View.ld Z (Rect.unit (s := S5x128x128) ![1, 0, 0] S1x128x128.size z1))
      (View.ld Z (Rect.unit (s := S5x128x128) ![2, 0, 0] S1x128x128.size z2)) (View.ld Z (Rect.unit (s := S5x128x128) ![3, 0, 0] S1x128x128.size z3))
      (View.ld Z (Rect.unit (s := S5x128x128) ![4, 0, 0] S1x128x128.size z4)) x
    = G7 U H Hs w Z ((Rect.unit (s := S1x1x2560) off3 S1x1x256.size io).emb x) := by
  idx_vars x
  have e2 : (((Rect.unit (s := S1x1x2560) off3 S1x1x256.size io).emb (ix3 x0 x1 x2)) 2).val = 1280 * k + 256 * j + x2.val := by
    show off3 2 + 1 * x2.val = _; rw [h3]; show 1280 * k + 256 * j + 1 * x2.val = _; omega
  unfold G7
  rw [o7_apply]
  exact congrArg qscale (tile_new U H Hs w Z k hk j hj off1 off2 off3 h1 h2 h3 i1 i2 i3 iw z0 z1 z2 z3 z4 x2 _ e2)

include h1 h2 in
theorem tile8 (io : ∀ a, off2 a + S1x128x256.size a ≤ S1x128x2560.size a) (x : S1x128x256.Idx) : o8 (View.ld U (Rect.unit (s := S2560x128) off1 S256x128.size i1)) x
    = G8 U H Hs w Z ((Rect.unit (s := S1x128x2560) off2 S1x128x256.size io).emb x) := by
  idx_vars x
  have e2 : (((Rect.unit (s := S1x128x2560) off2 S1x128x256.size io).emb (ix3 x0 x1 x2)) 2).val = 1280 * k + 256 * j + x2.val := by
    show off2 2 + 1 * x2.val = _; rw [h2]; show 1280 * k + 256 * j + 1 * x2.val = _; omega
  have e1 : ((Rect.unit (s := S1x128x2560) off2 S1x128x256.size io).emb (ix3 x0 x1 x2)) 1 = x1 := Fin.ext (by show off2 1 + 1 * x1.val = x1.val; rw [h2]; show 0 + 1 * x1.val = _; omega)
  unfold G8
  rw [o8_apply]
  rw [e1]
  exact congrArg (fun f => qcode f x1) (tile_u U k j off1 h1 i1 x2 _ e2)

include h1 h3 in
theorem tile9 (io : ∀ a, off3 a + S1x1x256.size a ≤ S1x1x2560.size a) (x : S1x1x256.Idx) : o9 (View.ld U (Rect.unit (s := S2560x128) off1 S256x128.size i1)) x
    = G9 U H Hs w Z ((Rect.unit (s := S1x1x2560) off3 S1x1x256.size io).emb x) := by
  idx_vars x
  have e2 : (((Rect.unit (s := S1x1x2560) off3 S1x1x256.size io).emb (ix3 x0 x1 x2)) 2).val = 1280 * k + 256 * j + x2.val := by
    show off3 2 + 1 * x2.val = _; rw [h3]; show 1280 * k + 256 * j + 1 * x2.val = _; omega
  unfold G9
  rw [o9_apply]
  exact congrArg qscale (tile_u U k j off1 h1 i1 x2 _ e2)

end Tile

end Cert.DenseIdeal.Value
end
-- ==== Proof.DenseTrip6.lean ====
/-
  What the loop stores to result 1 of a block, trip by trip, and the block's result in closed form.
-/
module

public import proofs.«01_k».proof.Proof.DenseTile
public import Idealize.ShloMosaic.Lib.Pipeline.Value
public import Idealize.ShloMosaic.Lib.Pointwise

@[expose] public section

set_option maxRecDepth 16384

noncomputable section

namespace Cert.DenseIdeal.Value

open Cert.DenseIdeal Cert.DenseIdeal.Gen Idealize.ShloMosaic Idealize.ShloMosaic.TcCoe Idealize.SL.Sem Cert.DenseFn
open Idealize.ShloMosaic.Pipeline (Dat)

set_option maxHeartbeats 4000000 in
/-- What one trip stores is the block's closed form at the lanes it stores to. -/
theorem trip6 (𝒱 : Variants) (c : Dev nD) (bd : Option 𝒱.V) (i : grid0.Coords) (arg1 : Memref sig .tc .vmem S2560x128 .f32) (harg1 : arg1.IsWhole) (arg2 : Memref sig .tc .vmem S1x128x2560 .fp8e4m3) (harg2 : arg2.IsWhole) (arg3 : Memref sig .tc .vmem S1x1x2560 .f32) (harg3 : arg3.IsWhole) (arg4 : Memref sig .tc .vmem S256x256 .fp8e4m3) (harg4 : arg4.IsWhole) (arg5 : Memref sig .tc .vmem S5x128x128 .f32) (harg5 : arg5.IsWhole) (arg6 : Memref sig .tc .vmem S1x128x2560 .fp8e4m3) (harg6 : arg6.IsWhole) (arg7 : Memref sig .tc .vmem S1x1x2560 .f32) (harg7 : arg7.IsWhole) (arg8 : Memref sig .tc .vmem S1x128x2560 .fp8e4m3) (harg8 : arg8.IsWhole) (arg9 : Memref sig .tc .vmem S1x1x2560 .f32) (harg9 : arg9.IsWhole)
    (X_arg1 : BufTy.Contents (Elt Ideal) arg1.view.ty) (X_arg2 : BufTy.Contents (Elt Ideal) arg2.view.ty) (X_arg3 : BufTy.Contents (Elt Ideal) arg3.view.ty) (X_arg4 : BufTy.Contents (Elt Ideal) arg4.view.ty) (X_arg5 : BufTy.Contents (Elt Ideal) arg5.view.ty) (k : Fin k0_t1_loop.trips) (pc) (hpc : pc ∈ (tripL_k0_t1 (F := Ideal) 𝒱 c bd i arg1 harg1 arg2 harg2 arg3 harg3 arg4 harg4 arg5 harg5 arg6 harg6 arg7 harg7 arg8 harg8 arg9 harg9 X_arg1 X_arg2 X_arg3 X_arg4 X_arg5 k).1) :
    ∀ x, pc.2 x = G6 (arg1.view.read _ X_arg1) (arg2.view.read _ X_arg2) (arg3.view.read _ X_arg3) (arg4.view.read _ X_arg4) (arg5.view.read _ X_arg5) (pc.1.emb x) := by
  have hk : k.val < 2 := Nat.lt_of_lt_of_le k.isLt k0_t1_abs.2.1
  unfold tripL_k0_t1 trip_k0_t1 at hpc
  dsimp only at hpc
  simp only [List.mem_cons, List.not_mem_nil, or_false] at hpc
  rcases hpc with rfl | rfl | rfl | rfl | rfl
  · intro x
    sl_unfold_words
    dsimp only
    refine (congrFun (chain6_4 _ _ _ _ _ _ _ _ _) x).trans ?_
    simp only [View.readAt_eq_ld]
    exact tile6 _ _ _ _ _ k.val hk 4 (by decide) _ _ _ (k0_off1_eq k 4) (k0_off2_eq k 4) (k0_off3_eq k 4) _ _ _ _ _ _ _ _ _ _ x
  · intro x
    sl_unfold_words
    dsimp only
    refine (congrFun (chain6_3 _ _ _ _ _ _ _ _ _) x).trans ?_
    simp only [View.readAt_eq_ld]
    exact tile6 _ _ _ _ _ k.val hk 3 (by decide) _ _ _ (k0_off1_eq k 3) (k0_off2_eq k 3) (k0_off3_eq k 3) _ _ _ _ _ _ _ _ _ _ x
  · intro x
    sl_unfold_words
    dsimp only
    refine (congrFun (chain6_2 _ _ _ _ _ _ _ _ _) x).trans ?_
    simp only [View.readAt_eq_ld]
    exact tile6 _ _ _ _ _ k.val hk 2 (by decide) _ _ _ (k0_off1_eq k 2) (k0_off2_eq k 2) (k0_off3_eq k 2) _ _ _ _ _ _ _ _ _ _ x
  · intro x
    sl_unfold_words
    dsimp only
    refine (congrFun (chain6_1 _ _ _ _ _ _ _ _ _) x).trans ?_
    simp only [View.readAt_eq_ld]
    exact tile6 _ _ _ _ _ k.val hk 1 (by decide) _ _ _ (k0_off1_eq k 1) (k0_off2_eq k 1) (k0_off3_eq k 1) _ _ _ _ _ _ _ _ _ _ x
  · intro x
    sl_unfold_words
    dsimp only
    refine (congrFun (chain6_0 _ _ _ _ _ _ _ _ _) x).trans ?_
    simp only [View.readAt_eq_ld]
    exact tile6 _ _ _ _ _ k.val hk 0 (by decide) _ _ _ (k0_off1_eq k 0) (k0_off2_eq k 0) (k0_off3_eq k 0) _ _ _ _ _ _ _ _ _ _ x

theorem loop6 (𝒱 : Variants) (c : Dev nD) (bd : Option 𝒱.V) (i : grid0.Coords) (arg1 : Memref sig .tc .vmem S2560x128 .f32) (harg1 : arg1.IsWhole) (arg2 : Memref sig .tc .vmem S1x128x2560 .fp8e4m3) (harg2 : arg2.IsWhole) (arg3 : Memref sig .tc .vmem S1x1x2560 .f32) (harg3 : arg3.IsWhole) (arg4 : Memref sig .tc .vmem S256x256 .fp8e4m3) (harg4 : arg4.IsWhole) (arg5 : Memref sig .tc .vmem S5x128x128 .f32) (harg5 : arg5.IsWhole) (arg6 : Memref sig .tc .vmem S1x128x2560 .fp8e4m3) (harg6 : arg6.IsWhole) (arg7 : Memref sig .tc .vmem S1x1x2560 .f32) (harg7 : arg7.IsWhole) (arg8 : Memref sig .tc .vmem S1x128x2560 .fp8e4m3) (harg8 : arg8.IsWhole) (arg9 : Memref sig .tc .vmem S1x1x2560 .f32) (harg9 : arg9.IsWhole)
    (X_arg1 : BufTy.Contents (Elt Ideal) arg1.view.ty) (X_arg2 : BufTy.Contents (Elt Ideal) arg2.view.ty) (X_arg3 : BufTy.Contents (Elt Ideal) arg3.view.ty) (X_arg4 : BufTy.Contents (Elt Ideal) arg4.view.ty) (X_arg5 : BufTy.Contents (Elt Ideal) arg5.view.ty)  {U H Hs w Z} (n : Nat) (h1 : arg1.view.read _ X_arg1 = U) (h2 : arg2.view.read _ X_arg2 = H) (h3 : arg3.view.read _ X_arg3 = Hs) (h4 : arg4.view.read _ X_arg4 = w) (h5 : arg5.view.read _ X_arg5 = Z) :
    ∀ pc ∈ (pb_k0_t1 (F := Ideal) 𝒱 c bd i arg1 harg1 arg2 harg2 arg3 harg3 arg4 harg4 arg5 harg5 arg6 harg6 arg7 harg7 arg8 harg8 arg9 harg9 X_arg1 X_arg2 X_arg3 X_arg4 X_arg5 n).1, ∀ x, pc.2 x = G6 U H Hs w Z (pc.1.emb x) := by
  subst h1 h2 h3 h4 h5
  induction n with
  | zero => intro pc hpc; exact absurd hpc List.not_mem_nil
  | succ n ih =>
    intro pc hpc
    rw [pb_k0_t1.eq_2] at hpc
    unfold pb_k0_t1Step at hpc
    split at hpc
    · rcases List.mem_append.mp hpc with h | h
      · exact trip6 _ _ _ _ arg1 harg1 arg2 harg2 arg3 harg3 arg4 harg4 arg5 harg5 arg6 harg6 arg7 harg7 arg8 harg8 arg9 harg9 _ _ _ _ _ _ pc h
      · exact ih pc h
    · exact ih pc hpc

theorem out6 (c : Dev nD) (i : grid0.Coords) (arg1 : Memref sig .tc .vmem S2560x128 .f32) (harg1 : arg1.IsWhole) (arg2 : Memref sig .tc .vmem S1x128x2560 .fp8e4m3) (harg2 : arg2.IsWhole) (arg3 : Memref sig .tc .vmem S1x1x2560 .f32) (harg3 : arg3.IsWhole) (arg4 : Memref sig .tc .vmem S256x256 .fp8e4m3) (harg4 : arg4.IsWhole) (arg5 : Memref sig .tc .vmem S5x128x128 .f32) (harg5 : arg5.IsWhole) (arg6 : Memref sig .tc .vmem S1x128x2560 .fp8e4m3) (harg6 : arg6.IsWhole) (arg7 : Memref sig .tc .vmem S1x1x2560 .f32) (harg7 : arg7.IsWhole) (arg8 : Memref sig .tc .vmem S1x128x2560 .fp8e4m3) (harg8 : arg8.IsWhole) (arg9 : Memref sig .tc .vmem S1x1x2560 .f32) (harg9 : arg9.IsWhole)
    (x0 : Vec Ideal S2560x128 .f32) (x1 : Vec Ideal S1x128x2560 .fp8e4m3) (x2 : Vec Ideal S1x1x2560 .f32) (x3 : Vec Ideal S256x256 .fp8e4m3) (x4 : Vec Ideal S5x128x128 .f32) :
    out0_A_5 c i arg1 harg1 arg2 harg2 arg3 harg3 arg4 harg4 arg5 harg5 arg6 harg6 arg7 harg7 arg8 harg8 arg9 harg9 x0 x1 x2 x3 x4 = G6 x0 x1 x2 x3 x4 := by
  unfold out0_A_5
  rw [View.read_writes_eq_canon _ _ _ (cover0_A_5 c i arg1 harg1 arg2 harg2 arg3 harg3 arg4 harg4 arg5 harg5 arg6 harg6 arg7 harg7 arg8 harg8 arg9 harg9 x0 x1 x2 x3 x4)]
  funext y
  refine View.canon_apply_of_pieces _ _ ?_ y (cover0_A_5 c i arg1 harg1 arg2 harg2 arg3 harg3 arg4 harg4 arg5 harg5 arg6 harg6 arg7 harg7 arg8 harg8 arg9 harg9 x0 x1 x2 x3 x4 y)
  unfold kernelRun0_A
  dsimp only
  refine loop6 _ _ _ _ arg1 harg1 arg2 harg2 arg3 harg3 arg4 harg4 arg5 harg5 arg6 harg6 arg7 harg7 arg8 harg8 arg9 harg9 _ _ _ _ _ _ ?_ ?_ ?_ ?_ ?_
  all_goals exact Memref.IsWhole.read_unread _ _

end Cert.DenseIdeal.Value
end
-- ==== Proof.DenseTrip7.lean ====
/-
  What the loop stores to result 2 of a block, trip by trip, and the block's result in closed form.
-/
module

public import proofs.«01_k».proof.Proof.DenseTile
public import Idealize.ShloMosaic.Lib.Pipeline.Value
public import Idealize.ShloMosaic.Lib.Pointwise

@[expose] public section

set_option maxRecDepth 16384

noncomputable section

namespace Cert.DenseIdeal.Value

open Cert.DenseIdeal Cert.DenseIdeal.Gen Idealize.ShloMosaic Idealize.ShloMosaic.TcCoe Idealize.SL.Sem Cert.DenseFn
open Idealize.ShloMosaic.Pipeline (Dat)

set_option maxHeartbeats 4000000 in
/-- What one trip stores is the block's closed form at the lanes it stores to. -/
theorem trip7 (𝒱 : Variants) (c : Dev nD) (bd : Option 𝒱.V) (i : grid0.Coords) (arg1 : Memref sig .tc .vmem S2560x128 .f32) (harg1 : arg1.IsWhole) (arg2 : Memref sig .tc .vmem S1x128x2560 .fp8e4m3) (harg2 : arg2.IsWhole) (arg3 : Memref sig .tc .vmem S1x1x2560 .f32) (harg3 : arg3.IsWhole) (arg4 : Memref sig .tc .vmem S256x256 .fp8e4m3) (harg4 : arg4.IsWhole) (arg5 : Memref sig .tc .vmem S5x128x128 .f32) (harg5 : arg5.IsWhole) (arg6 : Memref sig .tc .vmem S1x128x2560 .fp8e4m3) (harg6 : arg6.IsWhole) (arg7 : Memref sig .tc .vmem S1x1x2560 .f32) (harg7 : arg7.IsWhole) (arg8 : Memref sig .tc .vmem S1x128x2560 .fp8e4m3) (harg8 : arg8.IsWhole) (arg9 : Memref sig .tc .vmem S1x1x2560 .f32) (harg9 : arg9.IsWhole)
    (X_arg1 : BufTy.Contents (Elt Ideal) arg1.view.ty) (X_arg2 : BufTy.Contents (Elt Ideal) arg2.view.ty) (X_arg3 : BufTy.Contents (Elt Ideal) arg3.view.ty) (X_arg4 : BufTy.Contents (Elt Ideal) arg4.view.ty) (X_arg5 : BufTy.Contents (Elt Ideal) arg5.view.ty) (k : Fin k0_t1_loop.trips) (pc) (hpc : pc ∈ (tripL_k0_t1 (F := Ideal) 𝒱 c bd i arg1 harg1 arg2 harg2 arg3 harg3 arg4 harg4 arg5 harg5 arg6 harg6 arg7 harg7 arg8 harg8 arg9 harg9 X_arg1 X_arg2 X_arg3 X_arg4 X_arg5 k).2.1) :
    ∀ x, pc.2 x = G7 (arg1.view.read _ X_arg1) (arg2.view.read _ X_arg2) (arg3.view.read _ X_arg3) (arg4.view.read _ X_arg4) (arg5.view.read _ X_arg5) (pc.1.emb x) := by
  have hk : k.val < 2 := Nat.lt_of_lt_of_le k.isLt k0_t1_abs.2.1
  unfold tripL_k0_t1 trip_k0_t1 at hpc
  dsimp only at hpc
  simp only [List.mem_cons, List.not_mem_nil, or_false] at hpc
  rcases hpc with rfl | rfl | rfl | rfl | rfl
  · intro x
    sl_unfold_words
    dsimp only
    refine (congrFun (chain7_4 _ _ _ _ _ _ _ _ _) x).trans ?_
    simp only [View.readAt_eq_ld]
    exact tile7 _ _ _ _ _ k.val hk 4 (by decide) _ _ _ (k0_off1_eq k 4) (k0_off2_eq k 4) (k0_off3_eq k 4) _ _ _ _ _ _ _ _ _ _ x
  · intro x
    sl_unfold_words
    dsimp only
    refine (congrFun (chain7_3 _ _ _ _ _ _ _ _ _) x).trans ?_
    simp only [View.readAt_eq_ld]
    exact tile7 _ _ _ _ _ k.val hk 3 (by decide) _ _ _ (k0_off1_eq k 3) (k0_off2_eq k 3) (k0_off3_eq k 3) _ _ _ _ _ _ _ _ _ _ x
  · intro x
    sl_unfold_words
    dsimp only
    refine (congrFun (chain7_2 _ _ _ _ _ _ _ _ _) x).trans ?_
    simp only [View.readAt_eq_ld]
    exact tile7 _ _ _ _ _ k.val hk 2 (by decide) _ _ _ (k0_off1_eq k 2) (k0_off2_eq k 2) (k0_off3_eq k 2) _ _ _ _ _ _ _ _ _ _ x
  · intro x
    sl_unfold_words
    dsimp only
    refine (congrFun (chain7_1 _ _ _ _ _ _ _ _ _) x).trans ?_
    simp only [View.readAt_eq_ld]
    exact tile7 _ _ _ _ _ k.val hk 1 (by decide) _ _ _ (k0_off1_eq k 1) (k0_off2_eq k 1) (k0_off3_eq k 1) _ _ _ _ _ _ _ _ _ _ x
  · intro x
    sl_unfold_words
    dsimp only
    refine (congrFun (chain7_0 _ _ _ _ _ _ _ _ _) x).trans ?_
    simp only [View.readAt_eq_ld]
    exact tile7 _ _ _ _ _ k.val hk 0 (by decide) _ _ _ (k0_off1_eq k 0) (k0_off2_eq k 0) (k0_off3_eq k 0) _ _ _ _ _ _ _ _ _ _ x

theorem loop7 (𝒱 : Variants) (c : Dev nD) (bd : Option 𝒱.V) (i : grid0.Coords) (arg1 : Memref sig .tc .vmem S2560x128 .f32) (harg1 : arg1.IsWhole) (arg2 : Memref sig .tc .vmem S1x128x2560 .fp8e4m3) (harg2 : arg2.IsWhole) (arg3 : Memref sig .tc .vmem S1x1x2560 .f32) (harg3 : arg3.IsWhole) (arg4 : Memref sig .tc .vmem S256x256 .fp8e4m3) (harg4 : arg4.IsWhole) (arg5 : Memref sig .tc .vmem S5x128x128 .f32) (harg5 : arg5.IsWhole) (arg6 : Memref sig .tc .vmem S1x128x2560 .fp8e4m3) (harg6 : arg6.IsWhole) (arg7 : Memref sig .tc .vmem S1x1x2560 .f32) (harg7 : arg7.IsWhole) (arg8 : Memref sig .tc .vmem S1x128x2560 .fp8e4m3) (harg8 : arg8.IsWhole) (arg9 : Memref sig .tc .vmem S1x1x2560 .f32) (harg9 : arg9.IsWhole)
    (X_arg1 : BufTy.Contents (Elt Ideal) arg1.view.ty) (X_arg2 : BufTy.Contents (Elt Ideal) arg2.view.ty) (X_arg3 : BufTy.Contents (Elt Ideal) arg3.view.ty) (X_arg4 : BufTy.Contents (Elt Ideal) arg4.view.ty) (X_arg5 : BufTy.Contents (Elt Ideal) arg5.view.ty)  {U H Hs w Z} (n : Nat) (h1 : arg1.view.read _ X_arg1 = U) (h2 : arg2.view.read _ X_arg2 = H) (h3 : arg3.view.read _ X_arg3 = Hs) (h4 : arg4.view.read _ X_arg4 = w) (h5 : arg5.view.read _ X_arg5 = Z) :
    ∀ pc ∈ (pb_k0_t1 (F := Ideal) 𝒱 c bd i arg1 harg1 arg2 harg2 arg3 harg3 arg4 harg4 arg5 harg5 arg6 harg6 arg7 harg7 arg8 harg8 arg9 harg9 X_arg1 X_arg2 X_arg3 X_arg4 X_arg5 n).2.1, ∀ x, pc.2 x = G7 U H Hs w Z (pc.1.emb x) := by
  subst h1 h2 h3 h4 h5
  induction n with
  | zero => intro pc hpc; exact absurd hpc List.not_mem_nil
  | succ n ih =>
    intro pc hpc
    rw [pb_k0_t1.eq_2] at hpc
    unfold pb_k0_t1Step at hpc
    split at hpc
    · rcases List.mem_append.mp hpc with h | h
      · exact trip7 _ _ _ _ arg1 harg1 arg2 harg2 arg3 harg3 arg4 harg4 arg5 harg5 arg6 harg6 arg7 harg7 arg8 harg8 arg9 harg9 _ _ _ _ _ _ pc h
      · exact ih pc h
    · exact ih pc hpc

theorem out7 (c : Dev nD) (i : grid0.Coords) (arg1 : Memref sig .tc .vmem S2560x128 .f32) (harg1 : arg1.IsWhole) (arg2 : Memref sig .tc .vmem S1x128x2560 .fp8e4m3) (harg2 : arg2.IsWhole) (arg3 : Memref sig .tc .vmem S1x1x2560 .f32) (harg3 : arg3.IsWhole) (arg4 : Memref sig .tc .vmem S256x256 .fp8e4m3) (harg4 : arg4.IsWhole) (arg5 : Memref sig .tc .vmem S5x128x128 .f32) (harg5 : arg5.IsWhole) (arg6 : Memref sig .tc .vmem S1x128x2560 .fp8e4m3) (harg6 : arg6.IsWhole) (arg7 : Memref sig .tc .vmem S1x1x2560 .f32) (harg7 : arg7.IsWhole) (arg8 : Memref sig .tc .vmem S1x128x2560 .fp8e4m3) (harg8 : arg8.IsWhole) (arg9 : Memref sig .tc .vmem S1x1x2560 .f32) (harg9 : arg9.IsWhole)
    (x0 : Vec Ideal S2560x128 .f32) (x1 : Vec Ideal S1x128x2560 .fp8e4m3) (x2 : Vec Ideal S1x1x2560 .f32) (x3 : Vec Ideal S256x256 .fp8e4m3) (x4 : Vec Ideal S5x128x128 .f32) :
    out0_A_6 c i arg1 harg1 arg2 harg2 arg3 harg3 arg4 harg4 arg5 harg5 arg6 harg6 arg7 harg7 arg8 harg8 arg9 harg9 x0 x1 x2 x3 x4 = G7 x0 x1 x2 x3 x4 := by
  unfold out0_A_6
  rw [View.read_writes_eq_canon _ _ _ (cover0_A_6 c i arg1 harg1 arg2 harg2 arg3 harg3 arg4 harg4 arg5 harg5 arg6 harg6 arg7 harg7 arg8 harg8 arg9 harg9 x0 x1 x2 x3 x4)]
  funext y
  refine View.canon_apply_of_pieces _ _ ?_ y (cover0_A_6 c i arg1 harg1 arg2 harg2 arg3 harg3 arg4 harg4 arg5 harg5 arg6 harg6 arg7 harg7 arg8 harg8 arg9 harg9 x0 x1 x2 x3 x4 y)
  unfold kernelRun0_A
  dsimp only
  refine loop7 _ _ _ _ arg1 harg1 arg2 harg2 arg3 harg3 arg4 harg4 arg5 harg5 arg6 harg6 arg7 harg7 arg8 harg8 arg9 harg9 _ _ _ _ _ _ ?_ ?_ ?_ ?_ ?_
  all_goals exact Memref.IsWhole.read_unread _ _

end Cert.DenseIdeal.Value
end
-- ==== Proof.DenseTrip8.lean ====
/-
  What the loop stores to result 3 of a block, trip by trip, and the block's result in closed form.
-/
module

public import proofs.«01_k».proof.Proof.DenseTile
public import Idealize.ShloMosaic.Lib.Pipeline.Value
public import Idealize.ShloMosaic.Lib.Pointwise

@[expose] public section

set_option maxRecDepth 16384

noncomputable section

namespace Cert.DenseIdeal.Value

open Cert.DenseIdeal Cert.DenseIdeal.Gen Idealize.ShloMosaic Idealize.ShloMosaic.TcCoe Idealize.SL.Sem Cert.DenseFn
open Idealize.ShloMosaic.Pipeline (Dat)

set_option maxHeartbeats 4000000 in
/-- What one trip stores is the block's closed form at the lanes it stores to. -/
theorem trip8 (𝒱 : Variants) (c : Dev nD) (bd : Option 𝒱.V) (i : grid0.Coords) (arg1 : Memref sig .tc .vmem S2560x128 .f32) (harg1 : arg1.IsWhole) (arg2 : Memref sig .tc .vmem S1x128x2560 .fp8e4m3) (harg2 : arg2.IsWhole) (arg3 : Memref sig .tc .vmem S1x1x2560 .f32) (harg3 : arg3.IsWhole) (arg4 : Memref sig .tc .vmem S256x256 .fp8e4m3) (harg4 : arg4.IsWhole) (arg5 : Memref sig .tc .vmem S5x128x128 .f32) (harg5 : arg5.IsWhole) (arg6 : Memref sig .tc .vmem S1x128x2560 .fp8e4m3) (harg6 : arg6.IsWhole) (arg7 : Memref sig .tc .vmem S1x1x2560 .f32) (harg7 : arg7.IsWhole) (arg8 : Memref sig .tc .vmem S1x128x2560 .fp8e4m3) (harg8 : arg8.IsWhole) (arg9 : Memref sig .tc .vmem S1x1x2560 .f32) (harg9 : arg9.IsWhole)
    (X_arg1 : BufTy.Contents (Elt Ideal) arg1.view.ty) (X_arg2 : BufTy.Contents (Elt Ideal) arg2.view.ty) (X_arg3 : BufTy.Contents (Elt Ideal) arg3.view.ty) (X_arg4 : BufTy.Contents (Elt Ideal) arg4.view.ty) (X_arg5 : BufTy.Contents (Elt Ideal) arg5.view.ty) (k : Fin k0_t1_loop.trips) (pc) (hpc : pc ∈ (tripL_k0_t1 (F := Ideal) 𝒱 c bd i arg1 harg1 arg2 harg2 arg3 harg3 arg4 harg4 arg5 harg5 arg6 harg6 arg7 harg7 arg8 harg8 arg9 harg9 X_arg1 X_arg2 X_arg3 X_arg4 X_arg5 k).2.2.1) :
    ∀ x, pc.2 x = G8 (arg1.view.read _ X_arg1) (arg2.view.read _ X_arg2) (arg3.view.read _ X_arg3) (arg4.view.read _ X_arg4) (arg5.view.read _ X_arg5) (pc.1.emb x) := by
  have hk : k.val < 2 := Nat.lt_of_lt_of_le k.isLt k0_t1_abs.2.1
  unfold tripL_k0_t1 trip_k0_t1 at hpc
  dsimp only at hpc
  simp only [List.mem_cons, List.not_mem_nil, or_false] at hpc
  rcases hpc with rfl | rfl | rfl | rfl | rfl
  · intro x
    sl_unfold_words
    dsimp only
    refine (congrFun (chain8_4 _) x).trans ?_
    simp only [View.readAt_eq_ld]
    exact tile8 _ _ _ _ _ k.val 4 _ _ (k0_off1_eq k 4) (k0_off2_eq k 4) _ _ x
  · intro x
    sl_unfold_words
    dsimp only
    refine (congrFun (chain8_3 _) x).trans ?_
    simp only [View.readAt_eq_ld]
    exact tile8 _ _ _ _ _ k.val 3 _ _ (k0_off1_eq k 3) (k0_off2_eq k 3) _ _ x
  · intro x
    sl_unfold_words
    dsimp only
    refine (congrFun (chain8_2 _) x).trans ?_
    simp only [View.readAt_eq_ld]
    exact tile8 _ _ _ _ _ k.val 2 _ _ (k0_off1_eq k 2) (k0_off2_eq k 2) _ _ x
  · intro x
    sl_unfold_words
    dsimp only
    refine (congrFun (chain8_1 _) x).trans ?_
    simp only [View.readAt_eq_ld]
    exact tile8 _ _ _ _ _ k.val 1 _ _ (k0_off1_eq k 1) (k0_off2_eq k 1) _ _ x
  · intro x
    sl_unfold_words
    dsimp only
    refine (congrFun (chain8_0 _) x).trans ?_
    simp only [View.readAt_eq_ld]
    exact tile8 _ _ _ _ _ k.val 0 _ _ (k0_off1_eq k 0) (k0_off2_eq k 0) _ _ x

theorem loop8 (𝒱 : Variants) (c : Dev nD) (bd : Option 𝒱.V) (i : grid0.Coords) (arg1 : Memref sig .tc .vmem S2560x128 .f32) (harg1 : arg1.IsWhole) (arg2 : Memref sig .tc .vmem S1x128x2560 .fp8e4m3) (harg2 : arg2.IsWhole) (arg3 : Memref sig .tc .vmem S1x1x2560 .f32) (harg3 : arg3.IsWhole) (arg4 : Memref sig .tc .vmem S256x256 .fp8e4m3) (harg4 : arg4.IsWhole) (arg5 : Memref sig .tc .vmem S5x128x128 .f32) (harg5 : arg5.IsWhole) (arg6 : Memref sig .tc .vmem S1x128x2560 .fp8e4m3) (harg6 : arg6.IsWhole) (arg7 : Memref sig .tc .vmem S1x1x2560 .f32) (harg7 : arg7.IsWhole) (arg8 : Memref sig .tc .vmem S1x128x2560 .fp8e4m3) (harg8 : arg8.IsWhole) (arg9 : Memref sig .tc .vmem S1x1x2560 .f32) (harg9 : arg9.IsWhole)
    (X_arg1 : BufTy.Contents (Elt Ideal) arg1.view.ty) (X_arg2 : BufTy.Contents (Elt Ideal) arg2.view.ty) (X_arg3 : BufTy.Contents (Elt Ideal) arg3.view.ty) (X_arg4 : BufTy.Contents (Elt Ideal) arg4.view.ty) (X_arg5 : BufTy.Contents (Elt Ideal) arg5.view.ty)  {U H Hs w Z} (n : Nat) (h1 : arg1.view.read _ X_arg1 = U) (h2 : arg2.view.read _ X_arg2 = H) (h3 : arg3.view.read _ X_arg3 = Hs) (h4 : arg4.view.read _ X_arg4 = w) (h5 : arg5.view.read _ X_arg5 = Z) :
    ∀ pc ∈ (pb_k0_t1 (F := Ideal) 𝒱 c bd i arg1 harg1 arg2 harg2 arg3 harg3 arg4 harg4 arg5 harg5 arg6 harg6 arg7 harg7 arg8 harg8 arg9 harg9 X_arg1 X_arg2 X_arg3 X_arg4 X_arg5 n).2.2.1, ∀ x, pc.2 x = G8 U H Hs w Z (pc.1.emb x) := by
  subst h1 h2 h3 h4 h5
  induction n with
  | zero => intro pc hpc; exact absurd hpc List.not_mem_nil
  | succ n ih =>
    intro pc hpc
    rw [pb_k0_t1.eq_2] at hpc
    unfold pb_k0_t1Step at hpc
    split at hpc
    · rcases List.mem_append.mp hpc with h | h
      · exact trip8 _ _ _ _ arg1 harg1 arg2 harg2 arg3 harg3 arg4 harg4 arg5 harg5 arg6 harg6 arg7 harg7 arg8 harg8 arg9 harg9 _ _ _ _ _ _ pc h
      · exact ih pc h
    · exact ih pc hpc

theorem out8 (c : Dev nD) (i : grid0.Coords) (arg1 : Memref sig .tc .vmem S2560x128 .f32) (harg1 : arg1.IsWhole) (arg2 : Memref sig .tc .vmem S1x128x2560 .fp8e4m3) (harg2 : arg2.IsWhole) (arg3 : Memref sig .tc .vmem S1x1x2560 .f32) (harg3 : arg3.IsWhole) (arg4 : Memref sig .tc .vmem S256x256 .fp8e4m3) (harg4 : arg4.IsWhole) (arg5 : Memref sig .tc .vmem S5x128x128 .f32) (harg5 : arg5.IsWhole) (arg6 : Memref sig .tc .vmem S1x128x2560 .fp8e4m3) (harg6 : arg6.IsWhole) (arg7 : Memref sig .tc .vmem S1x1x2560 .f32) (harg7 : arg7.IsWhole) (arg8 : Memref sig .tc .vmem S1x128x2560 .fp8e4m3) (harg8 : arg8.IsWhole) (arg9 : Memref sig .tc .vmem S1x1x2560 .f32) (harg9 : arg9.IsWhole)
    (x0 : Vec Ideal S2560x128 .f32) (x1 : Vec Ideal S1x128x2560 .fp8e4m3) (x2 : Vec Ideal S1x1x2560 .f32) (x3 : Vec Ideal S256x256 .fp8e4m3) (x4 : Vec Ideal S5x128x128 .f32) :
    out0_A_7 c i arg1 harg1 arg2 harg2 arg3 harg3 arg4 harg4 arg5 harg5 arg6 harg6 arg7 harg7 arg8 harg8 arg9 harg9 x0 x1 x2 x3 x4 = G8 x0 x1 x2 x3 x4 := by
  unfold out0_A_7
  rw [View.read_writes_eq_canon _ _ _ (cover0_A_7 c i arg1 harg1 arg2 harg2 arg3 harg3 arg4 harg4 arg5 harg5 arg6 harg6 arg7 harg7 arg8 harg8 arg9 harg9 x0 x1 x2 x3 x4)]
  funext y
  refine View.canon_apply_of_pieces _ _ ?_ y (cover0_A_7 c i arg1 harg1 arg2 harg2 arg3 harg3 arg4 harg4 arg5 harg5 arg6 harg6 arg7 harg7 arg8 harg8 arg9 harg9 x0 x1 x2 x3 x4 y)
  unfold kernelRun0_A
  dsimp only
  refine loop8 _ _ _ _ arg1 harg1 arg2 harg2 arg3 harg3 arg4 harg4 arg5 harg5 arg6 harg6 arg7 harg7 arg8 harg8 arg9 harg9 _ _ _ _ _ _ ?_ ?_ ?_ ?_ ?_
  all_goals exact Memref.IsWhole.read_unread _ _

end Cert.DenseIdeal.Value
end
-- ==== Proof.DenseTrip9.lean ====
/-
  What the loop stores to result 4 of a block, trip by trip, and the block's result in closed form.
-/
module

public import proofs.«01_k».proof.Proof.DenseTile
public import Idealize.ShloMosaic.Lib.Pipeline.Value
public import Idealize.ShloMosaic.Lib.Pointwise

@[expose] public section

set_option maxRecDepth 16384

noncomputable section

namespace Cert.DenseIdeal.Value

open Cert.DenseIdeal Cert.DenseIdeal.Gen Idealize.ShloMosaic Idealize.ShloMosaic.TcCoe Idealize.SL.Sem Cert.DenseFn
open Idealize.ShloMosaic.Pipeline (Dat)

set_option maxHeartbeats 4000000 in
/-- What one trip stores is the block's closed form at the lanes it stores to. -/
theorem trip9 (𝒱 : Variants) (c : Dev nD) (bd : Option 𝒱.V) (i : grid0.Coords) (arg1 : Memref sig .tc .vmem S2560x128 .f32) (harg1 : arg1.IsWhole) (arg2 : Memref sig .tc .vmem S1x128x2560 .fp8e4m3) (harg2 : arg2.IsWhole) (arg3 : Memref sig .tc .vmem S1x1x2560 .f32) (harg3 : arg3.IsWhole) (arg4 : Memref sig .tc .vmem S256x256 .fp8e4m3) (harg4 : arg4.IsWhole) (arg5 : Memref sig .tc .vmem S5x128x128 .f32) (harg5 : arg5.IsWhole) (arg6 : Memref sig .tc .vmem S1x128x2560 .fp8e4m3) (harg6 : arg6.IsWhole) (arg7 : Memref sig .tc .vmem S1x1x2560 .f32) (harg7 : arg7.IsWhole) (arg8 : Memref sig .tc .vmem S1x128x2560 .fp8e4m3) (harg8 : arg8.IsWhole) (arg9 : Memref sig .tc .vmem S1x1x2560 .f32) (harg9 : arg9.IsWhole)
    (X_arg1 : BufTy.Contents (Elt Ideal) arg1.view.ty) (X_arg2 : BufTy.Contents (Elt Ideal) arg2.view.ty) (X_arg3 : BufTy.Contents (Elt Ideal) arg3.view.ty) (X_arg4 : BufTy.Contents (Elt Ideal) arg4.view.ty) (X_arg5 : BufTy.Contents (Elt Ideal) arg5.view.ty) (k : Fin k0_t1_loop.trips) (pc) (hpc : pc ∈ (tripL_k0_t1 (F := Ideal) 𝒱 c bd i arg1 harg1 arg2 harg2 arg3 harg3 arg4 harg4 arg5 harg5 arg6 harg6 arg7 harg7 arg8 harg8 arg9 harg9 X_arg1 X_arg2 X_arg3 X_arg4 X_arg5 k).2.2.2) :
    ∀ x, pc.2 x = G9 (arg1.view.read _ X_arg1) (arg2.view.read _ X_arg2) (arg3.view.read _ X_arg3) (arg4.view.read _ X_arg4) (arg5.view.read _ X_arg5) (pc.1.emb x) := by
  have hk : k.val < 2 := Nat.lt_of_lt_of_le k.isLt k0_t1_abs.2.1
  unfold tripL_k0_t1 trip_k0_t1 at hpc
  dsimp only at hpc
  simp only [List.mem_cons, List.not_mem_nil, or_false] at hpc
  rcases hpc with rfl | rfl | rfl | rfl | rfl
  · intro x
    sl_unfold_words
    dsimp only
    refine (congrFun (chain9_4 _) x).trans ?_
    simp only [View.readAt_eq_ld]
    exact tile9 _ _ _ _ _ k.val 4 _ _ (k0_off1_eq k 4) (k0_off3_eq k 4) _ _ x
  · intro x
    sl_unfold_words
    dsimp only
    refine (congrFun (chain9_3 _) x).trans ?_
    simp only [View.readAt_eq_ld]
    exact tile9 _ _ _ _ _ k.val 3 _ _ (k0_off1_eq k 3) (k0_off3_eq k 3) _ _ x
  · intro x
    sl_unfold_words
    dsimp only
    refine (congrFun (chain9_2 _) x).trans ?_
    simp only [View.readAt_eq_ld]
    exact tile9 _ _ _ _ _ k.val 2 _ _ (k0_off1_eq k 2) (k0_off3_eq k 2) _ _ x
  · intro x
    sl_unfold_words
    dsimp only
    refine (congrFun (chain9_1 _) x).trans ?_
    simp only [View.readAt_eq_ld]
    exact tile9 _ _ _ _ _ k.val 1 _ _ (k0_off1_eq k 1) (k0_off3_eq k 1) _ _ x
  · intro x
    sl_unfold_words
    dsimp only
    refine (congrFun (chain9_0 _) x).trans ?_
    simp only [View.readAt_eq_ld]
    exact tile9 _ _ _ _ _ k.val 0 _ _ (k0_off1_eq k 0) (k0_off3_eq k 0) _ _ x

theorem loop9 (𝒱 : Variants) (c : Dev nD) (bd : Option 𝒱.V) (i : grid0.Coords) (arg1 : Memref sig .tc .vmem S2560x128 .f32) (harg1 : arg1.IsWhole) (arg2 : Memref sig .tc .vmem S1x128x2560 .fp8e4m3) (harg2 : arg2.IsWhole) (arg3 : Memref sig .tc .vmem S1x1x2560 .f32) (harg3 : arg3.IsWhole) (arg4 : Memref sig .tc .vmem S256x256 .fp8e4m3) (harg4 : arg4.IsWhole) (arg5 : Memref sig .tc .vmem S5x128x128 .f32) (harg5 : arg5.IsWhole) (arg6 : Memref sig .tc .vmem S1x128x2560 .fp8e4m3) (harg6 : arg6.IsWhole) (arg7 : Memref sig .tc .vmem S1x1x2560 .f32) (harg7 : arg7.IsWhole) (arg8 : Memref sig .tc .vmem S1x128x2560 .fp8e4m3) (harg8 : arg8.IsWhole) (arg9 : Memref sig .tc .vmem S1x1x2560 .f32) (harg9 : arg9.IsWhole)
    (X_arg1 : BufTy.Contents (Elt Ideal) arg1.view.ty) (X_arg2 : BufTy.Contents (Elt Ideal) arg2.view.ty) (X_arg3 : BufTy.Contents (Elt Ideal) arg3.view.ty) (X_arg4 : BufTy.Contents (Elt Ideal) arg4.view.ty) (X_arg5 : BufTy.Contents (Elt Ideal) arg5.view.ty)  {U H Hs w Z} (n : Nat) (h1 : arg1.view.read _ X_arg1 = U) (h2 : arg2.view.read _ X_arg2 = H) (h3 : arg3.view.read _ X_arg3 = Hs) (h4 : arg4.view.read _ X_arg4 = w) (h5 : arg5.view.read _ X_arg5 = Z) :
    ∀ pc ∈ (pb_k0_t1 (F := Ideal) 𝒱 c bd i arg1 harg1 arg2 harg2 arg3 harg3 arg4 harg4 arg5 harg5 arg6 harg6 arg7 harg7 arg8 harg8 arg9 harg9 X_arg1 X_arg2 X_arg3 X_arg4 X_arg5 n).2.2.2, ∀ x, pc.2 x = G9 U H Hs w Z (pc.1.emb x) := by
  subst h1 h2 h3 h4 h5
  induction n with
  | zero => intro pc hpc; exact absurd hpc List.not_mem_nil
  | succ n ih =>
    intro pc hpc
    rw [pb_k0_t1.eq_2] at hpc
    unfold pb_k0_t1Step at hpc
    split at hpc
    · rcases List.mem_append.mp hpc with h | h
      · exact trip9 _ _ _ _ arg1 harg1 arg2 harg2 arg3 harg3 arg4 harg4 arg5 harg5 arg6 harg6 arg7 harg7 arg8 harg8 arg9 harg9 _ _ _ _ _ _ pc h
      · exact ih pc h
    · exact ih pc hpc

theorem out9 (c : Dev nD) (i : grid0.Coords) (arg1 : Memref sig .tc .vmem S2560x128 .f32) (harg1 : arg1.IsWhole) (arg2 : Memref sig .tc .vmem S1x128x2560 .fp8e4m3) (harg2 : arg2.IsWhole) (arg3 : Memref sig .tc .vmem S1x1x2560 .f32) (harg3 : arg3.IsWhole) (arg4 : Memref sig .tc .vmem S256x256 .fp8e4m3) (harg4 : arg4.IsWhole) (arg5 : Memref sig .tc .vmem S5x128x128 .f32) (harg5 : arg5.IsWhole) (arg6 : Memref sig .tc .vmem S1x128x2560 .fp8e4m3) (harg6 : arg6.IsWhole) (arg7 : Memref sig .tc .vmem S1x1x2560 .f32) (harg7 : arg7.IsWhole) (arg8 : Memref sig .tc .vmem S1x128x2560 .fp8e4m3) (harg8 : arg8.IsWhole) (arg9 : Memref sig .tc .vmem S1x1x2560 .f32) (harg9 : arg9.IsWhole)
    (x0 : Vec Ideal S2560x128 .f32) (x1 : Vec Ideal S1x128x2560 .fp8e4m3) (x2 : Vec Ideal S1x1x2560 .f32) (x3 : Vec Ideal S256x256 .fp8e4m3) (x4 : Vec Ideal S5x128x128 .f32) :
    out0_A_8 c i arg1 harg1 arg2 harg2 arg3 harg3 arg4 harg4 arg5 harg5 arg6 harg6 arg7 harg7 arg8 harg8 arg9 harg9 x0 x1 x2 x3 x4 = G9 x0 x1 x2 x3 x4 := by
  unfold out0_A_8
  rw [View.read_writes_eq_canon _ _ _ (cover0_A_8 c i arg1 harg1 arg2 harg2 arg3 harg3 arg4 harg4 arg5 harg5 arg6 harg6 arg7 harg7 arg8 harg8 arg9 harg9 x0 x1 x2 x3 x4)]
  funext y
  refine View.canon_apply_of_pieces _ _ ?_ y (cover0_A_8 c i arg1 harg1 arg2 harg2 arg3 harg3 arg4 harg4 arg5 harg5 arg6 harg6 arg7 harg7 arg8 harg8 arg9 harg9 x0 x1 x2 x3 x4 y)
  unfold kernelRun0_A
  dsimp only
  refine loop9 _ _ _ _ arg1 harg1 arg2 harg2 arg3 harg3 arg4 harg4 arg5 harg5 arg6 harg6 arg7 harg7 arg8 harg8 arg9 harg9 _ _ _ _ _ _ ?_ ?_ ?_ ?_ ?_
  all_goals exact Memref.IsWhole.read_unread _ _

end Cert.DenseIdeal.Value
end
-- ==== Proof.DenseArray.lean ====
/-
  The arrays of the dense part: what the host operations put before the region, the blocks, and what the region
  leaves in the four result arrays.
-/
module

public import proofs.«01_k».proof.Proof.DenseTrip6
public import proofs.«01_k».proof.Proof.DenseTrip7
public import proofs.«01_k».proof.Proof.DenseTrip8
public import proofs.«01_k».proof.Proof.DenseTrip9
public import Idealize.ShloMosaic.Lib.Pipeline.Value
public import Idealize.ShloMosaic.Lib.Pointwise

@[expose] public section

set_option maxRecDepth 16384

noncomputable section

namespace Cert.DenseIdeal.Value

open Cert.DenseIdeal Cert.DenseIdeal.Gen Idealize.ShloMosaic Idealize.ShloMosaic.TcCoe Idealize.SL.Sem Cert.DenseFn
open Idealize.ShloMosaic.Pipeline (Dat)

variable (m : (ℓ : Loc nD τ sig) → Buf (Elt Ideal) ℓ)

/-! ## The arguments -/

abbrev msg (c : Dev nD) : Vec Ideal S4736x40x128 .f32 := m ((c : Thread nD τ).loc main_arg0)
abbrev hcodes (c : Dev nD) : Vec Ideal S4736x40x128 .fp8e4m3 := m ((c : Thread nD τ).loc main_arg1)
abbrev hscales (c : Dev nD) : Vec Ideal S4736x40 .f32 := m ((c : Thread nD τ).loc main_arg2)
abbrev wself (c : Dev nD) : Vec Ideal S128x128 .fp8e4m3 := m ((c : Thread nD τ).loc main_arg3)
abbrev sself (c : Dev nD) : Vec Ideal S128 .f32 := m ((c : Thread nD τ).loc main_arg4)
abbrev wagg (c : Dev nD) : Vec Ideal S128x128 .fp8e4m3 := m ((c : Thread nD τ).loc main_arg5)
abbrev sagg (c : Dev nD) : Vec Ideal S128 .f32 := m ((c : Thread nD τ).loc main_arg6)
abbrev blin' (c : Dev nD) : Vec Ideal S128 .f32 := m ((c : Thread nD τ).loc main_arg7)
abbrev lng (c : Dev nD) : Vec Ideal S128 .f32 := m ((c : Thread nD τ).loc main_arg8)
abbrev lnb (c : Dev nD) : Vec Ideal S128 .f32 := m ((c : Thread nD τ).loc main_arg9)

/-- The node of lane `l` of block `t`. -/
abbrev node (t : Fin 74) (l : Fin 2560) : Fin 4736 := ⟨t.val * 64 + l.val / 1280 * 32 + l.val / 8 % 32, by omega⟩
/-- The query of lane `l`. -/
abbrev qry (l : Fin 2560) : Fin 40 := ⟨l.val / 256 % 5 * 8 + l.val % 8, by omega⟩

/-! ## The arrays the host computes before the region -/

theorem v2_apply (c : Dev nD) (t : Fin 74) (l : Fin 2560) (x : Fin 128) :
    (V m c main_v2 : Vec Ideal S189440x128 .f32) (ix2 ⟨t.val * 2560 + l.val, by omega⟩ x) = msg m c (ix3 (node t l) (qry l) x) := by
  show StableHlo.after hostOps0 (fun b => m (c, b)) (Proc.devRef .tc main_v2) _ = _
  after_results
  pointwise []
  refine congrArg₂ (fun a b => msg m c (ix3 a b x)) (Fin.ext ?_) (Fin.ext ?_)
  · show t.val * 64 + (t.val * 2560 + l.val) / 1280 % 2 * 32 + (t.val * 2560 + l.val) / 8 % 32 = t.val * 64 + l.val / 1280 * 32 + l.val / 8 % 32
    omega
  · show (t.val * 2560 + l.val) / 256 % 5 * 8 + (t.val * 2560 + l.val) % 8 = l.val / 256 % 5 * 8 + l.val % 8
    omega

theorem v20_apply (c : Dev nD) (t : Fin 74) (d : Fin 128) (l : Fin 2560) :
    (V m c main_v20 : Vec Ideal S74x128x2560 .fp8e4m3) (ix3 t d l) = hcodes m c (ix3 (node t l) (qry l) d) := by
  show StableHlo.after hostOps0 (fun b => m (c, b)) (Proc.devRef .tc main_v20) _ = _
  after_results
  pointwise []

theorem v23_apply (c : Dev nD) (t : Fin 74) (l : Fin 2560) :
    (V m c main_v23 : Vec Ideal S74x1x2560 .f32) (ix3 t 0 l) = hscales m c (ix2 (node t l) (qry l)) := by
  show StableHlo.after hostOps0 (fun b => m (c, b)) (Proc.devRef .tc main_v23) _ = _
  after_results
  pointwise []

theorem v9_eq (c : Dev nD) : (V m c main_v9 : Vec Ideal S256x256 .fp8e4m3)
    = concatenate S256x256 0 [⟨S128x256, concatenate S128x256 1 [⟨S128x128, transpose S128x128 [1, 0] (wself m c) transposes_S128x128_S128x128_1_0⟩, ⟨S128x128, fun _ => (0 : EReal)⟩] concatenates_S128x128_S128x128_S128x256_d1⟩,
        ⟨S128x256, concatenate S128x256 1 [⟨S128x128, fun _ => (0 : EReal)⟩, ⟨S128x128, transpose S128x128 [1, 0] (wagg m c) transposes_S128x128_S128x128_1_0⟩] concatenates_S128x128_S128x128_S128x256_d1⟩] concatenates_S128x256_S128x256_S256x256_d0 := by
  have hz : Host.convertf (F := Ideal) .fp8e4m3 (broadcastInDim S128x128 ![] bcast_S_S128x128 (constant (F := Ideal) S_ .f32 0x00000000#32) : FVec Ideal S128x128 .f32) = fun _ => (0 : EReal) := by
    funext i
    show Ideal.ofBits .f32 0x00000000#32 = 0
    simp [Ideal.ofBits, Ideal.ieee]
  rw [← hz]
  show StableHlo.after hostOps0 (fun b => m (c, b)) (Proc.devRef .tc main_v9) = _
  after_results

theorem v9_00 (c : Dev nD) (i x : Fin 128) : (V m c main_v9 : Vec Ideal S256x256 .fp8e4m3) (ix2 ⟨i.val, by omega⟩ ⟨x.val, by omega⟩) = wself m c (ix2 x i) := by
  rw [v9_eq]
  pointwise []
theorem v9_01 (c : Dev nD) (i x : Fin 128) : (V m c main_v9 : Vec Ideal S256x256 .fp8e4m3) (ix2 ⟨i.val, by omega⟩ ⟨128 + x.val, by omega⟩) = (0 : EReal) := by
  rw [v9_eq]
  pointwise []
theorem v9_10 (c : Dev nD) (i x : Fin 128) : (V m c main_v9 : Vec Ideal S256x256 .fp8e4m3) (ix2 ⟨128 + i.val, by omega⟩ ⟨x.val, by omega⟩) = (0 : EReal) := by
  rw [v9_eq]
  pointwise []
theorem v9_11 (c : Dev nD) (i x : Fin 128) : (V m c main_v9 : Vec Ideal S256x256 .fp8e4m3) (ix2 ⟨128 + i.val, by omega⟩ ⟨128 + x.val, by omega⟩) = wagg m c (ix2 x i) := by
  rw [v9_eq]
  pointwise []

theorem v17_0 (c : Dev nD) (i y : Fin 128) : (V m c main_v17 : Vec Ideal S5x128x128 .f32) (ix3 0 i y) = sself m c (ix1 i) := by
  show StableHlo.after hostOps0 (fun b => m (c, b)) (Proc.devRef .tc main_v17) _ = _
  after_results
  pointwise []
  simp only [StableHlo.readResult, StableHlo.readPieces]
  pointwise []
theorem v17_1 (c : Dev nD) (i y : Fin 128) : (V m c main_v17 : Vec Ideal S5x128x128 .f32) (ix3 1 i y) = sagg m c (ix1 i) := by
  show StableHlo.after hostOps0 (fun b => m (c, b)) (Proc.devRef .tc main_v17) _ = _
  after_results
  pointwise []
  simp only [StableHlo.readResult, StableHlo.readPieces]
  pointwise []
theorem v17_2 (c : Dev nD) (i y : Fin 128) : (V m c main_v17 : Vec Ideal S5x128x128 .f32) (ix3 2 i y) = blin' m c (ix1 i) := by
  show StableHlo.after hostOps0 (fun b => m (c, b)) (Proc.devRef .tc main_v17) _ = _
  after_results
  pointwise []
  simp only [StableHlo.readResult, StableHlo.readPieces]
  pointwise []
theorem v17_3 (c : Dev nD) (i y : Fin 128) : (V m c main_v17 : Vec Ideal S5x128x128 .f32) (ix3 3 i y) = lng m c (ix1 i) := by
  show StableHlo.after hostOps0 (fun b => m (c, b)) (Proc.devRef .tc main_v17) _ = _
  after_results
  pointwise []
  simp only [StableHlo.readResult, StableHlo.readPieces]
  pointwise []
theorem v17_4 (c : Dev nD) (i y : Fin 128) : (V m c main_v17 : Vec Ideal S5x128x128 .f32) (ix3 4 i y) = lnb m c (ix1 i) := by
  show StableHlo.after hostOps0 (fun b => m (c, b)) (Proc.devRef .tc main_v17) _ = _
  after_results
  pointwise []
  simp only [StableHlo.readResult, StableHlo.readPieces]
  pointwise []

/-! ## The blocks of the input windows -/

theorem iblk_3 (c : Dev nD) (t : Fin cfg0.N) : (iblk m c 3 t : Vec Ideal S256x256 .fp8e4m3) = V m c main_v9 := by
  have hz' : (fun a => win0_3.index t a * main_v9.ty.shape.size a) = fun _ => 0 := funext fun a => by fin_cases a <;> rfl
  exact Memref.read_access_unit_zero (Elt Ideal) main_v9 hz' (fun a => by rw [congrFun hz' a]; simp) (V m c main_v9)
theorem iblk_4 (c : Dev nD) (t : Fin cfg0.N) : (iblk m c 4 t : Vec Ideal S5x128x128 .f32) = V m c main_v17 := by
  have hz' : (fun a => win0_4.index t a * main_v17.ty.shape.size a) = fun _ => 0 := funext fun a => by fin_cases a <;> rfl
  exact Memref.read_access_unit_zero (Elt Ideal) main_v17 hz' (fun a => by rw [congrFun hz' a]; simp) (V m c main_v17)

theorem index_0 (t : Fin cfg0.N) : win0_0.index t 0 = t.val ∧ win0_0.index t 1 = 0 :=
  (by decide +kernel : ∀ t : Fin grid0.N, win0_0.index t 0 = t.val ∧ win0_0.index t 1 = 0) t
theorem index_1 (t : Fin cfg0.N) : win0_1.index t 0 = t.val ∧ win0_1.index t 1 = 0 ∧ win0_1.index t 2 = 0 :=
  (by decide +kernel : ∀ t : Fin grid0.N, win0_1.index t 0 = t.val ∧ win0_1.index t 1 = 0 ∧ win0_1.index t 2 = 0) t
theorem index_2 (t : Fin cfg0.N) : win0_2.index t 0 = t.val ∧ win0_2.index t 1 = 0 ∧ win0_2.index t 2 = 0 :=
  (by decide +kernel : ∀ t : Fin grid0.N, win0_2.index t 0 = t.val ∧ win0_2.index t 1 = 0 ∧ win0_2.index t 2 = 0) t
theorem index_5 (t : Fin cfg0.N) : win0_5.index t 0 = t.val ∧ win0_5.index t 1 = 0 ∧ win0_5.index t 2 = 0 :=
  (by decide +kernel : ∀ t : Fin grid0.N, win0_5.index t 0 = t.val ∧ win0_5.index t 1 = 0 ∧ win0_5.index t 2 = 0) t
theorem index_6 (t : Fin cfg0.N) : win0_6.index t 0 = t.val ∧ win0_6.index t 1 = 0 ∧ win0_6.index t 2 = 0 :=
  (by decide +kernel : ∀ t : Fin grid0.N, win0_6.index t 0 = t.val ∧ win0_6.index t 1 = 0 ∧ win0_6.index t 2 = 0) t
theorem index_7 (t : Fin cfg0.N) : win0_7.index t 0 = t.val ∧ win0_7.index t 1 = 0 ∧ win0_7.index t 2 = 0 :=
  (by decide +kernel : ∀ t : Fin grid0.N, win0_7.index t 0 = t.val ∧ win0_7.index t 1 = 0 ∧ win0_7.index t 2 = 0) t
theorem index_8 (t : Fin cfg0.N) : win0_8.index t 0 = t.val ∧ win0_8.index t 1 = 0 ∧ win0_8.index t 2 = 0 :=
  (by decide +kernel : ∀ t : Fin grid0.N, win0_8.index t 0 = t.val ∧ win0_8.index t 1 = 0 ∧ win0_8.index t 2 = 0) t

theorem lt74 (t : Fin cfg0.N) : t.val < 74 := by have := t.isLt; have h : cfg0.N = 74 := N_0; omega

/-- The block number of a grid point. -/
abbrev blk (t : Fin cfg0.N) : Fin 74 := ⟨t.val, lt74 t⟩

theorem iblk_0 (c : Dev nD) (t : Fin cfg0.N) (l : Fin 2560) (x : Fin 128) :
    (iblk m c 0 t : Vec Ideal S2560x128 .f32) (ix2 l x) = msg m c (ix3 (node (blk t) l) (qry l) x) := by
  have hi := index_0 t
  refine Eq.trans ?_ (v2_apply m c (blk t) l x)
  unfold iblk
  rw [View.read_apply]
  show V m c main_v2 _ = V m c main_v2 _
  congr 1
  funext a
  apply Fin.ext
  match a with
  | ⟨0, _⟩ => show win0_0.index t 0 * 2560 + 1 * l.val = t.val * 2560 + l.val; rw [hi.1]; omega
  | ⟨1, _⟩ => show win0_0.index t 1 * 128 + 1 * x.val = x.val; rw [hi.2]; omega

theorem iblk_1 (c : Dev nD) (t : Fin cfg0.N) (d : Fin 128) (l : Fin 2560) :
    (iblk m c 1 t : Vec Ideal S1x128x2560 .fp8e4m3) (ix3 0 d l) = hcodes m c (ix3 (node (blk t) l) (qry l) d) := by
  have hi := index_1 t
  refine Eq.trans ?_ (v20_apply m c (blk t) d l)
  unfold iblk
  rw [View.read_apply]
  show V m c main_v20 _ = V m c main_v20 _
  congr 1
  funext a
  apply Fin.ext
  match a with
  | ⟨0, _⟩ => show win0_1.index t 0 * 1 + 1 * 0 = t.val; rw [hi.1]; omega
  | ⟨1, _⟩ => show win0_1.index t 1 * 128 + 1 * d.val = d.val; rw [hi.2.1]; omega
  | ⟨2, _⟩ => show win0_1.index t 2 * 2560 + 1 * l.val = l.val; rw [hi.2.2]; omega

theorem iblk_2 (c : Dev nD) (t : Fin cfg0.N) (l : Fin 2560) :
    (iblk m c 2 t : Vec Ideal S1x1x2560 .f32) (ix3 0 0 l) = hscales m c (ix2 (node (blk t) l) (qry l)) := by
  have hi := index_2 t
  refine Eq.trans ?_ (v23_apply m c (blk t) l)
  unfold iblk
  rw [View.read_apply]
  show V m c main_v23 _ = V m c main_v23 _
  congr 1
  funext a
  apply Fin.ext
  match a with
  | ⟨0, _⟩ => show win0_2.index t 0 * 1 + 1 * 0 = t.val; rw [hi.1]; omega
  | ⟨1, _⟩ => show win0_2.index t 1 * 1 + 1 * 0 = 0; rw [hi.2.1]
  | ⟨2, _⟩ => show win0_2.index t 2 * 2560 + 1 * l.val = l.val; rw [hi.2.2]; omega

/-! ## The block's results from the arguments -/

/-- The message row of one node and query. -/
def urow (c : Dev nD) (n : Fin 4736) (q : Fin 40) : Fin 128 → EReal := fun x => msg m c (ix3 n q x)

/-- The new row of one node and query. -/
def hrow (c : Dev nD) (n : Fin 4736) (q : Fin 40) : Fin 128 → EReal :=
  outrow (fun x i => wself m c (ix2 x i)) (fun x i => wagg m c (ix2 x i)) (fun i => sself m c (ix1 i)) (fun i => sagg m c (ix1 i)) (fun i => blin' m c (ix1 i))
    (fun i => lng m c (ix1 i)) (fun i => lnb m c (ix1 i)) (fun x => hcodes m c (ix3 n q x)) (hscales m c (ix2 n q)) (urow m c n q)

/-- The stacked weights have zero blocks off the diagonal, so the two products at once are the two products. -/
theorem blin_of {w : Vec Ideal S256x256 .fp8e4m3} {ws wa : Fin 128 → Fin 128 → EReal}
    (h00 : ∀ i x : Fin 128, w (ix2 ⟨i.val, by omega⟩ ⟨x.val, by omega⟩) = ws x i) (h01 : ∀ i x : Fin 128, w (ix2 ⟨i.val, by omega⟩ ⟨128 + x.val, by omega⟩) = 0)
    (h10 : ∀ i x : Fin 128, w (ix2 ⟨128 + i.val, by omega⟩ ⟨x.val, by omega⟩) = 0) (h11 : ∀ i x : Fin 128, w (ix2 ⟨128 + i.val, by omega⟩ ⟨128 + x.val, by omega⟩) = wa x i)
    (c0 c1 c2 hc : Fin 128 → EReal) (hs : EReal) (uc : Fin 128 → EReal) (us : EReal) :
    blin w c0 c1 c2 hc hs uc us = lin ws wa c0 c1 c2 hc hs uc us := by
  funext i
  have e1 : ∀ x, ws x i * hc x = hc x * ws x i := fun x => mul_comm _ _
  have e2 : ∀ x, wa x i * uc x = uc x * wa x i := fun x => mul_comm _ _
  unfold blin lin
  simp only [h00, h01, h10, h11, zero_mul, Finset.sum_const_zero, add_zero, zero_add, e1, e2]

theorem blin_eq (c : Dev nD) (c0 c1 c2 hc : Fin 128 → EReal) (hs : EReal) (uc : Fin 128 → EReal) (us : EReal) :
    blin (V m c main_v9) c0 c1 c2 hc hs uc us = lin (fun x i => wself m c (ix2 x i)) (fun x i => wagg m c (ix2 x i)) c0 c1 c2 hc hs uc us :=
  blin_of (v9_00 m c) (v9_01 m c) (v9_10 m c) (v9_11 m c) c0 c1 c2 hc hs uc us

theorem bnew_of {U : Vec Ideal S2560x128 .f32} {H : Vec Ideal S1x128x2560 .fp8e4m3} {Hs : Vec Ideal S1x1x2560 .f32} {w : Vec Ideal S256x256 .fp8e4m3}
    {Z : Vec Ideal S5x128x128 .f32} {l : Fin 2560} {c0 c1 c2 c3 c4 hc : Fin 128 → EReal} {hs : EReal} {u : Fin 128 → EReal}
    (h0 : ∀ i, Z (ix3 0 i ⟨l.val % 128, by omega⟩) = c0 i) (h1 : ∀ i, Z (ix3 1 i ⟨l.val % 128, by omega⟩) = c1 i)
    (h2 : ∀ i, Z (ix3 2 i ⟨l.val % 128, by omega⟩) = c2 i) (h3 : ∀ i, Z (ix3 3 i ⟨l.val % 128, by omega⟩) = c3 i)
    (h4 : ∀ i, Z (ix3 4 i ⟨l.val % 128, by omega⟩) = c4 i) (hH : ∀ x, H (ix3 0 x l) = hc x) (hHs : Hs (ix3 0 0 l) = hs) (hU : ∀ x, U (ix2 l x) = u x) :
    bnew U H Hs w Z l = brow w c0 c1 c2 c3 c4 hc hs u := by
  obtain rfl := funext h0
  obtain rfl := funext h1
  obtain rfl := funext h2
  obtain rfl := funext h3
  obtain rfl := funext h4
  obtain rfl := funext hH
  obtain rfl := hHs
  obtain rfl := funext hU
  rfl

theorem bnew_eq (c : Dev nD) (t : Fin cfg0.N) (l : Fin 2560) :
    bnew (iblk m c 0 t) (iblk m c 1 t) (iblk m c 2 t) (iblk m c 3 t) (iblk m c 4 t) l = hrow m c (node (blk t) l) (qry l) := by
  rw [iblk_3, iblk_4]
  refine (bnew_of (fun i => v17_0 m c i _) (fun i => v17_1 m c i _) (fun i => v17_2 m c i _) (fun i => v17_3 m c i _) (fun i => v17_4 m c i _)
    (fun x => iblk_1 m c t x l) (iblk_2 m c t l) (fun x => iblk_0 m c t l x)).trans ?_
  unfold brow hrow outrow urow
  rw [blin_eq]

theorem brow_u (c : Dev nD) (t : Fin cfg0.N) (l : Fin 2560) :
    (fun x => (iblk m c 0 t : Vec Ideal S2560x128 .f32) (ix2 l x)) = urow m c (node (blk t) l) (qry l) := by
  unfold urow
  simp only [iblk_0]

/-! ## The four result arrays -/

def R6 (c : Dev nD) : Vec Ideal S74x128x2560 .fp8e4m3 := fun y => qcode (hrow m c (node (y 0) (y 2)) (qry (y 2))) (y 1)
def R7 (c : Dev nD) : Vec Ideal S74x1x2560 .f32 := fun y => qscale (hrow m c (node (y 0) (y 2)) (qry (y 2)))
def R8 (c : Dev nD) : Vec Ideal S74x128x2560 .fp8e4m3 := fun y => qcode (urow m c (node (y 0) (y 2)) (qry (y 2))) (y 1)
def R9 (c : Dev nD) : Vec Ideal S74x1x2560 .f32 := fun y => qscale (urow m c (node (y 0) (y 2)) (qry (y 2)))

theorem block6 (c : Dev nD) (t : Fin cfg0.N) (y : S1x128x2560.Idx) :
    G6 (iblk m c 0 t) (iblk m c 1 t) (iblk m c 2 t) (iblk m c 3 t) (iblk m c 4 t) y = qcode (hrow m c (node (blk t) (y 2)) (qry (y 2))) (y 1) := by
  exact congrArg (fun r => qcode r (y 1)) (bnew_eq m c t (y 2))

theorem emb6 (t : Fin cfg0.N) (y : S1x128x2560.Idx) : ((cfg0.win 5).blk t).view.emb y = (ix3 (blk t) (y 1) (y 2) : S74x128x2560.Idx) := by
  have hi := index_5 t
  have h0 : (y 0).val = 0 := by have : (y 0).val < 1 := (y 0).isLt; omega
  funext a
  apply Fin.ext
  match a with
  | ⟨0, _⟩ => show win0_5.index t 0 * 1 + 1 * (y 0).val = t.val; rw [hi.1, h0]; omega
  | ⟨1, _⟩ => show win0_5.index t 1 * 128 + 1 * (y 1).val = (y 1).val; rw [hi.2.1]; omega
  | ⟨2, _⟩ => show win0_5.index t 2 * 2560 + 1 * (y 2).val = (y 2).val; rw [hi.2.2]; omega

theorem flushed6 (c : Dev nD) (t : Fin cfg0.N) :
    (dats m 0 c).flushed 5 t = ((cfg0.win 5).blk t).view.read (Elt Ideal) (R6 m c) := by
  show (cfg0.win 5).cut (grid0.coords t) ((dats m 0 c).after 5 t) = _
  rw [after0_5]
  have ho : (outsAt0 m c t).1 = G6 (iblk m c 0 t) (iblk m c 1 t) (iblk m c 2 t) (iblk m c 3 t) (iblk m c 4 t) := out6 ..
  rw [ho]
  refine funext fun (y : S1x128x2560.Idx) => ?_
  rw [View.read_apply]
  refine (block6 m c t y).trans ?_
  exact (congrArg (R6 m c) (emb6 t y)).symm

theorem final6 (c : Dev nD) : (dats m 0 c).arrAt 5 cfg0.N = R6 m c :=
  (dats m 0 c).arrAt_eq_of_cover 5 (R6 m c) (fun t _ => flushed6 m c t) fun i => by
    have hN : cfg0.N = 74 := N_0
    have h0 : (i 0 : Nat) < 74 := (i 0).isLt
    have h1 : (i 1 : Nat) < 128 := (i 1).isLt
    have h2 : (i 2 : Nat) < 2560 := (i 2).isLt
    obtain ⟨t, ht⟩ : ∃ t : Fin cfg0.N, t.val = (i 0).val := ⟨⟨(i 0).val, by rw [hN]; exact h0⟩, rfl⟩
    refine ⟨t, flush0_5 t, ?_⟩
    have hi := index_5 t
    show i ∈ ((View.whole main_v24_0).slice (win0_5.rect t)).set
    rw [View.set_slice_whole, Rect.mem_set_unit]
    intro a
    match a with
    | ⟨0, _⟩ =>
      show win0_5.index t 0 * 1 ≤ (i 0 : Nat) ∧ (i 0 : Nat) < win0_5.index t 0 * 1 + 1
      rw [hi.1]; omega
    | ⟨1, _⟩ =>
      show win0_5.index t 1 * 128 ≤ (i 1 : Nat) ∧ (i 1 : Nat) < win0_5.index t 1 * 128 + 128
      rw [hi.2.1]; omega
    | ⟨2, _⟩ =>
      show win0_5.index t 2 * 2560 ≤ (i 2 : Nat) ∧ (i 2 : Nat) < win0_5.index t 2 * 2560 + 2560
      rw [hi.2.2]; omega

theorem block7 (c : Dev nD) (t : Fin cfg0.N) (y : S1x1x2560.Idx) :
    G7 (iblk m c 0 t) (iblk m c 1 t) (iblk m c 2 t) (iblk m c 3 t) (iblk m c 4 t) y = qscale (hrow m c (node (blk t) (y 2)) (qry (y 2)))  := by
  exact congrArg (fun r => qscale r) (bnew_eq m c t (y 2))

theorem emb7 (t : Fin cfg0.N) (y : S1x1x2560.Idx) : ((cfg0.win 6).blk t).view.emb y = (ix3 (blk t) (y 1) (y 2) : S74x1x2560.Idx) := by
  have hi := index_6 t
  have h0 : (y 0).val = 0 := by have : (y 0).val < 1 := (y 0).isLt; omega
  funext a
  apply Fin.ext
  match a with
  | ⟨0, _⟩ => show win0_6.index t 0 * 1 + 1 * (y 0).val = t.val; rw [hi.1, h0]; omega
  | ⟨1, _⟩ => show win0_6.index t 1 * 1 + 1 * (y 1).val = (y 1).val; rw [hi.2.1]; omega
  | ⟨2, _⟩ => show win0_6.index t 2 * 2560 + 1 * (y 2).val = (y 2).val; rw [hi.2.2]; omega

theorem flushed7 (c : Dev nD) (t : Fin cfg0.N) :
    (dats m 0 c).flushed 6 t = ((cfg0.win 6).blk t).view.read (Elt Ideal) (R7 m c) := by
  show (cfg0.win 6).cut (grid0.coords t) ((dats m 0 c).after 6 t) = _
  rw [after0_6]
  have ho : (outsAt0 m c t).2.1 = G7 (iblk m c 0 t) (iblk m c 1 t) (iblk m c 2 t) (iblk m c 3 t) (iblk m c 4 t) := out7 ..
  rw [ho]
  refine funext fun (y : S1x1x2560.Idx) => ?_
  rw [View.read_apply]
  refine (block7 m c t y).trans ?_
  exact (congrArg (R7 m c) (emb7 t y)).symm

theorem final7 (c : Dev nD) : (dats m 0 c).arrAt 6 cfg0.N = R7 m c :=
  (dats m 0 c).arrAt_eq_of_cover 6 (R7 m c) (fun t _ => flushed7 m c t) fun i => by
    have hN : cfg0.N = 74 := N_0
    have h0 : (i 0 : Nat) < 74 := (i 0).isLt
    have h1 : (i 1 : Nat) < 1 := (i 1).isLt
    have h2 : (i 2 : Nat) < 2560 := (i 2).isLt
    obtain ⟨t, ht⟩ : ∃ t : Fin cfg0.N, t.val = (i 0).val := ⟨⟨(i 0).val, by rw [hN]; exact h0⟩, rfl⟩
    refine ⟨t, flush0_6 t, ?_⟩
    have hi := index_6 t
    show i ∈ ((View.whole main_v24_1).slice (win0_6.rect t)).set
    rw [View.set_slice_whole, Rect.mem_set_unit]
    intro a
    match a with
    | ⟨0, _⟩ =>
      show win0_6.index t 0 * 1 ≤ (i 0 : Nat) ∧ (i 0 : Nat) < win0_6.index t 0 * 1 + 1
      rw [hi.1]; omega
    | ⟨1, _⟩ =>
      show win0_6.index t 1 * 1 ≤ (i 1 : Nat) ∧ (i 1 : Nat) < win0_6.index t 1 * 1 + 1
      rw [hi.2.1]; omega
    | ⟨2, _⟩ =>
      show win0_6.index t 2 * 2560 ≤ (i 2 : Nat) ∧ (i 2 : Nat) < win0_6.index t 2 * 2560 + 2560
      rw [hi.2.2]; omega

theorem block8 (c : Dev nD) (t : Fin cfg0.N) (y : S1x128x2560.Idx) :
    G8 (iblk m c 0 t) (iblk m c 1 t) (iblk m c 2 t) (iblk m c 3 t) (iblk m c 4 t) y = qcode (urow m c (node (blk t) (y 2)) (qry (y 2))) (y 1) := by
  exact congrArg (fun r => qcode r (y 1)) (brow_u m c t (y 2))

theorem emb8 (t : Fin cfg0.N) (y : S1x128x2560.Idx) : ((cfg0.win 7).blk t).view.emb y = (ix3 (blk t) (y 1) (y 2) : S74x128x2560.Idx) := by
  have hi := index_7 t
  have h0 : (y 0).val = 0 := by have : (y 0).val < 1 := (y 0).isLt; omega
  funext a
  apply Fin.ext
  match a with
  | ⟨0, _⟩ => show win0_7.index t 0 * 1 + 1 * (y 0).val = t.val; rw [hi.1, h0]; omega
  | ⟨1, _⟩ => show win0_7.index t 1 * 128 + 1 * (y 1).val = (y 1).val; rw [hi.2.1]; omega
  | ⟨2, _⟩ => show win0_7.index t 2 * 2560 + 1 * (y 2).val = (y 2).val; rw [hi.2.2]; omega

theorem flushed8 (c : Dev nD) (t : Fin cfg0.N) :
    (dats m 0 c).flushed 7 t = ((cfg0.win 7).blk t).view.read (Elt Ideal) (R8 m c) := by
  show (cfg0.win 7).cut (grid0.coords t) ((dats m 0 c).after 7 t) = _
  rw [after0_7]
  have ho : (outsAt0 m c t).2.2.1 = G8 (iblk m c 0 t) (iblk m c 1 t) (iblk m c 2 t) (iblk m c 3 t) (iblk m c 4 t) := out8 ..
  rw [ho]
  refine funext fun (y : S1x128x2560.Idx) => ?_
  rw [View.read_apply]
  refine (block8 m c t y).trans ?_
  exact (congrArg (R8 m c) (emb8 t y)).symm

theorem final8 (c : Dev nD) : (dats m 0 c).arrAt 7 cfg0.N = R8 m c :=
  (dats m 0 c).arrAt_eq_of_cover 7 (R8 m c) (fun t _ => flushed8 m c t) fun i => by
    have hN : cfg0.N = 74 := N_0
    have h0 : (i 0 : Nat) < 74 := (i 0).isLt
    have h1 : (i 1 : Nat) < 128 := (i 1).isLt
    have h2 : (i 2 : Nat) < 2560 := (i 2).isLt
    obtain ⟨t, ht⟩ : ∃ t : Fin cfg0.N, t.val = (i 0).val := ⟨⟨(i 0).val, by rw [hN]; exact h0⟩, rfl⟩
    refine ⟨t, flush0_7 t, ?_⟩
    have hi := index_7 t
    show i ∈ ((View.whole main_v24_2).slice (win0_7.rect t)).set
    rw [View.set_slice_whole, Rect.mem_set_unit]
    intro a
    match a with
    | ⟨0, _⟩ =>
      show win0_7.index t 0 * 1 ≤ (i 0 : Nat) ∧ (i 0 : Nat) < win0_7.index t 0 * 1 + 1
      rw [hi.1]; omega
    | ⟨1, _⟩ =>
      show win0_7.index t 1 * 128 ≤ (i 1 : Nat) ∧ (i 1 : Nat) < win0_7.index t 1 * 128 + 128
      rw [hi.2.1]; omega
    | ⟨2, _⟩ =>
      show win0_7.index t 2 * 2560 ≤ (i 2 : Nat) ∧ (i 2 : Nat) < win0_7.index t 2 * 2560 + 2560
      rw [hi.2.2]; omega

theorem block9 (c : Dev nD) (t : Fin cfg0.N) (y : S1x1x2560.Idx) :
    G9 (iblk m c 0 t) (iblk m c 1 t) (iblk m c 2 t) (iblk m c 3 t) (iblk m c 4 t) y = qscale (urow m c (node (blk t) (y 2)) (qry (y 2)))  := by
  exact congrArg (fun r => qscale r) (brow_u m c t (y 2))

theorem emb9 (t : Fin cfg0.N) (y : S1x1x2560.Idx) : ((cfg0.win 8).blk t).view.emb y = (ix3 (blk t) (y 1) (y 2) : S74x1x2560.Idx) := by
  have hi := index_8 t
  have h0 : (y 0).val = 0 := by have : (y 0).val < 1 := (y 0).isLt; omega
  funext a
  apply Fin.ext
  match a with
  | ⟨0, _⟩ => show win0_8.index t 0 * 1 + 1 * (y 0).val = t.val; rw [hi.1, h0]; omega
  | ⟨1, _⟩ => show win0_8.index t 1 * 1 + 1 * (y 1).val = (y 1).val; rw [hi.2.1]; omega
  | ⟨2, _⟩ => show win0_8.index t 2 * 2560 + 1 * (y 2).val = (y 2).val; rw [hi.2.2]; omega

theorem flushed9 (c : Dev nD) (t : Fin cfg0.N) :
    (dats m 0 c).flushed 8 t = ((cfg0.win 8).blk t).view.read (Elt Ideal) (R9 m c) := by
  show (cfg0.win 8).cut (grid0.coords t) ((dats m 0 c).after 8 t) = _
  rw [after0_8]
  have ho : (outsAt0 m c t).2.2.2 = G9 (iblk m c 0 t) (iblk m c 1 t) (iblk m c 2 t) (iblk m c 3 t) (iblk m c 4 t) := out9 ..
  rw [ho]
  refine funext fun (y : S1x1x2560.Idx) => ?_
  rw [View.read_apply]
  refine (block9 m c t y).trans ?_
  exact (congrArg (R9 m c) (emb9 t y)).symm

theorem final9 (c : Dev nD) : (dats m 0 c).arrAt 8 cfg0.N = R9 m c :=
  (dats m 0 c).arrAt_eq_of_cover 8 (R9 m c) (fun t _ => flushed9 m c t) fun i => by
    have hN : cfg0.N = 74 := N_0
    have h0 : (i 0 : Nat) < 74 := (i 0).isLt
    have h1 : (i 1 : Nat) < 1 := (i 1).isLt
    have h2 : (i 2 : Nat) < 2560 := (i 2).isLt
    obtain ⟨t, ht⟩ : ∃ t : Fin cfg0.N, t.val = (i 0).val := ⟨⟨(i 0).val, by rw [hN]; exact h0⟩, rfl⟩
    refine ⟨t, flush0_8 t, ?_⟩
    have hi := index_8 t
    show i ∈ ((View.whole main_v24_3).slice (win0_8.rect t)).set
    rw [View.set_slice_whole, Rect.mem_set_unit]
    intro a
    match a with
    | ⟨0, _⟩ =>
      show win0_8.index t 0 * 1 ≤ (i 0 : Nat) ∧ (i 0 : Nat) < win0_8.index t 0 * 1 + 1
      rw [hi.1]; omega
    | ⟨1, _⟩ =>
      show win0_8.index t 1 * 1 ≤ (i 1 : Nat) ∧ (i 1 : Nat) < win0_8.index t 1 * 1 + 1
      rw [hi.2.1]; omega
    | ⟨2, _⟩ =>
      show win0_8.index t 2 * 2560 ≤ (i 2 : Nat) ∧ (i 2 : Nat) < win0_8.index t 2 * 2560 + 2560
      rw [hi.2.2]; omega

end Cert.DenseIdeal.Value
end
-- ==== Proof.DenseRef.lean ====
/-
  The reference of the dense part, index by index.
-/
module

public import proofs.«01_k».proof.Proof.Gen.DenseRefIdeal.Frame
public import proofs.«01_k».proof.Proof.DenseFn

@[expose] public section

set_option maxRecDepth 16384

noncomputable section

namespace Cert.DenseRefIdeal.Value

open Cert.DenseRefIdeal Cert.DenseRefIdeal.Gen Idealize.ShloMosaic Idealize.ShloMosaic.TcCoe Cert.DenseFn

/-- Every row's maximum over 448, as a column. -/
def tcol (Y : FVec Ideal S189440x128 .f32) : FVec Ideal S189440x1 .f32 :=
  mulf (shapeCast S189440x1 (multiReduction .maximumf [1] S189440 (absf Y) 0xFF800000#32 reduces_S189440x128_S189440 (.inl rfl) rfl) shapeCasts_S189440_S189440x1)
    (broadcast S189440x1 (Scalar.ofBits .f32 0x3B124925#32))

/-- Every row's least listed power above `T`. -/
def mcol (v5 v7 : FVec Ideal S1x254 .f32) (T : FVec Ideal S189440x1 .f32) : FVec Ideal S189440x1 .f32 :=
  shapeCast S189440x1 (multiReduction .minimumf [1] S189440 (select (cmpf .olt (broadcastTo S189440x254 T broadcasts_S189440x1_S189440x254) (broadcastTo S189440x254 v5 broadcasts_S1x254_S189440x254))
    (broadcastTo S189440x254 (shapeCast S1x254 v5 shapeCasts_S1x254_S1x254) broadcasts_S1x254_S189440x254)
    (broadcastTo S189440x254 (shapeCast S1x254 v7 shapeCasts_S1x254_S1x254) broadcasts_S1x254_S189440x254)) 0x7F800000#32 reduces_S189440x254_S189440 (.inl rfl) rfl) shapeCasts_S189440_S189440x1

/-- Every row's scale, as a column. -/
def scol (v5 v7 : FVec Ideal S1x254 .f32) (Y : FVec Ideal S189440x128 .f32) : FVec Ideal S189440x1 .f32 :=
  select (cmpf .oeq (tcol Y) (broadcast S189440x1 (Scalar.ofBits .f32 0x00000000#32))) (broadcast S189440x1 (Scalar.ofBits .f32 0x3F800000#32)) (mcol v5 v7 (tcol Y))

theorem mx_apply (v : FVec Ideal S189440x128 .f32) (n : Fin 189440) :
    shapeCast S189440x1 (multiReduction .maximumf [1] S189440 v 0xFF800000#32 reduces_S189440x128_S189440 (.inl rfl) rfl) shapeCasts_S189440_S189440x1 (ix2 n 0)
    = Finset.fold max (Ideal.ofBits .f32 0xFF800000#32) (fun x => v (ix2 n x)) Finset.univ := by
  pointwise []

theorem mulk_apply (T : FVec Ideal S189440x1 .f32) (c : Ideal .f32) (n : Fin 189440) : mulf T (broadcast S189440x1 c) (ix2 n 0) = T (ix2 n 0) * c := rfl

theorem abs_apply (Y : FVec Ideal S189440x128 .f32) (i : S189440x128.Idx) : absf Y i = FloatOps.absf (F := Ideal) (φ := .f32) (Y i) := rfl

theorem tcol_apply (Y : FVec Ideal S189440x128 .f32) (n : Fin 189440) : tcol Y (ix2 n 0) = amax (fun e => Y (ix2 n e)) := by
  unfold tcol amax
  rewrite [mulk_apply, mx_apply]
  simp only [abs_apply]
  rw [Ideal.ofBits_def]

theorem mcol_apply (v5 v7 : FVec Ideal S1x254 .f32) (T : FVec Ideal S189440x1 .f32) (n : Fin 189440) : mcol v5 v7 T (ix2 n 0)
    = Finset.fold min (Ideal.ofBits .f32 0x7F800000#32) (fun x : Fin 254 => if T (ix2 n 0) < v5 (ix2 0 x) then v5 (ix2 0 x) else v7 (ix2 0 x)) Finset.univ := by
  pointwise [mcol]

theorem sel_apply (T M : FVec Ideal S189440x1 .f32) (n : Fin 189440) :
    select (cmpf .oeq T (broadcast S189440x1 (Scalar.ofBits .f32 0x00000000#32))) (broadcast S189440x1 (Scalar.ofBits .f32 0x3F800000#32)) M (ix2 n 0)
    = if T (ix2 n 0) = 0 then 1 else M (ix2 n 0) := by
  pointwise []

theorem pay2_apply (x : Fin 254) : k0_pay2 (F := Ideal) (ix2 0 x) = pow x := by
  unfold pow
  pointwise [k0_pay2]

theorem pay3_apply (x : Fin 254) : k0_pay3 (F := Ideal) (ix2 0 x) = Ideal.ofBits .f32 2130706432#32 := by
  pointwise [k0_pay3]

theorem scol_apply (Y : FVec Ideal S189440x128 .f32) (n : Fin 189440) : scol k0_pay2 k0_pay3 Y (ix2 n 0) = qscale (fun e => Y (ix2 n e)) := by
  unfold scol qscale up
  rw [sel_apply, mcol_apply, tcol_apply]
  simp only [pay2_apply, pay3_apply]

/-- Every row's codes, before the cast. -/
def ccol (Y : FVec Ideal S189440x128 .f32) (S : FVec Ideal S189440x1 .f32) : FVec Ideal S189440x128 .f32 :=
  minimumf (broadcast S189440x128 (Scalar.ofBits .f32 0x43E00000#32)) (maximumf (broadcast S189440x128 (Scalar.ofBits .f32 0xC3E00000#32))
    (mulf Y (broadcastTo S189440x128 (divf (broadcast S189440x1 (Scalar.ofBits .f32 0x3F800000#32)) S) broadcasts_S189440x1_S189440x128)))

theorem ccol_apply (Y : FVec Ideal S189440x128 .f32) (S : FVec Ideal S189440x1 .f32) (n : Fin 189440) (e : Fin 128) : ccol Y S (ix2 n e)
    = min (Ideal.ofBits .f32 0x43E00000#32) (max (Ideal.ofBits .f32 0xC3E00000#32) (Y (ix2 n e) * Ideal.div 1 (S (ix2 n 0)))) := by
  pointwise [ccol]

theorem pay7_eq (v) : k0_pay7 (F := Ideal) v = scol k0_pay2 k0_pay3 (k0_pay6 v) := rfl
theorem pay8_eq (v) : k0_pay8 (F := Ideal) v = ccol (k0_pay6 v) (k0_pay7 v) := rfl

theorem codes_apply (Y : FVec Ideal S189440x128 .f32) (n : Fin 189440) (e : Fin 128) :
    ccol Y (scol k0_pay2 k0_pay3 Y) (ix2 n e) = qcode (fun e => Y (ix2 n e)) e := by
  rw [ccol_apply, scol_apply]; rfl

/-- The linear part. -/
def lcol (v9 v41 : FVec Ideal S189440x128 .fp8e4m3) (v11 v32 : FVec Ideal S189440x1 .f32) (v42 v50 : FVec Ideal S128x128 .fp8e4m3) (v46 v54 v59 : Vec Ideal S128 .f32) : FVec Ideal S189440x128 .f32 :=
  addf (addf (mulf (mulf (matmul dot_S189440x128_S128x128_S189440x128_1_0_0_1_n_n none v9 v42 (constant S189440x128 .f32 0x00000000#32)) (broadcastTo S189440x128 v11 broadcasts_S189440x1_S189440x128))
      (broadcastTo S189440x128 (shapeCast S1x128 v46 shapeCasts_S128_S1x128) broadcasts_S1x128_S189440x128))
    (mulf (mulf (matmul dot_S189440x128_S128x128_S189440x128_1_0_0_1_n_n none v41 v50 (constant S189440x128 .f32 0x00000000#32)) (broadcastTo S189440x128 v32 broadcasts_S189440x1_S189440x128))
      (broadcastTo S189440x128 (shapeCast S1x128 v54 shapeCasts_S128_S1x128) broadcasts_S1x128_S189440x128)))
    (broadcastTo S189440x128 (shapeCast S1x128 v59 shapeCasts_S128_S1x128) broadcasts_S1x128_S189440x128)

theorem lcol_apply (v9 v41 v11 v32 v42 v50 v46 v54 v59) (n : Fin 189440) (i : Fin 128) : lcol v9 v41 v11 v32 v42 v50 v46 v54 v59 (ix2 n i)
    = lin (fun x i => v42 (ix2 x i)) (fun x i => v50 (ix2 x i)) (fun i => v46 (ix1 i)) (fun i => v54 (ix1 i)) (fun i => v59 (ix1 i))
        (fun x => v9 (ix2 n x)) (v11 (ix2 n 0)) (fun x => v41 (ix2 n x)) (v32 (ix2 n 0)) i := by
  unfold lin
  pointwise [lcol]

/-- The layer norm's centred entries. -/
def dcol (Y : FVec Ideal S189440x128 .f32) : FVec Ideal S189440x128 .f32 :=
  subf Y (broadcastTo S189440x128 (divf (shapeCast S189440x1 (multiReduction .add [1] S189440 Y 0x00000000#32 reduces_S189440x128_S189440 (.inl rfl) rfl) shapeCasts_S189440_S189440x1)
    (broadcast S189440x1 (Scalar.ofBits .f32 0x43000000#32))) broadcasts_S189440x1_S189440x128)

/-- The layer norm's root. -/
def rcol (D : FVec Ideal S189440x128 .f32) : FVec Ideal S189440x1 .f32 :=
  sqrt (addf (divf (shapeCast S189440x1 (multiReduction .add [1] S189440 (mulf D D) 0x00000000#32 reduces_S189440x128_S189440 (.inl rfl) rfl) shapeCasts_S189440_S189440x1)
    (broadcast S189440x1 (Scalar.ofBits .f32 0x43000000#32))) (broadcast S189440x1 (Scalar.ofBits .f32 0x3727C5AC#32)))

theorem dcol_apply (Y : FVec Ideal S189440x128 .f32) (n : Fin 189440) (i : Fin 128) : dcol Y (ix2 n i) = cen (fun x => Y (ix2 n x)) i := by
  unfold cen
  rw [← div128]
  pointwise [dcol]

theorem rcol_apply (D : FVec Ideal S189440x128 .f32) (n : Fin 189440) : rcol D (ix2 n 0)
    = Ideal.sqrt ((∑ x, D (ix2 n x) * D (ix2 n x)) * Ideal.ofBits .f32 0x3C000000#32 + Ideal.ofBits .f32 0x3727C5AC#32) := by
  rw [← div128]
  pointwise [rcol]

def ncol (D : FVec Ideal S189440x128 .f32) (R : FVec Ideal S189440x1 .f32) (v79 : Vec Ideal S128 .f32) : FVec Ideal S189440x128 .f32 :=
  mulf (divf D (broadcastTo S189440x128 R broadcasts_S189440x1_S189440x128)) (broadcastTo S189440x128 (shapeCast S1x128 v79 shapeCasts_S128_S1x128) broadcasts_S1x128_S189440x128)

theorem ncol_apply (D R v79) (n : Fin 189440) (i : Fin 128) : ncol D R v79 (ix2 n i) = Ideal.div (D (ix2 n i)) (R (ix2 n 0)) * v79 (ix1 i) := by
  pointwise [ncol]

theorem pay10_eq (v9 v11 v32 v40 v42 v46 v50 v54 v59 v79) : k0_pay10 (F := Ideal) v9 v11 v32 v40 v42 v46 v50 v54 v59 v79
    = ncol (dcol (lcol v9 (k0_pay9 v40) v11 v32 v42 v50 v46 v54 v59)) (rcol (dcol (lcol v9 (k0_pay9 v40) v11 v32 v42 v50 v46 v54 v59))) v79 := rfl

theorem pay10_apply (v9 v11 v32 v40 v42 v46 v50 v54 v59 v79) (n : Fin 189440) (i : Fin 128) : k0_pay10 (F := Ideal) v9 v11 v32 v40 v42 v46 v50 v54 v59 v79 (ix2 n i)
    = cen (fun x => lcol v9 (k0_pay9 v40) v11 v32 v42 v50 v46 v54 v59 (ix2 n x)) i
      * Ideal.div 1 (sdev (fun x => lcol v9 (k0_pay9 v40) v11 v32 v42 v50 v46 v54 v59 (ix2 n x))) * v79 (ix1 i) := by
  rw [pay10_eq]
  generalize lcol v9 (k0_pay9 v40) v11 v32 v42 v50 v46 v54 v59 = Y
  rw [ncol_apply, Ideal.mul_one_div (sdev_ne_zero _), rcol_apply]
  simp only [dcol_apply]
  rfl

theorem pay12_apply (v9 v11 v82 v84) (n : Fin 189440) (i : Fin 128) : k0_pay12 (F := Ideal) v9 v11 v82 v84 (ix2 n i)
    = v9 (ix2 n i) * v11 (ix2 n 0) + max (v82 (ix2 n i) + v84 (ix2 0 i)) 0 := by
  pointwise [k0_pay12]

theorem pay11_apply (v83) (i : Fin 128) : k0_pay11 (F := Ideal) v83 (ix2 0 i) = v83 (ix1 i) := by
  pointwise [k0_pay11]

theorem pay13_eq (v5 v7 v9 v11 v82 v84) : k0_pay13 (F := Ideal) v5 v7 v9 v11 v82 v84 = scol v5 v7 (k0_pay12 v9 v11 v82 v84) := rfl

theorem flat_lt (a : Fin 4736) (b : Fin 40) : a.val * 40 + b.val < 189440 := by omega

theorem pay16_apply (v) (a : Fin 4736) (b : Fin 40) (i : Fin 128) : k0_pay16 (F := Ideal) v (ix3 a b i) = v (ix2 ⟨a.val * 40 + b.val, flat_lt a b⟩ i) := by
  pointwise [k0_pay16]

theorem pay14_eq (v5 v7 v9 v11 v82 v84) : k0_pay14 (F := Ideal) v5 v7 v9 v11 v82 v84
    = k0_pay16 (k0_pay9 (ccol (k0_pay12 v9 v11 v82 v84) (k0_pay13 v5 v7 v9 v11 v82 v84))) := rfl

theorem pay9_apply (v) (i : S189440x128.Idx) : k0_pay9 (F := Ideal) v i = v i := rfl

theorem pay14_apply (v5 v7 v9 v11 v82 v84) (a : Fin 4736) (b : Fin 40) (i : Fin 128) : k0_pay14 (F := Ideal) v5 v7 v9 v11 v82 v84 (ix3 a b i)
    = ccol (k0_pay12 v9 v11 v82 v84) (k0_pay13 v5 v7 v9 v11 v82 v84) (ix2 ⟨a.val * 40 + b.val, flat_lt a b⟩ i) := by
  rewrite [pay14_eq, pay16_apply]
  exact pay9_apply _ _

theorem pay15_apply (v5 v7 v9 v11 v82 v84) (a : Fin 4736) (b : Fin 40) : k0_pay15 (F := Ideal) v5 v7 v9 v11 v82 v84 (ix2 a b)
    = k0_pay13 v5 v7 v9 v11 v82 v84 (ix2 ⟨a.val * 40 + b.val, flat_lt a b⟩ 0) := by
  pointwise [k0_pay15]

theorem pay1_apply (v) (a : Fin 4736) (b : Fin 40) : k0_pay1 (F := Ideal) v (ix2 a b) = v (ix2 ⟨a.val * 40 + b.val, flat_lt a b⟩ 0) := by
  pointwise [k0_pay1]

theorem pay6_apply (v) (a : Fin 4736) (b : Fin 40) (i : Fin 128) : k0_pay6 (F := Ideal) v (ix2 ⟨a.val * 40 + b.val, flat_lt a b⟩ i) = v (ix3 a b i) := by
  pointwise [k0_pay6]

theorem pay4_apply (v) (a : Fin 4736) (b : Fin 40) (i : Fin 128) : k0_pay4 (F := Ideal) v (ix2 ⟨a.val * 40 + b.val, flat_lt a b⟩ i) = v (ix3 a b i) := by
  pointwise [k0_pay4]

theorem pay5_apply (v) (a : Fin 4736) (b : Fin 40) : k0_pay5 (F := Ideal) v (ix2 ⟨a.val * 40 + b.val, flat_lt a b⟩ 0) = v (ix2 a b) := by
  pointwise [k0_pay5]

end Cert.DenseRefIdeal.Value
end
-- ==== Proof.DenseRefRun.lean ====
/-
  The reference of the dense part: what its run leaves in the four result arrays, from the arguments.
-/
module

public import proofs.«01_k».proof.Proof.DenseRef
public import Idealize.ShloMosaic.Lib.Pipeline.Value

@[expose] public section

set_option maxRecDepth 16384

noncomputable section

namespace Cert.DenseRefIdeal.Value

open Cert.DenseRefIdeal Cert.DenseRefIdeal.Gen Idealize.ShloMosaic Idealize.ShloMosaic.TcCoe Idealize.SL.Sem Cert.DenseFn
open Idealize.ShloMosaic.Pipeline (Dat)

section
variable {F : FTy → Type} [FloatOps F]
variable (m : (ℓ : Loc nD τ sig) → Buf (Elt F) ℓ) (ρ : Dev nD → PrngReg)

/-- After the frame run, output window 10's array is `(dats m 0 c).arrAt 10 N`. -/
theorem post10 (r : PUnit × MemSt nD τ sig (Elt F)) (h : Pipeline.FramePost cfgs (dats m) 0 (V m) r) (c : Dev nD) :
    r.2.mem ((c : Thread nD τ).loc main_v0_0) = (dats m 0 c).arrAt 10 cfg0.N :=
  (h c).1 10

/-- After the frame run, output window 11's array is `(dats m 0 c).arrAt 11 N`. -/
theorem post11 (r : PUnit × MemSt nD τ sig (Elt F)) (h : Pipeline.FramePost cfgs (dats m) 0 (V m) r) (c : Dev nD) :
    r.2.mem ((c : Thread nD τ).loc main_v0_1) = (dats m 0 c).arrAt 11 cfg0.N :=
  (h c).1 11

/-- After the frame run, output window 12's array is `(dats m 0 c).arrAt 12 N`. -/
theorem post12 (r : PUnit × MemSt nD τ sig (Elt F)) (h : Pipeline.FramePost cfgs (dats m) 0 (V m) r) (c : Dev nD) :
    r.2.mem ((c : Thread nD τ).loc main_v0_2) = (dats m 0 c).arrAt 12 cfg0.N :=
  (h c).1 12

/-- After the frame run, output window 13's array is `(dats m 0 c).arrAt 13 N`. -/
theorem post13 (r : PUnit × MemSt nD τ sig (Elt F)) (h : Pipeline.FramePost cfgs (dats m) 0 (V m) r) (c : Dev nD) :
    r.2.mem ((c : Thread nD τ).loc main_v0_3) = (dats m 0 c).arrAt 13 cfg0.N :=
  (h c).1 13

/-- After the frame run, argument `main_arg0` is as launched: input window 0 stages it and never writes it back. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 0).trans (((dats m 0 c).arrAt_in 0 rfl _).trans ((A_eq m c 0).trans (V_main_arg0 m c)))

/-- After the frame run, argument `main_arg1` is as launched: input window 1 stages it and never writes it back. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).1 1).trans (((dats m 0 c).arrAt_in 1 rfl _).trans ((A_eq m c 1).trans (V_main_arg1 m c)))

/-- After the frame run, argument `main_arg2` is as launched: input window 2 stages it and never writes it back. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).1 2).trans (((dats m 0 c).arrAt_in 2 rfl _).trans ((A_eq m c 2).trans (V_main_arg2 m c)))

/-- After the frame run, argument `main_arg3` is as launched: input window 3 stages it and never writes it back. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).1 3).trans (((dats m 0 c).arrAt_in 3 rfl _).trans ((A_eq m c 3).trans (V_main_arg3 m c)))

/-- After the frame run, argument `main_arg4` is as launched: input window 4 stages it and never writes it back. -/
theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).1 4).trans (((dats m 0 c).arrAt_in 4 rfl _).trans ((A_eq m c 4).trans (V_main_arg4 m c)))

/-- After the frame run, argument `main_arg5` is as launched: input window 5 stages it and never writes it back. -/
theorem kept_main_arg5 (r : PUnit × MemSt nD τ sig (Elt F)) (h : Pipeline.FramePost cfgs (dats m) 0 (V m) r) (c : Dev nD) :
    r.2.mem ((c : Thread nD τ).loc main_arg5) = m ((c : Thread nD τ).loc main_arg5) :=
  ((h c).1 5).trans (((dats m 0 c).arrAt_in 5 rfl _).trans ((A_eq m c 5).trans (V_main_arg5 m c)))

/-- After the frame run, argument `main_arg6` is as launched: input window 6 stages it and never writes it back. -/
theorem kept_main_arg6 (r : PUnit × MemSt nD τ sig (Elt F)) (h : Pipeline.FramePost cfgs (dats m) 0 (V m) r) (c : Dev nD) :
    r.2.mem ((c : Thread nD τ).loc main_arg6) = m ((c : Thread nD τ).loc main_arg6) :=
  ((h c).1 6).trans (((dats m 0 c).arrAt_in 6 rfl _).trans ((A_eq m c 6).trans (V_main_arg6 m c)))

/-- After the frame run, argument `main_arg7` is as launched: input window 7 stages it and never writes it back. -/
theorem kept_main_arg7 (r : PUnit × MemSt nD τ sig (Elt F)) (h : Pipeline.FramePost cfgs (dats m) 0 (V m) r) (c : Dev nD) :
    r.2.mem ((c : Thread nD τ).loc main_arg7) = m ((c : Thread nD τ).loc main_arg7) :=
  ((h c).1 7).trans (((dats m 0 c).arrAt_in 7 rfl _).trans ((A_eq m c 7).trans (V_main_arg7 m c)))

/-- After the frame run, argument `main_arg8` is as launched: input window 8 stages it and never writes it back. -/
theorem kept_main_arg8 (r : PUnit × MemSt nD τ sig (Elt F)) (h : Pipeline.FramePost cfgs (dats m) 0 (V m) r) (c : Dev nD) :
    r.2.mem ((c : Thread nD τ).loc main_arg8) = m ((c : Thread nD τ).loc main_arg8) :=
  ((h c).1 8).trans (((dats m 0 c).arrAt_in 8 rfl _).trans ((A_eq m c 8).trans (V_main_arg8 m c)))

/-- After the frame run, argument `main_arg9` is as launched: input window 9 stages it and never writes it back. -/
theorem kept_main_arg9 (r : PUnit × MemSt nD τ sig (Elt F)) (h : Pipeline.FramePost cfgs (dats m) 0 (V m) r) (c : Dev nD) :
    r.2.mem ((c : Thread nD τ).loc main_arg9) = m ((c : Thread nD τ).loc main_arg9) :=
  ((h c).1 9).trans (((dats m 0 c).arrAt_in 9 rfl _).trans ((A_eq m c 9).trans (V_main_arg9 m c)))

/-! ## Closed form at one grid point: every window's block is its array -/

theorem hz0 : (![0, 0, 0] : Fin 3 → Nat) = fun _ => 0 := funext fun a => by fin_cases a <;> rfl

/-- Window 0's block index at the one point is zero on every axis. -/
theorem idx_zero0 : ∀ t : Fin cfg0.N, win0_0.index t (0 : Fin 3) = 0 ∧ win0_0.index t (1 : Fin 3) = 0 ∧ win0_0.index t (2 : Fin 3) = 0 :=
  (by decide +kernel : ∀ t : Fin grid0.N, _)

/-- An index of window 0's block is the same index of its array. -/
theorem emb0 (t : Fin cfg0.N) (j : S4736x40x128.Idx) : ((cfg0.win 0).blk t).view.emb j = j := by
  obtain ⟨e0, e1, e2⟩ := idx_zero0 t
  funext a; apply Fin.ext
  match a with
  | ⟨0, _⟩ => show win0_0.index t (0 : Fin 3) * 4736 + 1 * (j 0).val = (j 0).val; omega
  | ⟨1, _⟩ => show win0_0.index t (1 : Fin 3) * 40 + 1 * (j 1).val = (j 1).val; omega
  | ⟨2, _⟩ => show win0_0.index t (2 : Fin 3) * 128 + 1 * (j 2).val = (j 2).val; omega

/-- Input window 0's block at the point is its array as the region finds it. -/
theorem iblk0_eq (c : Dev nD) (t : Fin cfg0.N) : iblk m c 0 t = V m c main_arg0 := by
  funext j; show V m c main_arg0 (((cfg0.win 0).blk t).view.emb j) = V m c main_arg0 j; rw [emb0]

theorem hz1 : (![0, 0, 0] : Fin 3 → Nat) = fun _ => 0 := funext fun a => by fin_cases a <;> rfl

/-- Window 1's block index at the one point is zero on every axis. -/
theorem idx_zero1 : ∀ t : Fin cfg0.N, win0_1.index t (0 : Fin 3) = 0 ∧ win0_1.index t (1 : Fin 3) = 0 ∧ win0_1.index t (2 : Fin 3) = 0 :=
  (by decide +kernel : ∀ t : Fin grid0.N, _)

/-- An index of window 1's block is the same index of its array. -/
theorem emb1 (t : Fin cfg0.N) (j : S4736x40x128.Idx) : ((cfg0.win 1).blk t).view.emb j = j := by
  obtain ⟨e0, e1, e2⟩ := idx_zero1 t
  funext a; apply Fin.ext
  match a with
  | ⟨0, _⟩ => show win0_1.index t (0 : Fin 3) * 4736 + 1 * (j 0).val = (j 0).val; omega
  | ⟨1, _⟩ => show win0_1.index t (1 : Fin 3) * 40 + 1 * (j 1).val = (j 1).val; omega
  | ⟨2, _⟩ => show win0_1.index t (2 : Fin 3) * 128 + 1 * (j 2).val = (j 2).val; omega

/-- Input window 1's block at the point is its array as the region finds it. -/
theorem iblk1_eq (c : Dev nD) (t : Fin cfg0.N) : iblk m c 1 t = V m c main_arg1 := by
  funext j; show V m c main_arg1 (((cfg0.win 1).blk t).view.emb j) = V m c main_arg1 j; rw [emb1]

theorem hz2 : (![0, 0] : Fin 2 → Nat) = fun _ => 0 := funext fun a => by fin_cases a <;> rfl

/-- Window 2's block index at the one point is zero on every axis. -/
theorem idx_zero2 : ∀ t : Fin cfg0.N, win0_2.index t (0 : Fin 2) = 0 ∧ win0_2.index t (1 : Fin 2) = 0 :=
  (by decide +kernel : ∀ t : Fin grid0.N, _)

/-- An index of window 2's block is the same index of its array. -/
theorem emb2 (t : Fin cfg0.N) (j : S4736x40.Idx) : ((cfg0.win 2).blk t).view.emb j = j := by
  obtain ⟨e0, e1⟩ := idx_zero2 t
  funext a; apply Fin.ext
  match a with
  | ⟨0, _⟩ => show win0_2.index t (0 : Fin 2) * 4736 + 1 * (j 0).val = (j 0).val; omega
  | ⟨1, _⟩ => show win0_2.index t (1 : Fin 2) * 40 + 1 * (j 1).val = (j 1).val; omega

/-- Input window 2's block at the point is its array as the region finds it. -/
theorem iblk2_eq (c : Dev nD) (t : Fin cfg0.N) : iblk m c 2 t = V m c main_arg2 := by
  funext j; show V m c main_arg2 (((cfg0.win 2).blk t).view.emb j) = V m c main_arg2 j; rw [emb2]

theorem hz3 : (![0, 0] : Fin 2 → Nat) = fun _ => 0 := funext fun a => by fin_cases a <;> rfl

/-- Window 3's block index at the one point is zero on every axis. -/
theorem idx_zero3 : ∀ t : Fin cfg0.N, win0_3.index t (0 : Fin 2) = 0 ∧ win0_3.index t (1 : Fin 2) = 0 :=
  (by decide +kernel : ∀ t : Fin grid0.N, _)

/-- An index of window 3's block is the same index of its array. -/
theorem emb3 (t : Fin cfg0.N) (j : S128x128.Idx) : ((cfg0.win 3).blk t).view.emb j = j := by
  obtain ⟨e0, e1⟩ := idx_zero3 t
  funext a; apply Fin.ext
  match a with
  | ⟨0, _⟩ => show win0_3.index t (0 : Fin 2) * 128 + 1 * (j 0).val = (j 0).val; omega
  | ⟨1, _⟩ => show win0_3.index t (1 : Fin 2) * 128 + 1 * (j 1).val = (j 1).val; omega

/-- Input window 3's block at the point is its array as the region finds it. -/
theorem iblk3_eq (c : Dev nD) (t : Fin cfg0.N) : iblk m c 3 t = V m c main_arg3 := by
  funext j; show V m c main_arg3 (((cfg0.win 3).blk t).view.emb j) = V m c main_arg3 j; rw [emb3]

theorem hz4 : (![0] : Fin 1 → Nat) = fun _ => 0 := funext fun a => by fin_cases a <;> rfl

/-- Window 4's block index at the one point is zero on every axis. -/
theorem idx_zero4 : ∀ t : Fin cfg0.N, win0_4.index t (0 : Fin 1) = 0 :=
  (by decide +kernel : ∀ t : Fin grid0.N, _)

/-- An index of window 4's block is the same index of its array. -/
theorem emb4 (t : Fin cfg0.N) (j : S128.Idx) : ((cfg0.win 4).blk t).view.emb j = j := by
  have e0 := idx_zero4 t
  funext a; apply Fin.ext
  match a with
  | ⟨0, _⟩ => show win0_4.index t (0 : Fin 1) * 128 + 1 * (j 0).val = (j 0).val; omega

/-- Input window 4's block at the point is its array as the region finds it. -/
theorem iblk4_eq (c : Dev nD) (t : Fin cfg0.N) : iblk m c 4 t = V m c main_arg4 := by
  funext j; show V m c main_arg4 (((cfg0.win 4).blk t).view.emb j) = V m c main_arg4 j; rw [emb4]

theorem hz5 : (![0, 0] : Fin 2 → Nat) = fun _ => 0 := funext fun a => by fin_cases a <;> rfl

/-- Window 5's block index at the one point is zero on every axis. -/
theorem idx_zero5 : ∀ t : Fin cfg0.N, win0_5.index t (0 : Fin 2) = 0 ∧ win0_5.index t (1 : Fin 2) = 0 :=
  (by decide +kernel : ∀ t : Fin grid0.N, _)

/-- An index of window 5's block is the same index of its array. -/
theorem emb5 (t : Fin cfg0.N) (j : S128x128.Idx) : ((cfg0.win 5).blk t).view.emb j = j := by
  obtain ⟨e0, e1⟩ := idx_zero5 t
  funext a; apply Fin.ext
  match a with
  | ⟨0, _⟩ => show win0_5.index t (0 : Fin 2) * 128 + 1 * (j 0).val = (j 0).val; omega
  | ⟨1, _⟩ => show win0_5.index t (1 : Fin 2) * 128 + 1 * (j 1).val = (j 1).val; omega

/-- Input window 5's block at the point is its array as the region finds it. -/
theorem iblk5_eq (c : Dev nD) (t : Fin cfg0.N) : iblk m c 5 t = V m c main_arg5 := by
  funext j; show V m c main_arg5 (((cfg0.win 5).blk t).view.emb j) = V m c main_arg5 j; rw [emb5]

theorem hz6 : (![0] : Fin 1 → Nat) = fun _ => 0 := funext fun a => by fin_cases a <;> rfl

/-- Window 6's block index at the one point is zero on every axis. -/
theorem idx_zero6 : ∀ t : Fin cfg0.N, win0_6.index t (0 : Fin 1) = 0 :=
  (by decide +kernel : ∀ t : Fin grid0.N, _)

/-- An index of window 6's block is the same index of its array. -/
theorem emb6 (t : Fin cfg0.N) (j : S128.Idx) : ((cfg0.win 6).blk t).view.emb j = j := by
  have e0 := idx_zero6 t
  funext a; apply Fin.ext
  match a with
  | ⟨0, _⟩ => show win0_6.index t (0 : Fin 1) * 128 + 1 * (j 0).val = (j 0).val; omega

/-- Input window 6's block at the point is its array as the region finds it. -/
theorem iblk6_eq (c : Dev nD) (t : Fin cfg0.N) : iblk m c 6 t = V m c main_arg6 := by
  funext j; show V m c main_arg6 (((cfg0.win 6).blk t).view.emb j) = V m c main_arg6 j; rw [emb6]

theorem hz7 : (![0] : Fin 1 → Nat) = fun _ => 0 := funext fun a => by fin_cases a <;> rfl

/-- Window 7's block index at the one point is zero on every axis. -/
theorem idx_zero7 : ∀ t : Fin cfg0.N, win0_7.index t (0 : Fin 1) = 0 :=
  (by decide +kernel : ∀ t : Fin grid0.N, _)

/-- An index of window 7's block is the same index of its array. -/
theorem emb7 (t : Fin cfg0.N) (j : S128.Idx) : ((cfg0.win 7).blk t).view.emb j = j := by
  have e0 := idx_zero7 t
  funext a; apply Fin.ext
  match a with
  | ⟨0, _⟩ => show win0_7.index t (0 : Fin 1) * 128 + 1 * (j 0).val = (j 0).val; omega

/-- Input window 7's block at the point is its array as the region finds it. -/
theorem iblk7_eq (c : Dev nD) (t : Fin cfg0.N) : iblk m c 7 t = V m c main_arg7 := by
  funext j; show V m c main_arg7 (((cfg0.win 7).blk t).view.emb j) = V m c main_arg7 j; rw [emb7]

theorem hz8 : (![0] : Fin 1 → Nat) = fun _ => 0 := funext fun a => by fin_cases a <;> rfl

/-- Window 8's block index at the one point is zero on every axis. -/
theorem idx_zero8 : ∀ t : Fin cfg0.N, win0_8.index t (0 : Fin 1) = 0 :=
  (by decide +kernel : ∀ t : Fin grid0.N, _)

/-- An index of window 8's block is the same index of its array. -/
theorem emb8 (t : Fin cfg0.N) (j : S128.Idx) : ((cfg0.win 8).blk t).view.emb j = j := by
  have e0 := idx_zero8 t
  funext a; apply Fin.ext
  match a with
  | ⟨0, _⟩ => show win0_8.index t (0 : Fin 1) * 128 + 1 * (j 0).val = (j 0).val; omega

/-- Input window 8's block at the point is its array as the region finds it. -/
theorem iblk8_eq (c : Dev nD) (t : Fin cfg0.N) : iblk m c 8 t = V m c main_arg8 := by
  funext j; show V m c main_arg8 (((cfg0.win 8).blk t).view.emb j) = V m c main_arg8 j; rw [emb8]

theorem hz9 : (![0] : Fin 1 → Nat) = fun _ => 0 := funext fun a => by fin_cases a <;> rfl

/-- Window 9's block index at the one point is zero on every axis. -/
theorem idx_zero9 : ∀ t : Fin cfg0.N, win0_9.index t (0 : Fin 1) = 0 :=
  (by decide +kernel : ∀ t : Fin grid0.N, _)

/-- An index of window 9's block is the same index of its array. -/
theorem emb9 (t : Fin cfg0.N) (j : S128.Idx) : ((cfg0.win 9).blk t).view.emb j = j := by
  have e0 := idx_zero9 t
  funext a; apply Fin.ext
  match a with
  | ⟨0, _⟩ => show win0_9.index t (0 : Fin 1) * 128 + 1 * (j 0).val = (j 0).val; omega

/-- Input window 9's block at the point is its array as the region finds it. -/
theorem iblk9_eq (c : Dev nD) (t : Fin cfg0.N) : iblk m c 9 t = V m c main_arg9 := by
  funext j; show V m c main_arg9 (((cfg0.win 9).blk t).view.emb j) = V m c main_arg9 j; rw [emb9]

theorem hz10 : (![0, 0, 0] : Fin 3 → Nat) = fun _ => 0 := funext fun a => by fin_cases a <;> rfl

/-- Window 10's block index at the one point is zero on every axis. -/
theorem idx_zero10 : ∀ t : Fin cfg0.N, win0_10.index t (0 : Fin 3) = 0 ∧ win0_10.index t (1 : Fin 3) = 0 ∧ win0_10.index t (2 : Fin 3) = 0 :=
  (by decide +kernel : ∀ t : Fin grid0.N, _)

/-- An index of window 10's block is the same index of its array. -/
theorem emb10 (t : Fin cfg0.N) (j : S4736x40x128.Idx) : ((cfg0.win 10).blk t).view.emb j = j := by
  obtain ⟨e0, e1, e2⟩ := idx_zero10 t
  funext a; apply Fin.ext
  match a with
  | ⟨0, _⟩ => show win0_10.index t (0 : Fin 3) * 4736 + 1 * (j 0).val = (j 0).val; omega
  | ⟨1, _⟩ => show win0_10.index t (1 : Fin 3) * 40 + 1 * (j 1).val = (j 1).val; omega
  | ⟨2, _⟩ => show win0_10.index t (2 : Fin 3) * 128 + 1 * (j 2).val = (j 2).val; omega

theorem hz11 : (![0, 0] : Fin 2 → Nat) = fun _ => 0 := funext fun a => by fin_cases a <;> rfl

/-- Window 11's block index at the one point is zero on every axis. -/
theorem idx_zero11 : ∀ t : Fin cfg0.N, win0_11.index t (0 : Fin 2) = 0 ∧ win0_11.index t (1 : Fin 2) = 0 :=
  (by decide +kernel : ∀ t : Fin grid0.N, _)

/-- An index of window 11's block is the same index of its array. -/
theorem emb11 (t : Fin cfg0.N) (j : S4736x40.Idx) : ((cfg0.win 11).blk t).view.emb j = j := by
  obtain ⟨e0, e1⟩ := idx_zero11 t
  funext a; apply Fin.ext
  match a with
  | ⟨0, _⟩ => show win0_11.index t (0 : Fin 2) * 4736 + 1 * (j 0).val = (j 0).val; omega
  | ⟨1, _⟩ => show win0_11.index t (1 : Fin 2) * 40 + 1 * (j 1).val = (j 1).val; omega

theorem hz12 : (![0, 0, 0] : Fin 3 → Nat) = fun _ => 0 := funext fun a => by fin_cases a <;> rfl

/-- Window 12's block index at the one point is zero on every axis. -/
theorem idx_zero12 : ∀ t : Fin cfg0.N, win0_12.index t (0 : Fin 3) = 0 ∧ win0_12.index t (1 : Fin 3) = 0 ∧ win0_12.index t (2 : Fin 3) = 0 :=
  (by decide +kernel : ∀ t : Fin grid0.N, _)

/-- An index of window 12's block is the same index of its array. -/
theorem emb12 (t : Fin cfg0.N) (j : S4736x40x128.Idx) : ((cfg0.win 12).blk t).view.emb j = j := by
  obtain ⟨e0, e1, e2⟩ := idx_zero12 t
  funext a; apply Fin.ext
  match a with
  | ⟨0, _⟩ => show win0_12.index t (0 : Fin 3) * 4736 + 1 * (j 0).val = (j 0).val; omega
  | ⟨1, _⟩ => show win0_12.index t (1 : Fin 3) * 40 + 1 * (j 1).val = (j 1).val; omega
  | ⟨2, _⟩ => show win0_12.index t (2 : Fin 3) * 128 + 1 * (j 2).val = (j 2).val; omega

theorem hz13 : (![0, 0] : Fin 2 → Nat) = fun _ => 0 := funext fun a => by fin_cases a <;> rfl

/-- Window 13's block index at the one point is zero on every axis. -/
theorem idx_zero13 : ∀ t : Fin cfg0.N, win0_13.index t (0 : Fin 2) = 0 ∧ win0_13.index t (1 : Fin 2) = 0 :=
  (by decide +kernel : ∀ t : Fin grid0.N, _)

/-- An index of window 13's block is the same index of its array. -/
theorem emb13 (t : Fin cfg0.N) (j : S4736x40.Idx) : ((cfg0.win 13).blk t).view.emb j = j := by
  obtain ⟨e0, e1⟩ := idx_zero13 t
  funext a; apply Fin.ext
  match a with
  | ⟨0, _⟩ => show win0_13.index t (0 : Fin 2) * 4736 + 1 * (j 0).val = (j 0).val; omega
  | ⟨1, _⟩ => show win0_13.index t (1 : Fin 2) * 40 + 1 * (j 1).val = (j 1).val; omega

/-! ### Output window 10: the array after the run -/

/-- What the window's array ends holding: `out0_10` applied to the argument arrays in place of the input blocks (a value that the
    frame states apart, `kK_payN a…`, keeps its loads inside its own definition). -/
abbrev G10 (a0 : Vec F S4736x40x128 .f32) (a1 : Vec F S4736x40x128 .fp8e4m3) (a2 : Vec F S4736x40 .f32) (a3 : Vec F S128x128 .fp8e4m3) (a4 : Vec F S128 .f32) (a5 : Vec F S128x128 .fp8e4m3) (a6 : Vec F S128 .f32) (a7 : Vec F S128 .f32) (a8 : Vec F S128 .f32) (a9 : Vec F S128 .f32) : Vec F S4736x40x128 .fp8e4m3 :=
  k0_pay14 (k0_pay17 a0 a1 a2 a3 a4 a5 a6 a7 a8 a9) (k0_pay18 a0 a1 a2 a3 a4 a5 a6 a7 a8 a9) (k0_pay19 a0 a1 a2 a3 a4 a5 a6 a7 a8 a9) (k0_pay20 a0 a1 a2 a3 a4 a5 a6 a7 a8 a9) (k0_pay23 a0 a1 a2 a3 a4 a5 a6 a7 a8 a9) (k0_pay24 a0 a1 a2 a3 a4 a5 a6 a7 a8 a9)

/-- The one store through the whole rectangle leaves its payload. -/
theorem out10_eq (a0 : Vec F S4736x40x128 .f32) (a1 : Vec F S4736x40x128 .fp8e4m3) (a2 : Vec F S4736x40 .f32) (a3 : Vec F S128x128 .fp8e4m3) (a4 : Vec F S128 .f32) (a5 : Vec F S128x128 .fp8e4m3) (a6 : Vec F S128 .f32) (a7 : Vec F S128 .f32) (a8 : Vec F S128 .f32) (a9 : Vec F S128 .f32) : out0_10 (F := F) a0 a1 a2 a3 a4 a5 a6 a7 a8 a9 = G10 a0 a1 a2 a3 a4 a5 a6 a7 a8 a9 := by
  unfold out0_10
  rw [View.canon_unit_zero hz10]

/-- Cutting the point's block out of `X` and reading `X` through the block's view give the same. -/
theorem cut10_eq (t : Fin cfg0.N) (X : Vec F S4736x40x128 .fp8e4m3) :
    (cfg0.win 10).cut (grid0.coords t) X = ((cfg0.win 10).blk t).view.read (Elt F) X := by
  funext j
  show X j = X (((cfg0.win 10).blk t).view.emb j)
  rw [emb10]

/-- WHAT THE POINT WRITES BACK is its block of `G10` of the argument arrays as the region finds them. -/
theorem flushed10_eq (c : Dev nD) (t : Fin cfg0.N) :
    (dats m 0 c).flushed 10 t = ((cfg0.win 10).blk t).view.read (Elt F) (G10 (V m c main_arg0) (V m c main_arg1) (V m c main_arg2) (V m c main_arg3) (V m c main_arg4) (V m c main_arg5) (V m c main_arg6) (V m c main_arg7) (V m c main_arg8) (V m c main_arg9)) := by
  show (cfg0.win 10).cut (grid0.coords t) ((dats m 0 c).after 10 t) = _
  rw [after0_10, out10_eq, iblk0_eq, iblk1_eq, iblk2_eq, iblk3_eq, iblk4_eq, iblk5_eq, iblk6_eq, iblk7_eq, iblk8_eq, iblk9_eq]
  exact cut10_eq t _

/-- Every index of the array is in the point's block. -/
theorem covered10 (i : S4736x40x128.Idx) :
    ∃ t : Fin cfg0.N, (cfg0.win 10).flush t = true ∧ i ∈ ((cfg0.win 10).blk t).view.set :=
  ⟨(⟨0, by decide⟩ : Fin cfg0.N), flush0_10 _, by have h := ((cfg0.win 10).blk (⟨0, by decide⟩ : Fin cfg0.N)).view.emb_mem_set i; rwa [emb10] at h⟩

/-- THE ARRAY after the run: `G10` of the argument arrays as launched. -/
theorem final10 (c : Dev nD) : (dats m 0 c).arrAt 10 cfg0.N = G10 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) :=
  ((dats m 0 c).arrAt_eq_of_cover 10 (G10 (V m c main_arg0) (V m c main_arg1) (V m c main_arg2) (V m c main_arg3) (V m c main_arg4) (V m c main_arg5) (V m c main_arg6) (V m c main_arg7) (V m c main_arg8) (V m c main_arg9)) (fun t _ => flushed10_eq m c t) covered10).trans (by rw [V_main_arg0, V_main_arg1, V_main_arg2, V_main_arg3, V_main_arg4, V_main_arg5, V_main_arg6, V_main_arg7, V_main_arg8, V_main_arg9])

/-! ### Output window 11: the array after the run -/

/-- What the window's array ends holding: `out0_11` applied to the argument arrays in place of the input blocks (a value that the
    frame states apart, `kK_payN a…`, keeps its loads inside its own definition). -/
abbrev G11 (a0 : Vec F S4736x40x128 .f32) (a1 : Vec F S4736x40x128 .fp8e4m3) (a2 : Vec F S4736x40 .f32) (a3 : Vec F S128x128 .fp8e4m3) (a4 : Vec F S128 .f32) (a5 : Vec F S128x128 .fp8e4m3) (a6 : Vec F S128 .f32) (a7 : Vec F S128 .f32) (a8 : Vec F S128 .f32) (a9 : Vec F S128 .f32) : Vec F S4736x40 .f32 :=
  k0_pay15 (k0_pay17 a0 a1 a2 a3 a4 a5 a6 a7 a8 a9) (k0_pay18 a0 a1 a2 a3 a4 a5 a6 a7 a8 a9) (k0_pay19 a0 a1 a2 a3 a4 a5 a6 a7 a8 a9) (k0_pay20 a0 a1 a2 a3 a4 a5 a6 a7 a8 a9) (k0_pay23 a0 a1 a2 a3 a4 a5 a6 a7 a8 a9) (k0_pay24 a0 a1 a2 a3 a4 a5 a6 a7 a8 a9)

/-- The one store through the whole rectangle leaves its payload. -/
theorem out11_eq (a0 : Vec F S4736x40x128 .f32) (a1 : Vec F S4736x40x128 .fp8e4m3) (a2 : Vec F S4736x40 .f32) (a3 : Vec F S128x128 .fp8e4m3) (a4 : Vec F S128 .f32) (a5 : Vec F S128x128 .fp8e4m3) (a6 : Vec F S128 .f32) (a7 : Vec F S128 .f32) (a8 : Vec F S128 .f32) (a9 : Vec F S128 .f32) : out0_11 (F := F) a0 a1 a2 a3 a4 a5 a6 a7 a8 a9 = G11 a0 a1 a2 a3 a4 a5 a6 a7 a8 a9 := by
  unfold out0_11
  rw [View.canon_unit_zero hz11]

/-- Cutting the point's block out of `X` and reading `X` through the block's view give the same. -/
theorem cut11_eq (t : Fin cfg0.N) (X : Vec F S4736x40 .f32) :
    (cfg0.win 11).cut (grid0.coords t) X = ((cfg0.win 11).blk t).view.read (Elt F) X := by
  funext j
  show X j = X (((cfg0.win 11).blk t).view.emb j)
  rw [emb11]

/-- WHAT THE POINT WRITES BACK is its block of `G11` of the argument arrays as the region finds them. -/
theorem flushed11_eq (c : Dev nD) (t : Fin cfg0.N) :
    (dats m 0 c).flushed 11 t = ((cfg0.win 11).blk t).view.read (Elt F) (G11 (V m c main_arg0) (V m c main_arg1) (V m c main_arg2) (V m c main_arg3) (V m c main_arg4) (V m c main_arg5) (V m c main_arg6) (V m c main_arg7) (V m c main_arg8) (V m c main_arg9)) := by
  show (cfg0.win 11).cut (grid0.coords t) ((dats m 0 c).after 11 t) = _
  rw [after0_11, out11_eq, iblk0_eq, iblk1_eq, iblk2_eq, iblk3_eq, iblk4_eq, iblk5_eq, iblk6_eq, iblk7_eq, iblk8_eq, iblk9_eq]
  exact cut11_eq t _

/-- Every index of the array is in the point's block. -/
theorem covered11 (i : S4736x40.Idx) :
    ∃ t : Fin cfg0.N, (cfg0.win 11).flush t = true ∧ i ∈ ((cfg0.win 11).blk t).view.set :=
  ⟨(⟨0, by decide⟩ : Fin cfg0.N), flush0_11 _, by have h := ((cfg0.win 11).blk (⟨0, by decide⟩ : Fin cfg0.N)).view.emb_mem_set i; rwa [emb11] at h⟩

/-- THE ARRAY after the run: `G11` of the argument arrays as launched. -/
theorem final11 (c : Dev nD) : (dats m 0 c).arrAt 11 cfg0.N = G11 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) :=
  ((dats m 0 c).arrAt_eq_of_cover 11 (G11 (V m c main_arg0) (V m c main_arg1) (V m c main_arg2) (V m c main_arg3) (V m c main_arg4) (V m c main_arg5) (V m c main_arg6) (V m c main_arg7) (V m c main_arg8) (V m c main_arg9)) (fun t _ => flushed11_eq m c t) covered11).trans (by rw [V_main_arg0, V_main_arg1, V_main_arg2, V_main_arg3, V_main_arg4, V_main_arg5, V_main_arg6, V_main_arg7, V_main_arg8, V_main_arg9])

/-! ### Output window 12: the array after the run -/

/-- What the window's array ends holding: `out0_12` applied to the argument arrays in place of the input blocks (a value that the
    frame states apart, `kK_payN a…`, keeps its loads inside its own definition). -/
abbrev G12 (a0 : Vec F S4736x40x128 .f32) (a1 : Vec F S4736x40x128 .fp8e4m3) (a2 : Vec F S4736x40 .f32) (a3 : Vec F S128x128 .fp8e4m3) (a4 : Vec F S128 .f32) (a5 : Vec F S128x128 .fp8e4m3) (a6 : Vec F S128 .f32) (a7 : Vec F S128 .f32) (a8 : Vec F S128 .f32) (a9 : Vec F S128 .f32) : Vec F S4736x40x128 .fp8e4m3 :=
  k0_pay16 (k0_pay9 (k0_pay22 a0 a1 a2 a3 a4 a5 a6 a7 a8 a9))

/-- The one store through the whole rectangle leaves its payload. -/
theorem out12_eq (a0 : Vec F S4736x40x128 .f32) (a1 : Vec F S4736x40x128 .fp8e4m3) (a2 : Vec F S4736x40 .f32) (a3 : Vec F S128x128 .fp8e4m3) (a4 : Vec F S128 .f32) (a5 : Vec F S128x128 .fp8e4m3) (a6 : Vec F S128 .f32) (a7 : Vec F S128 .f32) (a8 : Vec F S128 .f32) (a9 : Vec F S128 .f32) : out0_12 (F := F) a0 a1 a2 a3 a4 a5 a6 a7 a8 a9 = G12 a0 a1 a2 a3 a4 a5 a6 a7 a8 a9 := by
  unfold out0_12
  rw [View.canon_unit_zero hz12]

/-- Cutting the point's block out of `X` and reading `X` through the block's view give the same. -/
theorem cut12_eq (t : Fin cfg0.N) (X : Vec F S4736x40x128 .fp8e4m3) :
    (cfg0.win 12).cut (grid0.coords t) X = ((cfg0.win 12).blk t).view.read (Elt F) X := by
  funext j
  show X j = X (((cfg0.win 12).blk t).view.emb j)
  rw [emb12]

/-- WHAT THE POINT WRITES BACK is its block of `G12` of the argument arrays as the region finds them. -/
theorem flushed12_eq (c : Dev nD) (t : Fin cfg0.N) :
    (dats m 0 c).flushed 12 t = ((cfg0.win 12).blk t).view.read (Elt F) (G12 (V m c main_arg0) (V m c main_arg1) (V m c main_arg2) (V m c main_arg3) (V m c main_arg4) (V m c main_arg5) (V m c main_arg6) (V m c main_arg7) (V m c main_arg8) (V m c main_arg9)) := by
  show (cfg0.win 12).cut (grid0.coords t) ((dats m 0 c).after 12 t) = _
  rw [after0_12, out12_eq, iblk0_eq, iblk1_eq, iblk2_eq, iblk3_eq, iblk4_eq, iblk5_eq, iblk6_eq, iblk7_eq, iblk8_eq, iblk9_eq]
  exact cut12_eq t _

/-- Every index of the array is in the point's block. -/
theorem covered12 (i : S4736x40x128.Idx) :
    ∃ t : Fin cfg0.N, (cfg0.win 12).flush t = true ∧ i ∈ ((cfg0.win 12).blk t).view.set :=
  ⟨(⟨0, by decide⟩ : Fin cfg0.N), flush0_12 _, by have h := ((cfg0.win 12).blk (⟨0, by decide⟩ : Fin cfg0.N)).view.emb_mem_set i; rwa [emb12] at h⟩

/-- THE ARRAY after the run: `G12` of the argument arrays as launched. -/
theorem final12 (c : Dev nD) : (dats m 0 c).arrAt 12 cfg0.N = G12 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) :=
  ((dats m 0 c).arrAt_eq_of_cover 12 (G12 (V m c main_arg0) (V m c main_arg1) (V m c main_arg2) (V m c main_arg3) (V m c main_arg4) (V m c main_arg5) (V m c main_arg6) (V m c main_arg7) (V m c main_arg8) (V m c main_arg9)) (fun t _ => flushed12_eq m c t) covered12).trans (by rw [V_main_arg0, V_main_arg1, V_main_arg2, V_main_arg3, V_main_arg4, V_main_arg5, V_main_arg6, V_main_arg7, V_main_arg8, V_main_arg9])

/-! ### Output window 13: the array after the run -/

/-- What the window's array ends holding: `out0_13` applied to the argument arrays in place of the input blocks (a value that the
    frame states apart, `kK_payN a…`, keeps its loads inside its own definition). -/
abbrev G13 (a0 : Vec F S4736x40x128 .f32) (a1 : Vec F S4736x40x128 .fp8e4m3) (a2 : Vec F S4736x40 .f32) (a3 : Vec F S128x128 .fp8e4m3) (a4 : Vec F S128 .f32) (a5 : Vec F S128x128 .fp8e4m3) (a6 : Vec F S128 .f32) (a7 : Vec F S128 .f32) (a8 : Vec F S128 .f32) (a9 : Vec F S128 .f32) : Vec F S4736x40 .f32 :=
  k0_pay1 (k0_pay21 a0 a1 a2 a3 a4 a5 a6 a7 a8 a9)

/-- The one store through the whole rectangle leaves its payload. -/
theorem out13_eq (a0 : Vec F S4736x40x128 .f32) (a1 : Vec F S4736x40x128 .fp8e4m3) (a2 : Vec F S4736x40 .f32) (a3 : Vec F S128x128 .fp8e4m3) (a4 : Vec F S128 .f32) (a5 : Vec F S128x128 .fp8e4m3) (a6 : Vec F S128 .f32) (a7 : Vec F S128 .f32) (a8 : Vec F S128 .f32) (a9 : Vec F S128 .f32) : out0_13 (F := F) a0 a1 a2 a3 a4 a5 a6 a7 a8 a9 = G13 a0 a1 a2 a3 a4 a5 a6 a7 a8 a9 := by
  unfold out0_13
  rw [View.canon_unit_zero hz13]

/-- Cutting the point's block out of `X` and reading `X` through the block's view give the same. -/
theorem cut13_eq (t : Fin cfg0.N) (X : Vec F S4736x40 .f32) :
    (cfg0.win 13).cut (grid0.coords t) X = ((cfg0.win 13).blk t).view.read (Elt F) X := by
  funext j
  show X j = X (((cfg0.win 13).blk t).view.emb j)
  rw [emb13]

/-- WHAT THE POINT WRITES BACK is its block of `G13` of the argument arrays as the region finds them. -/
theorem flushed13_eq (c : Dev nD) (t : Fin cfg0.N) :
    (dats m 0 c).flushed 13 t = ((cfg0.win 13).blk t).view.read (Elt F) (G13 (V m c main_arg0) (V m c main_arg1) (V m c main_arg2) (V m c main_arg3) (V m c main_arg4) (V m c main_arg5) (V m c main_arg6) (V m c main_arg7) (V m c main_arg8) (V m c main_arg9)) := by
  show (cfg0.win 13).cut (grid0.coords t) ((dats m 0 c).after 13 t) = _
  rw [after0_13, out13_eq, iblk0_eq, iblk1_eq, iblk2_eq, iblk3_eq, iblk4_eq, iblk5_eq, iblk6_eq, iblk7_eq, iblk8_eq, iblk9_eq]
  exact cut13_eq t _

/-- Every index of the array is in the point's block. -/
theorem covered13 (i : S4736x40.Idx) :
    ∃ t : Fin cfg0.N, (cfg0.win 13).flush t = true ∧ i ∈ ((cfg0.win 13).blk t).view.set :=
  ⟨(⟨0, by decide⟩ : Fin cfg0.N), flush0_13 _, by have h := ((cfg0.win 13).blk (⟨0, by decide⟩ : Fin cfg0.N)).view.emb_mem_set i; rwa [emb13] at h⟩

/-- THE ARRAY after the run: `G13` of the argument arrays as launched. -/
theorem final13 (c : Dev nD) : (dats m 0 c).arrAt 13 cfg0.N = G13 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) :=
  ((dats m 0 c).arrAt_eq_of_cover 13 (G13 (V m c main_arg0) (V m c main_arg1) (V m c main_arg2) (V m c main_arg3) (V m c main_arg4) (V m c main_arg5) (V m c main_arg6) (V m c main_arg7) (V m c main_arg8) (V m c main_arg9)) (fun t _ => flushed13_eq m c t) covered13).trans (by rw [V_main_arg0, V_main_arg1, V_main_arg2, V_main_arg3, V_main_arg4, V_main_arg5, V_main_arg6, V_main_arg7, V_main_arg8, V_main_arg9])

/-! ## The run, read -/

/-- The frame run re-posted: each output array at its function of the arguments, the arguments unchanged. -/
theorem run : θ_run defs (onTc (τ := τ) (main (F := F))) ⟨m, fun _ => 0, ρ⟩ fun r => ∀ c : Dev nD,
      r.2.mem ((c : Thread nD τ).loc main_v0_0) = G10 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))
      ∧ r.2.mem ((c : Thread nD τ).loc main_v0_1) = G11 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))
      ∧ r.2.mem ((c : Thread nD τ).loc main_v0_2) = G12 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))
      ∧ r.2.mem ((c : Thread nD τ).loc main_v0_3) = G13 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9) :=
  (θ_run defs _ _).mono (fun r h c => ⟨(post10 m r h c).trans (final10 m c),
      (post11 m r h c).trans (final11 m c),
      (post12 m r h c).trans (final12 m c),
      (post13 m r h c).trans (final13 m c),
      kept_main_arg0 m r h c,
      kept_main_arg1 m r h c,
      kept_main_arg2 m r h c,
      kept_main_arg3 m r h c,
      kept_main_arg4 m r h c,
      kept_main_arg5 m r h c,
      kept_main_arg6 m r h c,
      kept_main_arg7 m r h c,
      kept_main_arg8 m r h c,
      kept_main_arg9 m r h c⟩)
    (run_main m ρ)

end

/-! ## The results at an index -/

variable (a0 : Vec Ideal S4736x40x128 .f32) (a1 : Vec Ideal S4736x40x128 .fp8e4m3) (a2 : Vec Ideal S4736x40 .f32) (a3 : Vec Ideal S128x128 .fp8e4m3) (a4 : Vec Ideal S128 .f32) (a5 : Vec Ideal S128x128 .fp8e4m3) (a6 : Vec Ideal S128 .f32) (a7 : Vec Ideal S128 .f32) (a8 : Vec Ideal S128 .f32) (a9 : Vec Ideal S128 .f32)

theorem G12_apply (a : Fin 4736) (b : Fin 40) (i : Fin 128) :
    G12 a0 a1 a2 a3 a4 a5 a6 a7 a8 a9 (ix3 a b i) = qcode (fun x => a0 (ix3 a b x)) i := by
  show k0_pay16 (k0_pay9 (k0_pay8 (View.ld a0 r0_0))) (ix3 a b i) = _
  rw [View.ld_unit_zero (S := S4736x40x128) hz0, pay16_apply, pay9_apply, pay8_eq, pay7_eq, codes_apply]
  simp only [pay6_apply]

theorem G13_apply (a : Fin 4736) (b : Fin 40) :
    G13 a0 a1 a2 a3 a4 a5 a6 a7 a8 a9 (ix2 a b) = qscale (fun x => a0 (ix3 a b x)) := by
  show k0_pay1 (k0_pay7 (View.ld a0 r0_0)) (ix2 a b) = _
  rw [View.ld_unit_zero (S := S4736x40x128) hz0, pay1_apply, pay7_eq, scol_apply]
  simp only [pay6_apply]

/-- The new row of one node and query. -/
def hrow (a : Fin 4736) (b : Fin 40) : Fin 128 → EReal :=
  outrow (fun x i => a3 (ix2 x i)) (fun x i => a5 (ix2 x i)) (fun i => a4 (ix1 i)) (fun i => a6 (ix1 i)) (fun i => a7 (ix1 i))
    (fun i => a8 (ix1 i)) (fun i => a9 (ix1 i)) (fun x => a1 (ix3 a b x)) (a2 (ix2 a b)) (fun x => a0 (ix3 a b x))

theorem lrow_apply (a : Fin 4736) (b : Fin 40) (i : Fin 128) :
    lcol (k0_pay4 a1) (k0_pay9 (k0_pay8 a0)) (k0_pay5 a2) (k0_pay7 a0) a3 a5 a4 a6 a7 (ix2 ⟨a.val * 40 + b.val, flat_lt a b⟩ i)
    = lin (fun x i => a3 (ix2 x i)) (fun x i => a5 (ix2 x i)) (fun i => a4 (ix1 i)) (fun i => a6 (ix1 i)) (fun i => a7 (ix1 i))
        (fun x => a1 (ix3 a b x)) (a2 (ix2 a b)) (qcode fun x => a0 (ix3 a b x)) (qscale fun x => a0 (ix3 a b x)) i := by
  rw [lcol_apply]
  have e1 : (fun x => k0_pay4 a1 (ix2 ⟨a.val * 40 + b.val, flat_lt a b⟩ x)) = fun x => a1 (ix3 a b x) := funext fun x => pay4_apply a1 a b x
  have e2 : (fun x => k0_pay9 (k0_pay8 a0) (ix2 ⟨a.val * 40 + b.val, flat_lt a b⟩ x)) = qcode fun x => a0 (ix3 a b x) := funext fun x => by
    rw [pay9_apply, pay8_eq, pay7_eq, codes_apply]
    simp only [pay6_apply]
  have e3 : k0_pay7 a0 (ix2 ⟨a.val * 40 + b.val, flat_lt a b⟩ 0) = qscale fun x => a0 (ix3 a b x) := by
    rw [pay7_eq, scol_apply]
    simp only [pay6_apply]
  rw [e1, e2, e3, pay5_apply]

theorem nrow_apply (a : Fin 4736) (b : Fin 40) (i : Fin 128) :
    k0_pay12 (k0_pay4 a1) (k0_pay5 a2) (k0_pay10 (k0_pay4 a1) (k0_pay5 a2) (k0_pay7 a0) (k0_pay8 a0) a3 a4 a5 a6 a7 a8) (k0_pay11 a9)
      (ix2 ⟨a.val * 40 + b.val, flat_lt a b⟩ i) = hrow a0 a1 a2 a3 a4 a5 a6 a7 a8 a9 a b i := by
  rw [pay12_apply, pay10_apply, pay11_apply, pay4_apply, pay5_apply]
  simp only [lrow_apply]
  rfl

theorem G10_apply (a : Fin 4736) (b : Fin 40) (i : Fin 128) :
    G10 a0 a1 a2 a3 a4 a5 a6 a7 a8 a9 (ix3 a b i) = qcode (hrow a0 a1 a2 a3 a4 a5 a6 a7 a8 a9 a b) i := by
  show k0_pay14 k0_pay2 k0_pay3 (k0_pay4 (View.ld a1 r0_0)) (k0_pay5 (View.ld a2 r0_1))
    (k0_pay10 (k0_pay4 (View.ld a1 r0_0)) (k0_pay5 (View.ld a2 r0_1)) (k0_pay7 (View.ld a0 r0_0)) (k0_pay8 (View.ld a0 r0_0))
      (View.ld a3 r0_2) (View.ld a4 r0_3) (View.ld a5 r0_2) (View.ld a6 r0_3) (View.ld a7 r0_3) (View.ld a8 r0_3)) (k0_pay11 (View.ld a9 r0_3)) (ix3 a b i) = _
  simp only [View.ld_unit_zero (S := S4736x40x128) hz0, View.ld_unit_zero (S := S4736x40) hz2, View.ld_unit_zero (S := S128x128) hz2, View.ld_unit_zero (S := S128) hz4]
  rw [pay14_apply, pay13_eq, codes_apply]
  exact (congrArg (fun r => qcode r i) (funext fun x => nrow_apply a0 a1 a2 a3 a4 a5 a6 a7 a8 a9 a b x))

theorem G11_apply (a : Fin 4736) (b : Fin 40) :
    G11 a0 a1 a2 a3 a4 a5 a6 a7 a8 a9 (ix2 a b) = qscale (hrow a0 a1 a2 a3 a4 a5 a6 a7 a8 a9 a b) := by
  show k0_pay15 k0_pay2 k0_pay3 (k0_pay4 (View.ld a1 r0_0)) (k0_pay5 (View.ld a2 r0_1))
    (k0_pay10 (k0_pay4 (View.ld a1 r0_0)) (k0_pay5 (View.ld a2 r0_1)) (k0_pay7 (View.ld a0 r0_0)) (k0_pay8 (View.ld a0 r0_0))
      (View.ld a3 r0_2) (View.ld a4 r0_3) (View.ld a5 r0_2) (View.ld a6 r0_3) (View.ld a7 r0_3) (View.ld a8 r0_3)) (k0_pay11 (View.ld a9 r0_3)) (ix2 a b) = _
  simp only [View.ld_unit_zero (S := S4736x40x128) hz0, View.ld_unit_zero (S := S4736x40) hz2, View.ld_unit_zero (S := S128x128) hz2, View.ld_unit_zero (S := S128) hz4]
  rw [pay15_apply, pay13_eq, scol_apply]
  exact (congrArg qscale (funext fun x => nrow_apply a0 a1 a2 a3 a4 a5 a6 a7 a8 a9 a b x))

end Cert.DenseRefIdeal.Value
end
-- ==== Proof.DenseEq.lean ====
/-
  The results of the dense part: the re-layout after the region, and the reference program.
-/
module

public import proofs.«01_k».proof.Proof.DenseArray
public import proofs.«01_k».proof.Proof.DenseRefRun
public import Idealize.ShloMosaic.Lib.Pipeline.Value
public import Idealize.ShloMosaic.Lib.Pointwise

@[expose] public section

set_option maxRecDepth 16384

noncomputable section

namespace Cert.DenseIdeal.Value

open Cert.DenseIdeal Cert.DenseIdeal.Gen Idealize.ShloMosaic Idealize.ShloMosaic.TcCoe Idealize.SL.Sem Cert.DenseFn
open Idealize.ShloMosaic.Pipeline (Dat)

variable (m : (ℓ : Loc nD τ sig) → Buf (Elt Ideal) ℓ)

/-- The block and lane of a node and query. -/
abbrev bk (n : Fin 4736) : Fin 74 := ⟨n.val / 64, by omega⟩
abbrev ln (n : Fin 4736) (q : Fin 40) : Fin 2560 := ⟨n.val % 64 / 32 * 1280 + q.val / 8 * 256 + n.val % 32 * 8 + q.val % 8, by omega⟩

theorem node_ln (n : Fin 4736) (q : Fin 40) : node (bk n) (ln n q) = n := Fin.ext (by
  show n.val / 64 * 64 + (n.val % 64 / 32 * 1280 + q.val / 8 * 256 + n.val % 32 * 8 + q.val % 8) / 1280 * 32 + (n.val % 64 / 32 * 1280 + q.val / 8 * 256 + n.val % 32 * 8 + q.val % 8) / 8 % 32 = n.val
  omega)
theorem qry_ln (n : Fin 4736) (q : Fin 40) : qry (ln n q) = q := Fin.ext (by
  show (n.val % 64 / 32 * 1280 + q.val / 8 * 256 + n.val % 32 * 8 + q.val % 8) / 256 % 5 * 8 + (n.val % 64 / 32 * 1280 + q.val / 8 * 256 + n.val % 32 * 8 + q.val % 8) % 8 = q.val
  omega)

/-- The codes' re-layout at an index. -/
theorem codes_out (R : Vec Ideal S74x128x2560 .fp8e4m3) (n : Fin 4736) (q : Fin 40) (d : Fin 128) :
    shapeCast S4736x40x128 (transpose S74x2x32x5x8x128 [0, 2, 4, 3, 5, 1] (shapeCast S74x128x2x5x32x8 R shapeCasts_S74x128x2560_S74x128x2x5x32x8)
      transposes_S74x128x2x5x32x8_S74x2x32x5x8x128_0_2_4_3_5_1) shapeCasts_S74x2x32x5x8x128_S4736x40x128 (ix3 n q d) = R (ix3 (bk n) d (ln n q)) := by
  pointwise []
  refine congrArg₂ (fun a b => R (ix3 a d b)) (Fin.ext ?_) (Fin.ext ?_)
  all_goals (dsimp only; try omega)

/-- The scales' re-layout at an index. -/
theorem scales_out (R : Vec Ideal S74x1x2560 .f32) (n : Fin 4736) (q : Fin 40) :
    shapeCast S4736x40 (transpose S74x2x32x5x8 [0, 1, 3, 2, 4] (shapeCast S74x2x5x32x8 R shapeCasts_S74x1x2560_S74x2x5x32x8)
      transposes_S74x2x5x32x8_S74x2x32x5x8_0_1_3_2_4) shapeCasts_S74x2x32x5x8_S4736x40 (ix2 n q) = R (ix3 (bk n) 0 (ln n q)) := by
  pointwise []
  refine congrArg₂ (fun a b => R (ix3 a 0 b)) (Fin.ext ?_) (Fin.ext ?_)
  all_goals (dsimp only; try omega)

theorem tail6 (c : Dev nD) (n : Fin 4736) (q : Fin 40) (d : Fin 128) :
    (Pipeline.afterTail₀ cfgs (dats m) 0 (V0 m) [hostOps1] c main_v27 : Vec Ideal S4736x40x128 .fp8e4m3) (ix3 n q d) = qcode (hrow m c n q) d := by
  have hw : Pipeline.withArrays (cfgs 0).spec c (V0 m c) (fun w => (dats m 0 c).arrAt w (cfgs 0).N) (Proc.devRef .tc main_v24_0) = R6 m c :=
    (Pipeline.withArrays_arr (cfgs 0).spec (by decide) c (V0 m c) _ 5).trans (final6 m c)
  have h : (Pipeline.afterTail₀ cfgs (dats m) 0 (V0 m) [hostOps1] c main_v27 : Vec Ideal S4736x40x128 .fp8e4m3)
      = shapeCast S4736x40x128 (transpose S74x2x32x5x8x128 [0, 2, 4, 3, 5, 1] (shapeCast S74x128x2x5x32x8 (R6 m c) shapeCasts_S74x128x2560_S74x128x2x5x32x8)
      transposes_S74x128x2x5x32x8_S74x2x32x5x8x128_0_2_4_3_5_1) shapeCasts_S74x2x32x5x8x128_S4736x40x128 := by
    unfold Pipeline.afterTail₀
    generalize Pipeline.withArrays (cfgs 0).spec c (V0 m c) (fun w => (dats m 0 c).arrAt w (cfgs 0).N) = W at hw ⊢
    rw [← hw]
    show StableHlo.after hostOps1 W (Proc.devRef .tc main_v27) = _
    after_results
    rfl
  rw [h, codes_out]
  exact congrArg₂ (fun a b => qcode (hrow m c a b) d) (node_ln n q) (qry_ln n q)

theorem tail7 (c : Dev nD) (n : Fin 4736) (q : Fin 40) :
    (Pipeline.afterTail₀ cfgs (dats m) 0 (V0 m) [hostOps1] c main_v30 : Vec Ideal S4736x40 .f32) (ix2 n q) = qscale (hrow m c n q) := by
  have hw : Pipeline.withArrays (cfgs 0).spec c (V0 m c) (fun w => (dats m 0 c).arrAt w (cfgs 0).N) (Proc.devRef .tc main_v24_1) = R7 m c :=
    (Pipeline.withArrays_arr (cfgs 0).spec (by decide) c (V0 m c) _ 6).trans (final7 m c)
  have h : (Pipeline.afterTail₀ cfgs (dats m) 0 (V0 m) [hostOps1] c main_v30 : Vec Ideal S4736x40 .f32)
      = shapeCast S4736x40 (transpose S74x2x32x5x8 [0, 1, 3, 2, 4] (shapeCast S74x2x5x32x8 (R7 m c) shapeCasts_S74x1x2560_S74x2x5x32x8)
      transposes_S74x2x5x32x8_S74x2x32x5x8_0_1_3_2_4) shapeCasts_S74x2x32x5x8_S4736x40 := by
    unfold Pipeline.afterTail₀
    generalize Pipeline.withArrays (cfgs 0).spec c (V0 m c) (fun w => (dats m 0 c).arrAt w (cfgs 0).N) = W at hw ⊢
    rw [← hw]
    show StableHlo.after hostOps1 W (Proc.devRef .tc main_v30) = _
    after_results
    rfl
  rw [h, scales_out]
  exact congrArg₂ (fun a b => qscale (hrow m c a b)) (node_ln n q) (qry_ln n q)

theorem tail8 (c : Dev nD) (n : Fin 4736) (q : Fin 40) (d : Fin 128) :
    (Pipeline.afterTail₀ cfgs (dats m) 0 (V0 m) [hostOps1] c main_v33 : Vec Ideal S4736x40x128 .fp8e4m3) (ix3 n q d) = qcode (urow m c n q) d := by
  have hw : Pipeline.withArrays (cfgs 0).spec c (V0 m c) (fun w => (dats m 0 c).arrAt w (cfgs 0).N) (Proc.devRef .tc main_v24_2) = R8 m c :=
    (Pipeline.withArrays_arr (cfgs 0).spec (by decide) c (V0 m c) _ 7).trans (final8 m c)
  have h : (Pipeline.afterTail₀ cfgs (dats m) 0 (V0 m) [hostOps1] c main_v33 : Vec Ideal S4736x40x128 .fp8e4m3)
      = shapeCast S4736x40x128 (transpose S74x2x32x5x8x128 [0, 2, 4, 3, 5, 1] (shapeCast S74x128x2x5x32x8 (R8 m c) shapeCasts_S74x128x2560_S74x128x2x5x32x8)
      transposes_S74x128x2x5x32x8_S74x2x32x5x8x128_0_2_4_3_5_1) shapeCasts_S74x2x32x5x8x128_S4736x40x128 := by
    unfold Pipeline.afterTail₀
    generalize Pipeline.withArrays (cfgs 0).spec c (V0 m c) (fun w => (dats m 0 c).arrAt w (cfgs 0).N) = W at hw ⊢
    rw [← hw]
    show StableHlo.after hostOps1 W (Proc.devRef .tc main_v33) = _
    after_results
    rfl
  rw [h, codes_out]
  exact congrArg₂ (fun a b => qcode (urow m c a b) d) (node_ln n q) (qry_ln n q)

theorem tail9 (c : Dev nD) (n : Fin 4736) (q : Fin 40) :
    (Pipeline.afterTail₀ cfgs (dats m) 0 (V0 m) [hostOps1] c main_v36 : Vec Ideal S4736x40 .f32) (ix2 n q) = qscale (urow m c n q) := by
  have hw : Pipeline.withArrays (cfgs 0).spec c (V0 m c) (fun w => (dats m 0 c).arrAt w (cfgs 0).N) (Proc.devRef .tc main_v24_3) = R9 m c :=
    (Pipeline.withArrays_arr (cfgs 0).spec (by decide) c (V0 m c) _ 8).trans (final9 m c)
  have h : (Pipeline.afterTail₀ cfgs (dats m) 0 (V0 m) [hostOps1] c main_v36 : Vec Ideal S4736x40 .f32)
      = shapeCast S4736x40 (transpose S74x2x32x5x8 [0, 1, 3, 2, 4] (shapeCast S74x2x5x32x8 (R9 m c) shapeCasts_S74x1x2560_S74x2x5x32x8)
      transposes_S74x2x5x32x8_S74x2x32x5x8_0_1_3_2_4) shapeCasts_S74x2x32x5x8_S4736x40 := by
    unfold Pipeline.afterTail₀
    generalize Pipeline.withArrays (cfgs 0).spec c (V0 m c) (fun w => (dats m 0 c).arrAt w (cfgs 0).N) = W at hw ⊢
    rw [← hw]
    show StableHlo.after hostOps1 W (Proc.devRef .tc main_v36) = _
    after_results
    rfl
  rw [h, scales_out]
  exact congrArg₂ (fun a b => qscale (urow m c a b)) (node_ln n q) (qry_ln n q)

/-- Result 0 of the kernel program is the reference's. -/
theorem value6 (c : Dev nD) :
    (Pipeline.afterTail₀ cfgs (dats m) 0 (V0 m) [hostOps1] c main_v27 : Vec Ideal S4736x40x128 .fp8e4m3)
    = Cert.DenseRefIdeal.Value.G10 (msg m c) (hcodes m c) (hscales m c) (wself m c) (sself m c) (wagg m c) (sagg m c) (blin' m c) (lng m c) (lnb m c) := by
  refine funext fun (y : S4736x40x128.Idx) => ?_
  idx_vars y
  rw [tail6, Cert.DenseRefIdeal.Value.G10_apply]
  rfl

/-- Result 1 of the kernel program is the reference's. -/
theorem value7 (c : Dev nD) :
    (Pipeline.afterTail₀ cfgs (dats m) 0 (V0 m) [hostOps1] c main_v30 : Vec Ideal S4736x40 .f32)
    = Cert.DenseRefIdeal.Value.G11 (msg m c) (hcodes m c) (hscales m c) (wself m c) (sself m c) (wagg m c) (sagg m c) (blin' m c) (lng m c) (lnb m c) := by
  refine funext fun (y : S4736x40.Idx) => ?_
  idx_vars y
  rw [tail7, Cert.DenseRefIdeal.Value.G11_apply]
  rfl

/-- Result 2 of the kernel program is the reference's. -/
theorem value8 (c : Dev nD) :
    (Pipeline.afterTail₀ cfgs (dats m) 0 (V0 m) [hostOps1] c main_v33 : Vec Ideal S4736x40x128 .fp8e4m3)
    = Cert.DenseRefIdeal.Value.G12 (msg m c) (hcodes m c) (hscales m c) (wself m c) (sself m c) (wagg m c) (sagg m c) (blin' m c) (lng m c) (lnb m c) := by
  refine funext fun (y : S4736x40x128.Idx) => ?_
  idx_vars y
  rw [tail8, Cert.DenseRefIdeal.Value.G12_apply]
  rfl

/-- Result 3 of the kernel program is the reference's. -/
theorem value9 (c : Dev nD) :
    (Pipeline.afterTail₀ cfgs (dats m) 0 (V0 m) [hostOps1] c main_v36 : Vec Ideal S4736x40 .f32)
    = Cert.DenseRefIdeal.Value.G13 (msg m c) (hcodes m c) (hscales m c) (wself m c) (sself m c) (wagg m c) (sagg m c) (blin' m c) (lng m c) (lnb m c) := by
  refine funext fun (y : S4736x40.Idx) => ?_
  idx_vars y
  rw [tail9, Cert.DenseRefIdeal.Value.G13_apply]
  rfl

end Cert.DenseIdeal.Value
end
-- ==== Proof.QueryPre.lean ====
/-
  The precondition of the query call, read at a word, and the side condition of the row reads that follows from it.
-/
module

public import proofs.«01_k».proof.Proof.Gen.Query.Frame
public import proofs.«01_k».proof.Proof.Gen.QueryIdeal.Frame
public import proofs.«01_k».proof.Proof.Gen.Pre_query_pre

@[expose] public section

set_option maxRecDepth 16384

noncomputable section

namespace Cert.QueryFn

open Idealize.ShloMosaic Idealize.ShloMosaic.TcCoe

/-- Under the precondition every relation is one of the 438. -/
theorem word_lt {F : FTy → Type} [FloatOps F] (rel : IVec Cert.Pre_query_pre.S40 32) (emb : FVec F Cert.Pre_query_pre.S438x128 .f32)
    (h : Cert.Pre_query_pre.fn rel emb = fun _ => 1#1) (y : Cert.Pre_query_pre.S40.Idx) : (rel y).toNat < 438 := by
  have andi_ofBool (p q : Bool) : IntOp.andi (BitVec.ofBool p) (BitVec.ofBool q) = BitVec.ofBool (p && q) := by
    cases p <;> cases q <;> decide
  have ofBool_eq_one (p : Bool) : (BitVec.ofBool p = 1#1) ↔ p = true := by cases p <;> decide
  have e := congrFun h y
  simp only [Cert.Pre_query_pre.fn, andi, cmpi, broadcastInDim, constantI, IntOp.cmpi, andi_ofBool, ofBool_eq_one,
    Bool.and_eq_true] at e
  obtain ⟨hge, hlt⟩ := e
  simp only [BitVec.sle, BitVec.slt, decide_eq_true_eq, BitVec.toInt, BitVec.toNat_ofNat] at hge hlt
  omega

end Cert.QueryFn

namespace Cert.Query.Value

open Cert.Query Cert.Query.Gen Idealize.ShloMosaic Idealize.ShloMosaic.TcCoe

/-- A word below 438 names a row of the table. -/
theorem chk1_of_lt (w : BitVec 32) (h : w.toNat < 438) : k0_chk1 w := by
  intro a
  match a with
  | ⟨0, _⟩ => show w.toNat + 1 ≤ 438; omega
  | ⟨1, _⟩ => show 0 + 128 ≤ 128; omega

/-- The precondition implies the side condition of every trip of the row loop. -/
theorem hyps_of_pre {F : FTy → Type} [FloatOps F] (m : (ℓ : Loc nD τ sig) → Buf (Elt F) ℓ)
    (h : ∀ c : Dev nD, Cert.Pre_query_pre.fn (F := F) (m ((c : Thread nD τ).loc main_arg0)) (m ((c : Thread nD τ).loc main_arg1)) = fun _ => 1#1) : Hyps m := by
  intro c t
  have rd : ∀ i, (iblk m c 0 t i).toNat < 438 := fun i => by
    unfold iblk; rw [View.read_apply, cast_eq]; exact QueryFn.word_lt _ _ (h c) _
  intro kq hkq
  refine chk1_of_lt _ ?_
  rw [View.readAt_apply]
  exact (congrArg BitVec.toNat (congrFun ((hs0_0 t).read_unread (iblk m c 0 t)) _)).trans_lt (rd _)

end Cert.Query.Value

namespace Cert.QueryIdeal.Value

open Cert.QueryIdeal Cert.QueryIdeal.Gen Idealize.ShloMosaic Idealize.ShloMosaic.TcCoe

/-- A word below 438 names a row of the table. -/
theorem chk1_of_lt (w : BitVec 32) (h : w.toNat < 438) : k0_chk1 w := by
  intro a
  match a with
  | ⟨0, _⟩ => show w.toNat + 1 ≤ 438; omega
  | ⟨1, _⟩ => show 0 + 128 ≤ 128; omega

/-- The precondition implies the side condition of every trip of the row loop. -/
theorem hyps_of_pre {F : FTy → Type} [FloatOps F] (m : (ℓ : Loc nD τ sig) → Buf (Elt F) ℓ)
    (h : ∀ c : Dev nD, Cert.Pre_query_pre.fn (F := F) (m ((c : Thread nD τ).loc main_arg0)) (m ((c : Thread nD τ).loc main_arg1)) = fun _ => 1#1) : Hyps m := by
  intro c t
  have rd : ∀ i, (iblk m c 0 t i).toNat < 438 := fun i => by
    unfold iblk; rw [View.read_apply, cast_eq]; exact QueryFn.word_lt _ _ (h c) _
  intro kq hkq
  refine chk1_of_lt _ ?_
  rw [View.readAt_apply]
  exact (congrArg BitVec.toNat (congrFun ((hs0_0 t).read_unread (iblk m c 0 t)) _)).trans_lt (rd _)

end Cert.QueryIdeal.Value

end
-- ==== Proof.QueryRun.lean ====
/-
  The query call: what it leaves in its three result arrays, from the arguments.
-/
module

public import proofs.«01_k».proof.Proof.QueryPre
public import proofs.«01_k».proof.Proof.Gen.QueryIdeal.Value
public import Idealize.ShloMosaic.Lib.Pipeline.Value
public import Idealize.ShloMosaic.Lib.Pointwise

@[expose] public section

set_option maxRecDepth 16384

noncomputable section

namespace Cert.QueryIdeal.Value

open Cert.QueryIdeal Cert.QueryIdeal.Gen Idealize.ShloMosaic Idealize.ShloMosaic.TcCoe Idealize.SL.Sem
open Idealize.ShloMosaic.Pipeline (Dat)

/-- The table's rows the relations name. -/
def rows (x0 : Vec Ideal S40 .i32) (x1 : Vec Ideal S438x128 .f32) : Vec Ideal S40x128 .f32 := fun y =>
  x1 (ix2 ⟨(x0 (ix1 (y 0)) : BitVec 32).toNat % 438, Nat.mod_lt _ (by decide)⟩ (y 1))

/-- A row of the table stored to a row of the result. -/
theorem row_eq (x0 : Vec Ideal S40 .i32) (x1 : Vec Ideal S438x128 .f32) (k : Nat) (hk : k < 40) (w : BitVec 32) (off2 off3 : Fin 2 → Nat)
    (hw : w = x0 (ix1 ⟨k, hk⟩)) (h2 : off2 = ![w.toNat, 0]) (h3 : off3 = ![k, 0]) (hlt : w.toNat + 1 ≤ 438)
    (i2 : ∀ a, off2 a + S1x128.size a ≤ S438x128.size a) (i3 : ∀ a, off3 a + S1x128.size a ≤ S40x128.size a) (x : S1x128.Idx) :
    x1 ((Rect.unit (s := S438x128) off2 S1x128.size i2).emb x) = rows x0 x1 ((Rect.unit (s := S40x128) off3 S1x128.size i3).emb x) := by
  subst h2 h3
  have hx0 : (x 0).val < 1 := (x 0).isLt
  have e : (Rect.unit (s := S40x128) ![k, 0] S1x128.size i3).emb x 0 = (⟨k, hk⟩ : Fin 40) :=
    Fin.ext (by show k + 1 * (x 0).val = k; omega)
  have e' : (x0 (ix1 ((Rect.unit (s := S40x128) ![k, 0] S1x128.size i3).emb x 0)) : BitVec 32) = w :=
    (congrArg (fun i : Fin 40 => (x0 (ix1 i) : BitVec 32)) e).trans hw.symm
  unfold rows
  congr 1
  funext a
  apply Fin.ext
  match a with
  | ⟨0, _⟩ =>
    refine Eq.trans ?_ (congrArg (fun v : BitVec 32 => v.toNat % 438) e'.symm)
    show w.toNat + 1 * (x 0).val = w.toNat % 438
    omega
  | ⟨1, _⟩ => rfl

/-- What one trip stores is the row its relation names. -/
theorem trip (𝒱 : Variants) (c : Dev nD) (bd : Option 𝒱.V) (arg0 : Memref sig .tc .smem S40 .i32) (harg0 : arg0.IsWhole) (arg1 : Memref sig .tc .vmem S438x128 .f32) (harg1 : arg1.IsWhole) (arg2 : Memref sig .tc .vmem S40x128 .f32) (harg2 : arg2.IsWhole) (arg3 : Memref sig .tc .vmem S40x128 .fp8e4m3) (harg3 : arg3.IsWhole) (arg4 : Memref sig .tc .vmem S40x1 .f32) (harg4 : arg4.IsWhole)
    (X_arg0 : BufTy.Contents (Elt Ideal) arg0.view.ty) (X_arg1 : BufTy.Contents (Elt Ideal) arg1.view.ty) (k : Fin k0_t1_loop.trips)
    (k0_hw1 : k0_chk1 (arg0.view.readAt (Elt Ideal) (Rect.unit (s := S40) (k0_off1 k) S1.size (k0_off1_inb k)).toLoadRect X_arg0 (Shape.Idx.first (numel1_S1.symm ▸ Nat.one_pos))))
    (pc) (hpc : pc ∈ tripL_k0_t1 (F := Ideal) 𝒱 c bd arg0 harg0 arg1 harg1 arg2 harg2 arg3 harg3 arg4 harg4 X_arg0 X_arg1 k k0_hw1) :
    ∀ x, pc.2 x = rows (arg0.view.read _ X_arg0) (arg1.view.read _ X_arg1) (pc.1.emb x) := by
  unfold tripL_k0_t1 trip_k0_t1 at hpc
  dsimp only at hpc
  simp only [List.mem_cons, List.not_mem_nil, or_false] at hpc
  subst hpc
  intro x
  have key := row_eq (arg0.view.read (Elt Ideal) X_arg0) (arg1.view.read (Elt Ideal) X_arg1) k.val (Nat.lt_of_lt_of_le k.isLt k0_t1_abs.2.1)
    (arg0.view.readAt (Elt Ideal) (Rect.unit (s := S40) (k0_off1 k) S1.size (k0_off1_inb k)).toLoadRect X_arg0 (Shape.Idx.first (numel1_S1.symm ▸ Nat.one_pos)))
    (k0_off2 (arg0.view.readAt (Elt Ideal) (Rect.unit (s := S40) (k0_off1 k) S1.size (k0_off1_inb k)).toLoadRect X_arg0 (Shape.Idx.first (numel1_S1.symm ▸ Nat.one_pos))))
    (k0_off3 k) ?_ rfl (k0_off3_eq k) (k0_hw1 0) (k0_off2_inb _ k0_hw1) (k0_off3_inb k) x
  · exact (View.readAt_apply ..).trans key
  · refine (View.readAt_apply ..).trans (congrArg (arg0.view.read (Elt Ideal) X_arg0) (funext fun a => Fin.ext ?_))
    match a with
    | ⟨0, _⟩ => exact congrFun (k0_off1_eq k) 0

theorem loop (𝒱 : Variants) (c : Dev nD) (bd : Option 𝒱.V) (arg0 : Memref sig .tc .smem S40 .i32) (harg0 : arg0.IsWhole) (arg1 : Memref sig .tc .vmem S438x128 .f32) (harg1 : arg1.IsWhole) (arg2 : Memref sig .tc .vmem S40x128 .f32) (harg2 : arg2.IsWhole) (arg3 : Memref sig .tc .vmem S40x128 .fp8e4m3) (harg3 : arg3.IsWhole) (arg4 : Memref sig .tc .vmem S40x1 .f32) (harg4 : arg4.IsWhole)
    (X_arg0 : BufTy.Contents (Elt Ideal) arg0.view.ty) (X_arg1 : BufTy.Contents (Elt Ideal) arg1.view.ty) (k0_hw1L : ∀ (kq : ℕ) (hkq : kq < k0_t1_loop.trips), k0_chk1 (arg0.view.readAt (Elt Ideal) (Rect.unit (s := S40) (k0_off1 ⟨kq, hkq⟩) S1.size (k0_off1_inb ⟨kq, hkq⟩)).toLoadRect X_arg0 (Shape.Idx.first (numel1_S1.symm ▸ Nat.one_pos)))) {x0 x1} (n : Nat) (h0 : arg0.view.read _ X_arg0 = x0) (h1 : arg1.view.read _ X_arg1 = x1) :
    ∀ pc ∈ pb_k0_t1 (F := Ideal) 𝒱 c bd arg0 harg0 arg1 harg1 arg2 harg2 arg3 harg3 arg4 harg4 X_arg0 X_arg1 k0_hw1L n, ∀ x, pc.2 x = rows x0 x1 (pc.1.emb x) := by
  subst h0 h1
  induction n with
  | zero => intro pc hpc; exact absurd hpc List.not_mem_nil
  | succ n ih =>
    intro pc hpc
    rw [pb_k0_t1.eq_2] at hpc
    unfold pb_k0_t1Step at hpc
    split at hpc
    · rcases List.mem_append.mp hpc with h | h
      · exact trip _ _ _ arg0 harg0 arg1 harg1 arg2 harg2 arg3 harg3 arg4 harg4 _ _ _ _ pc h
      · exact ih pc h
    · exact ih pc hpc

/-- The pieces of all the trips, as a whole vector. -/
theorem canon_rows (c : Dev nD) (arg0 : Memref sig .tc .smem S40 .i32) (harg0 : arg0.IsWhole) (arg1 : Memref sig .tc .vmem S438x128 .f32) (harg1 : arg1.IsWhole) (arg2 : Memref sig .tc .vmem S40x128 .f32) (harg2 : arg2.IsWhole) (arg3 : Memref sig .tc .vmem S40x128 .fp8e4m3) (harg3 : arg3.IsWhole) (arg4 : Memref sig .tc .vmem S40x1 .f32) (harg4 : arg4.IsWhole)
    (x0 : Vec Ideal S40 .i32) (x1 : Vec Ideal S438x128 .f32) (k0_hw1L : ∀ (kq : ℕ) (hkq : kq < k0_t1_loop.trips), k0_chk1 (arg0.view.readAt (Elt Ideal) (Rect.unit (s := S40) (k0_off1 ⟨kq, hkq⟩) S1.size (k0_off1_inb ⟨kq, hkq⟩)).toLoadRect (harg0.unread x0) (Shape.Idx.first (numel1_S1.symm ▸ Nat.one_pos)))) :
    View.canon (kernelRun0_A (F := Ideal) c arg0 harg0 arg1 harg1 arg2 harg2 arg3 harg3 arg4 harg4 x0 x1 k0_hw1L).1 = rows x0 x1 := by
  funext y
  refine View.canon_apply_of_pieces _ _ ?_ y (cover0_A_2 c arg0 harg0 arg1 harg1 arg2 harg2 arg3 harg3 arg4 harg4 x0 x1 k0_hw1L y)
  unfold kernelRun0_A
  dsimp only
  exact loop _ _ _ arg0 harg0 arg1 harg1 arg2 harg2 arg3 harg3 arg4 harg4 _ _ _ _ (Memref.IsWhole.read_unread _ _) (Memref.IsWhole.read_unread _ _)

theorem out_2 (c : Dev nD) (arg0 : Memref sig .tc .smem S40 .i32) (harg0 : arg0.IsWhole) (arg1 : Memref sig .tc .vmem S438x128 .f32) (harg1 : arg1.IsWhole) (arg2 : Memref sig .tc .vmem S40x128 .f32) (harg2 : arg2.IsWhole) (arg3 : Memref sig .tc .vmem S40x128 .fp8e4m3) (harg3 : arg3.IsWhole) (arg4 : Memref sig .tc .vmem S40x1 .f32) (harg4 : arg4.IsWhole)
    (x0 : Vec Ideal S40 .i32) (x1 : Vec Ideal S438x128 .f32) (k0_hw1L : ∀ (kq : ℕ) (hkq : kq < k0_t1_loop.trips), k0_chk1 (arg0.view.readAt (Elt Ideal) (Rect.unit (s := S40) (k0_off1 ⟨kq, hkq⟩) S1.size (k0_off1_inb ⟨kq, hkq⟩)).toLoadRect (harg0.unread x0) (Shape.Idx.first (numel1_S1.symm ▸ Nat.one_pos)))) :
    out0_A_2 (F := Ideal) c arg0 harg0 arg1 harg1 arg2 harg2 arg3 harg3 arg4 harg4 x0 x1 k0_hw1L = rows x0 x1 := by
  unfold out0_A_2
  rw [View.read_writes_eq_canon _ _ _ (cover0_A_2 c arg0 harg0 arg1 harg1 arg2 harg2 arg3 harg3 arg4 harg4 x0 x1 k0_hw1L)]
  exact canon_rows ..

/-- The rows the body reads back after the loop. -/
theorem back (c : Dev nD) (arg0 : Memref sig .tc .smem S40 .i32) (harg0 : arg0.IsWhole) (arg1 : Memref sig .tc .vmem S438x128 .f32) (harg1 : arg1.IsWhole) (arg2 : Memref sig .tc .vmem S40x128 .f32) (harg2 : arg2.IsWhole) (arg3 : Memref sig .tc .vmem S40x128 .fp8e4m3) (harg3 : arg3.IsWhole) (arg4 : Memref sig .tc .vmem S40x1 .f32) (harg4 : arg4.IsWhole)
    (x0 : Vec Ideal S40 .i32) (x1 : Vec Ideal S438x128 .f32) (k0_hw1L : ∀ (kq : ℕ) (hkq : kq < k0_t1_loop.trips), k0_chk1 (arg0.view.readAt (Elt Ideal) (Rect.unit (s := S40) (k0_off1 ⟨kq, hkq⟩) S1.size (k0_off1_inb ⟨kq, hkq⟩)).toLoadRect (harg0.unread x0) (Shape.Idx.first (numel1_S1.symm ▸ Nat.one_pos)))) (h) :
    arg2.view.readCov (kernelRun0_A (F := Ideal) c arg0 harg0 arg1 harg1 arg2 harg2 arg3 harg3 arg4 harg4 x0 x1 k0_hw1L).1 (Rect.unit (s := S40x128) ![0, 0] S40x128.size h).toLoadRect = rows x0 x1 := by
  have hz : (![0, 0] : Fin 2 → Nat) = fun _ => 0 := funext fun a => by fin_cases a <;> rfl
  rw [View.readCov_eq_canon_ld _ _ _ (cover0_A_2 c arg0 harg0 arg1 harg1 arg2 harg2 arg3 harg3 arg4 harg4 x0 x1 k0_hw1L), canon_rows, View.ld_unit_zero hz]

theorem out_3 (c : Dev nD) (arg0 : Memref sig .tc .smem S40 .i32) (harg0 : arg0.IsWhole) (arg1 : Memref sig .tc .vmem S438x128 .f32) (harg1 : arg1.IsWhole) (arg2 : Memref sig .tc .vmem S40x128 .f32) (harg2 : arg2.IsWhole) (arg3 : Memref sig .tc .vmem S40x128 .fp8e4m3) (harg3 : arg3.IsWhole) (arg4 : Memref sig .tc .vmem S40x1 .f32) (harg4 : arg4.IsWhole)
    (x0 : Vec Ideal S40 .i32) (x1 : Vec Ideal S438x128 .f32) (k0_hw1L : ∀ (kq : ℕ) (hkq : kq < k0_t1_loop.trips), k0_chk1 (arg0.view.readAt (Elt Ideal) (Rect.unit (s := S40) (k0_off1 ⟨kq, hkq⟩) S1.size (k0_off1_inb ⟨kq, hkq⟩)).toLoadRect (harg0.unread x0) (Shape.Idx.first (numel1_S1.symm ▸ Nat.one_pos)))) :
    out0_A_3 (F := Ideal) c arg0 harg0 arg1 harg1 arg2 harg2 arg3 harg3 arg4 harg4 x0 x1 k0_hw1L = k0_pay3 (rows x0 x1) := by
  have hz : (![0, 0] : Fin 2 → Nat) = fun _ => 0 := funext fun a => by fin_cases a <;> rfl
  unfold out0_A_3
  rw [View.read_writes_eq_canon _ _ _ (cover0_A_3 c arg0 harg0 arg1 harg1 arg2 harg2 arg3 harg3 arg4 harg4 x0 x1 k0_hw1L)]
  refine (View.canon_unit_zero hz _ _).trans (congrArg k0_pay3 ?_)
  exact back c arg0 harg0 arg1 harg1 arg2 harg2 arg3 harg3 arg4 harg4 x0 x1 k0_hw1L _

theorem out_4 (c : Dev nD) (arg0 : Memref sig .tc .smem S40 .i32) (harg0 : arg0.IsWhole) (arg1 : Memref sig .tc .vmem S438x128 .f32) (harg1 : arg1.IsWhole) (arg2 : Memref sig .tc .vmem S40x128 .f32) (harg2 : arg2.IsWhole) (arg3 : Memref sig .tc .vmem S40x128 .fp8e4m3) (harg3 : arg3.IsWhole) (arg4 : Memref sig .tc .vmem S40x1 .f32) (harg4 : arg4.IsWhole)
    (x0 : Vec Ideal S40 .i32) (x1 : Vec Ideal S438x128 .f32) (k0_hw1L : ∀ (kq : ℕ) (hkq : kq < k0_t1_loop.trips), k0_chk1 (arg0.view.readAt (Elt Ideal) (Rect.unit (s := S40) (k0_off1 ⟨kq, hkq⟩) S1.size (k0_off1_inb ⟨kq, hkq⟩)).toLoadRect (harg0.unread x0) (Shape.Idx.first (numel1_S1.symm ▸ Nat.one_pos)))) :
    out0_A_4 (F := Ideal) c arg0 harg0 arg1 harg1 arg2 harg2 arg3 harg3 arg4 harg4 x0 x1 k0_hw1L = k0_pay2 (rows x0 x1) := by
  have hz : (![0, 0] : Fin 2 → Nat) = fun _ => 0 := funext fun a => by fin_cases a <;> rfl
  unfold out0_A_4
  rw [View.read_writes_eq_canon _ _ _ (cover0_A_4 c arg0 harg0 arg1 harg1 arg2 harg2 arg3 harg3 arg4 harg4 x0 x1 k0_hw1L)]
  refine (View.canon_unit_zero hz _ _).trans (congrArg k0_pay2 ?_)
  exact back c arg0 harg0 arg1 harg1 arg2 harg2 arg3 harg3 arg4 harg4 x0 x1 k0_hw1L _

variable (m : (ℓ : Loc nD τ sig) → Buf (Elt Ideal) ℓ)

abbrev rel (c : Dev nD) : Vec Ideal S40 .i32 := m ((c : Thread nD τ).loc main_arg0)
abbrev emb (c : Dev nD) : Vec Ideal S438x128 .f32 := m ((c : Thread nD τ).loc main_arg1)

theorem iblk_0 (c : Dev nD) (t : Fin cfg0.N) : (iblk m c 0 t : Vec Ideal S40 .i32) = rel m c := by
  have hz' : (fun a => win0_0.index t a * main_arg0.ty.shape.size a) = fun _ => 0 := funext fun a => by fin_cases a <;> rfl
  exact (Memref.read_access_unit_zero (Elt Ideal) main_arg0 hz' (fun a => by rw [congrFun hz' a]; simp) (V m c main_arg0)).trans (V_main_arg0 m c)
theorem iblk_1 (c : Dev nD) (t : Fin cfg0.N) : (iblk m c 1 t : Vec Ideal S438x128 .f32) = emb m c := by
  have hz' : (fun a => win0_1.index t a * main_arg1.ty.shape.size a) = fun _ => 0 := funext fun a => by fin_cases a <;> rfl
  exact (Memref.read_access_unit_zero (Elt Ideal) main_arg1 hz' (fun a => by rw [congrFun hz' a]; simp) (V m c main_arg1)).trans (V_main_arg1 m c)

theorem idx_zero2 : ∀ t : Fin cfg0.N, win0_2.index t (0 : Fin 2) = 0 ∧ win0_2.index t (1 : Fin 2) = 0 :=
  (by decide +kernel : ∀ t : Fin grid0.N, _)

/-- An index of window 2's block is the same index of its array. -/
theorem emb2 (t : Fin cfg0.N) (j : S40x128.Idx) : ((cfg0.win 2).blk t).view.emb j = j := by
  obtain ⟨e0, e1⟩ := idx_zero2 t
  funext a; apply Fin.ext
  match a with
  | ⟨0, _⟩ => show win0_2.index t (0 : Fin 2) * 40 + 1 * (j 0).val = (j 0).val; omega
  | ⟨1, _⟩ => show win0_2.index t (1 : Fin 2) * 128 + 1 * (j 1).val = (j 1).val; omega

theorem cut2 (t : Fin cfg0.N) (X : Vec Ideal S40x128 .f32) :
    (cfg0.win 2).cut (grid0.coords t) X = ((cfg0.win 2).blk t).view.read (Elt Ideal) X := by
  funext j
  show X j = X (((cfg0.win 2).blk t).view.emb j)
  rw [emb2]

theorem covered2 (i : S40x128.Idx) :
    ∃ t : Fin cfg0.N, (cfg0.win 2).flush t = true ∧ i ∈ ((cfg0.win 2).blk t).view.set :=
  ⟨(⟨0, by decide⟩ : Fin cfg0.N), flush0_2 _, by have h := ((cfg0.win 2).blk (⟨0, by decide⟩ : Fin cfg0.N)).view.emb_mem_set i; rwa [emb2] at h⟩

/-- Result array 0 after the run. -/
theorem final_2 (hH : Hyps m) (c : Dev nD) : (dats m hH 0 c).arrAt 2 cfg0.N = rows (rel m c) (emb m c) :=
  (dats m hH 0 c).arrAt_eq_of_cover 2 (rows (rel m c) (emb m c)) (fun t _ => by
    rw [flushed2_A, out_2, iblk_0, iblk_1]
    exact cut2 t _) covered2

theorem idx_zero3 : ∀ t : Fin cfg0.N, win0_3.index t (0 : Fin 2) = 0 ∧ win0_3.index t (1 : Fin 2) = 0 :=
  (by decide +kernel : ∀ t : Fin grid0.N, _)

/-- An index of window 3's block is the same index of its array. -/
theorem emb3 (t : Fin cfg0.N) (j : S40x128.Idx) : ((cfg0.win 3).blk t).view.emb j = j := by
  obtain ⟨e0, e1⟩ := idx_zero3 t
  funext a; apply Fin.ext
  match a with
  | ⟨0, _⟩ => show win0_3.index t (0 : Fin 2) * 40 + 1 * (j 0).val = (j 0).val; omega
  | ⟨1, _⟩ => show win0_3.index t (1 : Fin 2) * 128 + 1 * (j 1).val = (j 1).val; omega

theorem cut3 (t : Fin cfg0.N) (X : Vec Ideal S40x128 .fp8e4m3) :
    (cfg0.win 3).cut (grid0.coords t) X = ((cfg0.win 3).blk t).view.read (Elt Ideal) X := by
  funext j
  show X j = X (((cfg0.win 3).blk t).view.emb j)
  rw [emb3]

theorem covered3 (i : S40x128.Idx) :
    ∃ t : Fin cfg0.N, (cfg0.win 3).flush t = true ∧ i ∈ ((cfg0.win 3).blk t).view.set :=
  ⟨(⟨0, by decide⟩ : Fin cfg0.N), flush0_3 _, by have h := ((cfg0.win 3).blk (⟨0, by decide⟩ : Fin cfg0.N)).view.emb_mem_set i; rwa [emb3] at h⟩

/-- Result array 1 after the run. -/
theorem final_3 (hH : Hyps m) (c : Dev nD) : (dats m hH 0 c).arrAt 3 cfg0.N = k0_pay3 (rows (rel m c) (emb m c)) :=
  (dats m hH 0 c).arrAt_eq_of_cover 3 (k0_pay3 (rows (rel m c) (emb m c))) (fun t _ => by
    rw [flushed3_A, out_3, iblk_0, iblk_1]
    exact cut3 t _) covered3

theorem idx_zero4 : ∀ t : Fin cfg0.N, win0_4.index t (0 : Fin 2) = 0 ∧ win0_4.index t (1 : Fin 2) = 0 :=
  (by decide +kernel : ∀ t : Fin grid0.N, _)

/-- An index of window 4's block is the same index of its array. -/
theorem emb4 (t : Fin cfg0.N) (j : S40x1.Idx) : ((cfg0.win 4).blk t).view.emb j = j := by
  obtain ⟨e0, e1⟩ := idx_zero4 t
  funext a; apply Fin.ext
  match a with
  | ⟨0, _⟩ => show win0_4.index t (0 : Fin 2) * 40 + 1 * (j 0).val = (j 0).val; omega
  | ⟨1, _⟩ => show win0_4.index t (1 : Fin 2) * 1 + 1 * (j 1).val = (j 1).val; omega

theorem cut4 (t : Fin cfg0.N) (X : Vec Ideal S40x1 .f32) :
    (cfg0.win 4).cut (grid0.coords t) X = ((cfg0.win 4).blk t).view.read (Elt Ideal) X := by
  funext j
  show X j = X (((cfg0.win 4).blk t).view.emb j)
  rw [emb4]

theorem covered4 (i : S40x1.Idx) :
    ∃ t : Fin cfg0.N, (cfg0.win 4).flush t = true ∧ i ∈ ((cfg0.win 4).blk t).view.set :=
  ⟨(⟨0, by decide⟩ : Fin cfg0.N), flush0_4 _, by have h := ((cfg0.win 4).blk (⟨0, by decide⟩ : Fin cfg0.N)).view.emb_mem_set i; rwa [emb4] at h⟩

/-- Result array 2 after the run. -/
theorem final_4 (hH : Hyps m) (c : Dev nD) : (dats m hH 0 c).arrAt 4 cfg0.N = k0_pay2 (rows (rel m c) (emb m c)) :=
  (dats m hH 0 c).arrAt_eq_of_cover 4 (k0_pay2 (rows (rel m c) (emb m c))) (fun t _ => by
    rw [flushed4_A, out_4, iblk_0, iblk_1]
    exact cut4 t _) covered4

end Cert.QueryIdeal.Value

end
-- ==== Proof.QueryEq.lean ====
/-
  The query call's reference: what its run leaves in its three result arrays, from the arguments, and that the two
  calls quantise a block of rows alike.
-/
module

public import proofs.«01_k».proof.Proof.QueryRun
public import proofs.«01_k».proof.Proof.Gen.QueryRefIdeal.Value
public import Idealize.ShloMosaic.Lib.Claim
public import Idealize.ShloMosaic.Lib.Routing.Ops

@[expose] public section

set_option maxRecDepth 16384

noncomputable section

namespace Cert.QueryRefIdeal.Value

open Cert.QueryRefIdeal Cert.QueryRefIdeal.Gen Idealize.ShloMosaic Idealize.ShloMosaic.TcCoe Idealize.SL.Sem
open Idealize.ShloMosaic.Pipeline (Dat)
open Cert.QueryIdeal.Value (rows)

variable (m : (ℓ : Loc nD τ sig) → Buf (Elt Ideal) ℓ)

abbrev rel (c : Dev nD) : Vec Ideal S40 .i32 := m ((c : Thread nD τ).loc main_arg0)
abbrev emb (c : Dev nD) : Vec Ideal S438x128 .f32 := m ((c : Thread nD τ).loc main_arg1)

/-- A word that names a relation is not negative, and is taken as it is. -/
theorem pick (w : BitVec 32) (h : w.toNat < 438) :
    Scalar.select (IntOp.cmpi CmpIPredicate.slt w 0#32) (IntOp.addi w 438#32) w = BitVec.ofNat 32 (w.toNat % 438) := by
  have hn : IntOp.cmpi CmpIPredicate.slt w 0#32 = 0#1 := by
    simp only [IntOp.cmpi]
    have : w.slt 0#32 = false := by
      simp only [BitVec.slt, decide_eq_false_iff_not, BitVec.toInt, BitVec.toNat_ofNat]
      omega
    rw [this]; rfl
  rw [hn, Nat.mod_eq_of_lt h, BitVec.ofNat_toNat, BitVec.setWidth_eq]
  rfl

/-- The rows the host gathers, where every relation is one of the 438. -/
theorem v6_eq (c : Dev nD) (h : ∀ y, (rel m c y : BitVec 32).toNat < 438) : (V m c main_v6 : Vec Ideal S40x128 .f32) = rows (rel m c) (emb m c) := by
  funext y
  obtain ⟨q, d, rfl⟩ : ∃ (q : Fin 40) (d : Fin 128), y = ix2 q d := by
    idx_vars y
    exact ⟨y0, y1, rfl⟩
  show StableHlo.after hostOps0 (fun b => m (c, b)) (Proc.devRef .tc main_v6) _ = _
  after_results
  refine (Routing.gather_row (nb := 438) (B := 128) (n := 40) gather_S438x128_S40x1_S40x128_1_0_n_n_0_1_1128 rfl rfl rfl rfl rfl _ _ q d
    ⟨(rel m c (ix1 q) : BitVec 32).toNat % 438, Nat.mod_lt _ (by decide)⟩ ?_ (by decide)).trans rfl
  pointwise []
  exact pick _ (h (ix1 q))

theorem iblk_0 (c : Dev nD) (t : Fin cfg0.N) : (iblk m c 0 t : Vec Ideal S40x128 .f32) = V m c main_v6 := by
  have hz' : (fun a => win0_0.index t a * main_v6.ty.shape.size a) = fun _ => 0 := funext fun a => by fin_cases a <;> rfl
  exact Memref.read_access_unit_zero (Elt Ideal) main_v6 hz' (fun a => by rw [congrFun hz' a]; simp) (V m c main_v6)

theorem hz : (![0, 0] : Fin 2 → Nat) = fun _ => 0 := funext fun a => by fin_cases a <;> rfl

theorem idx_zero1 : ∀ t : Fin cfg0.N, win0_1.index t (0 : Fin 2) = 0 ∧ win0_1.index t (1 : Fin 2) = 0 :=
  (by decide +kernel : ∀ t : Fin grid0.N, _)

/-- An index of window 1's block is the same index of its array. -/
theorem emb1 (t : Fin cfg0.N) (j : S40x128.Idx) : ((cfg0.win 1).blk t).view.emb j = j := by
  obtain ⟨e0, e1⟩ := idx_zero1 t
  funext a; apply Fin.ext
  match a with
  | ⟨0, _⟩ => show win0_1.index t (0 : Fin 2) * 40 + 1 * (j 0).val = (j 0).val; omega
  | ⟨1, _⟩ => show win0_1.index t (1 : Fin 2) * 128 + 1 * (j 1).val = (j 1).val; omega

theorem cut1 (t : Fin cfg0.N) (X : Vec Ideal S40x128 .f32) :
    (cfg0.win 1).cut (grid0.coords t) X = ((cfg0.win 1).blk t).view.read (Elt Ideal) X := by
  funext j
  show X j = X (((cfg0.win 1).blk t).view.emb j)
  rw [emb1]

theorem covered1 (i : S40x128.Idx) :
    ∃ t : Fin cfg0.N, (cfg0.win 1).flush t = true ∧ i ∈ ((cfg0.win 1).blk t).view.set :=
  ⟨(⟨0, by decide⟩ : Fin cfg0.N), flush0_1 _, by have h := ((cfg0.win 1).blk (⟨0, by decide⟩ : Fin cfg0.N)).view.emb_mem_set i; rwa [emb1] at h⟩

/-- Result array 0 after the run. -/
theorem final_1 (c : Dev nD) : (dats m 0 c).arrAt 1 cfg0.N = k0_pay1 (V m c main_v6 : Vec Ideal S40x128 .f32) :=
  (dats m 0 c).arrAt_eq_of_cover 1 (k0_pay1 (V m c main_v6 : Vec Ideal S40x128 .f32)) (fun t _ => by
    rw [flushed1, iblk_0]
    unfold out0_1
    rw [View.canon_unit_zero hz, View.ld_unit_zero hz]
    exact cut1 t _) covered1

theorem idx_zero2 : ∀ t : Fin cfg0.N, win0_2.index t (0 : Fin 2) = 0 ∧ win0_2.index t (1 : Fin 2) = 0 :=
  (by decide +kernel : ∀ t : Fin grid0.N, _)

/-- An index of window 2's block is the same index of its array. -/
theorem emb2 (t : Fin cfg0.N) (j : S40x128.Idx) : ((cfg0.win 2).blk t).view.emb j = j := by
  obtain ⟨e0, e1⟩ := idx_zero2 t
  funext a; apply Fin.ext
  match a with
  | ⟨0, _⟩ => show win0_2.index t (0 : Fin 2) * 40 + 1 * (j 0).val = (j 0).val; omega
  | ⟨1, _⟩ => show win0_2.index t (1 : Fin 2) * 128 + 1 * (j 1).val = (j 1).val; omega

theorem cut2 (t : Fin cfg0.N) (X : Vec Ideal S40x128 .fp8e4m3) :
    (cfg0.win 2).cut (grid0.coords t) X = ((cfg0.win 2).blk t).view.read (Elt Ideal) X := by
  funext j
  show X j = X (((cfg0.win 2).blk t).view.emb j)
  rw [emb2]

theorem covered2 (i : S40x128.Idx) :
    ∃ t : Fin cfg0.N, (cfg0.win 2).flush t = true ∧ i ∈ ((cfg0.win 2).blk t).view.set :=
  ⟨(⟨0, by decide⟩ : Fin cfg0.N), flush0_2 _, by have h := ((cfg0.win 2).blk (⟨0, by decide⟩ : Fin cfg0.N)).view.emb_mem_set i; rwa [emb2] at h⟩

/-- Result array 1 after the run. -/
theorem final_2 (c : Dev nD) : (dats m 0 c).arrAt 2 cfg0.N = k0_pay3 (V m c main_v6 : Vec Ideal S40x128 .f32) :=
  (dats m 0 c).arrAt_eq_of_cover 2 (k0_pay3 (V m c main_v6 : Vec Ideal S40x128 .f32)) (fun t _ => by
    rw [flushed2, iblk_0]
    unfold out0_2
    rw [View.canon_unit_zero hz, View.ld_unit_zero hz]
    exact cut2 t _) covered2

theorem idx_zero3 : ∀ t : Fin cfg0.N, win0_3.index t (0 : Fin 2) = 0 ∧ win0_3.index t (1 : Fin 2) = 0 :=
  (by decide +kernel : ∀ t : Fin grid0.N, _)

/-- An index of window 3's block is the same index of its array. -/
theorem emb3 (t : Fin cfg0.N) (j : S40x1.Idx) : ((cfg0.win 3).blk t).view.emb j = j := by
  obtain ⟨e0, e1⟩ := idx_zero3 t
  funext a; apply Fin.ext
  match a with
  | ⟨0, _⟩ => show win0_3.index t (0 : Fin 2) * 40 + 1 * (j 0).val = (j 0).val; omega
  | ⟨1, _⟩ => show win0_3.index t (1 : Fin 2) * 1 + 1 * (j 1).val = (j 1).val; omega

theorem cut3 (t : Fin cfg0.N) (X : Vec Ideal S40x1 .f32) :
    (cfg0.win 3).cut (grid0.coords t) X = ((cfg0.win 3).blk t).view.read (Elt Ideal) X := by
  funext j
  show X j = X (((cfg0.win 3).blk t).view.emb j)
  rw [emb3]

theorem covered3 (i : S40x1.Idx) :
    ∃ t : Fin cfg0.N, (cfg0.win 3).flush t = true ∧ i ∈ ((cfg0.win 3).blk t).view.set :=
  ⟨(⟨0, by decide⟩ : Fin cfg0.N), flush0_3 _, by have h := ((cfg0.win 3).blk (⟨0, by decide⟩ : Fin cfg0.N)).view.emb_mem_set i; rwa [emb3] at h⟩

/-- Result array 2 after the run. -/
theorem final_3 (c : Dev nD) : (dats m 0 c).arrAt 3 cfg0.N = k0_pay2 (V m c main_v6 : Vec Ideal S40x128 .f32) :=
  (dats m 0 c).arrAt_eq_of_cover 3 (k0_pay2 (V m c main_v6 : Vec Ideal S40x128 .f32)) (fun t _ => by
    rw [flushed3, iblk_0]
    unfold out0_3
    rw [View.canon_unit_zero hz, View.ld_unit_zero hz]
    exact cut3 t _) covered3

theorem pay1_eq (x : Vec Ideal S40x128 .f32) : k0_pay1 x = x := by
  unfold k0_pay1
  dsimp only
  funext y
  pointwise []

/-- The powers of two on one row, spread over the rows, are the powers of two on every row. -/
theorem powers_eq : broadcastTo S40x254 (bitcastToFloat (F := Ideal) .f32 (shli (addi (iota .tc S1x254 32 [1] iota_S1x254_d1_w32) (broadcast S1x254 1#32)) (broadcast S1x254 23#32))) broadcasts_S1x254_S40x254
    = bitcastToFloat (F := Ideal) .f32 (shli (addi (iota .tc S40x254 32 [1] Cert.QueryIdeal.Gen.iota_S40x254_d1_w32) (broadcast S40x254 1#32)) (broadcast S40x254 23#32)) := by
  funext y
  idx_vars y
  pointwise []

theorem top_eq : broadcastTo S40x254 (bitcastToFloat (F := Ideal) .f32 (broadcast S1x254 2130706432#32)) broadcasts_S1x254_S40x254
    = bitcastToFloat (F := Ideal) .f32 (broadcast S40x254 2130706432#32) := by
  funext y
  idx_vars y
  pointwise []

theorem same (v : FVec Ideal S1x254 .f32) : shapeCast S1x254 v shapeCasts_S1x254_S1x254 = v := by
  funext y
  idx_vars y
  pointwise []

/-- The two calls choose the same scales for a block of rows. -/
theorem pay2_eq (x : Vec Ideal S40x128 .f32) : k0_pay2 x = Cert.QueryIdeal.Gen.k0_pay2 x := by
  unfold k0_pay2
  dsimp only
  rw [same, same, powers_eq, top_eq]
  rfl

/-- … and so the same codes. -/
theorem pay3_eq (x : Vec Ideal S40x128 .f32) : k0_pay3 x = Cert.QueryIdeal.Gen.k0_pay3 x := by
  unfold k0_pay3 Cert.QueryIdeal.Gen.k0_pay3
  dsimp only
  rw [pay2_eq]
  rfl

end Cert.QueryRefIdeal.Value

end
-- ==== Proof.lean ====
module

public import proofs.«01_k».proof.Defs
public import proofs.«01_k».proof.Proof.Gen.Mlp
public import proofs.«01_k».proof.Proof.Gen.Mlp.Skeleton
public import proofs.«01_k».proof.Proof.Gen.Mlp.Loops
public import proofs.«01_k».proof.Proof.Gen.Mlp.Launch
public import proofs.«01_k».proof.Proof.Gen.Mlp.Points
public import proofs.«01_k».proof.Proof.Gen.Mlp.Frame
public import proofs.«01_k».proof.Proof.Gen.MlpIdeal
public import proofs.«01_k».proof.Proof.Gen.MlpIdeal.Skeleton
public import proofs.«01_k».proof.Proof.Gen.MlpIdeal.Loops
public import proofs.«01_k».proof.Proof.Gen.MlpIdeal.Launch
public import proofs.«01_k».proof.Proof.Gen.MlpIdeal.Points
public import proofs.«01_k».proof.Proof.Gen.MlpIdeal.Frame
public import proofs.«01_k».proof.Proof.Gen.MlpRefIdeal
public import proofs.«01_k».proof.Proof.Gen.MlpRefIdeal.Skeleton
public import proofs.«01_k».proof.Proof.Gen.MlpRefIdeal.Launch
public import proofs.«01_k».proof.Proof.Gen.MlpRefIdeal.Points
public import proofs.«01_k».proof.Proof.Gen.MlpRefIdeal.Frame
public import proofs.«01_k».proof.Proof.Gen.Rel
public import proofs.«01_k».proof.Proof.Gen.Rel.Skeleton
public import proofs.«01_k».proof.Proof.Gen.Rel.Launch
public import proofs.«01_k».proof.Proof.Gen.Rel.Points
public import proofs.«01_k».proof.Proof.Gen.Rel.Frame
public import proofs.«01_k».proof.Proof.Gen.RelIdeal
public import proofs.«01_k».proof.Proof.Gen.RelIdeal.Skeleton
public import proofs.«01_k».proof.Proof.Gen.RelIdeal.Launch
public import proofs.«01_k».proof.Proof.Gen.RelIdeal.Points
public import proofs.«01_k».proof.Proof.Gen.RelIdeal.Frame
public import proofs.«01_k».proof.Proof.Gen.RelRefIdeal
public import proofs.«01_k».proof.Proof.Gen.RelRefIdeal.Skeleton
public import proofs.«01_k».proof.Proof.Gen.RelRefIdeal.Launch
public import proofs.«01_k».proof.Proof.Gen.RelRefIdeal.Points
public import proofs.«01_k».proof.Proof.Gen.RelRefIdeal.Frame
public import proofs.«01_k».proof.Proof.Gen.RelRefIdeal.Value
public import proofs.«01_k».proof.Proof.Gen.Pre_mlp_pre
public import proofs.«01_k».proof.Proof.Gen.MlpRefIdeal.Value
public import proofs.«01_k».proof.Proof.Gen.Dense
public import proofs.«01_k».proof.Proof.Gen.Dense.Skeleton
public import proofs.«01_k».proof.Proof.Gen.Dense.Loops
public import proofs.«01_k».proof.Proof.Gen.Dense.Launch
public import proofs.«01_k».proof.Proof.Gen.Dense.Points
public import proofs.«01_k».proof.Proof.Gen.Dense.Frame
public import proofs.«01_k».proof.Proof.Gen.DenseIdeal
public import proofs.«01_k».proof.Proof.Gen.DenseIdeal.Skeleton
public import proofs.«01_k».proof.Proof.Gen.DenseIdeal.Loops
public import proofs.«01_k».proof.Proof.Gen.DenseIdeal.Launch
public import proofs.«01_k».proof.Proof.Gen.DenseIdeal.Points
public import proofs.«01_k».proof.Proof.Gen.DenseIdeal.Frame
public import proofs.«01_k».proof.Proof.Gen.DenseRefIdeal
public import proofs.«01_k».proof.Proof.Gen.DenseRefIdeal.Skeleton
public import proofs.«01_k».proof.Proof.Gen.DenseRefIdeal.Launch
public import proofs.«01_k».proof.Proof.Gen.DenseRefIdeal.Points
public import proofs.«01_k».proof.Proof.Gen.DenseRefIdeal.Frame
public import proofs.«01_k».proof.Proof.Gen.Query
public import proofs.«01_k».proof.Proof.Gen.Query.Skeleton
public import proofs.«01_k».proof.Proof.Gen.Query.Loops
public import proofs.«01_k».proof.Proof.Gen.Query.Launch
public import proofs.«01_k».proof.Proof.Gen.Query.Points
public import proofs.«01_k».proof.Proof.Gen.Query.Frame
public import proofs.«01_k».proof.Proof.Gen.QueryIdeal
public import proofs.«01_k».proof.Proof.Gen.QueryIdeal.Skeleton
public import proofs.«01_k».proof.Proof.Gen.QueryIdeal.Loops
public import proofs.«01_k».proof.Proof.Gen.QueryIdeal.Launch
public import proofs.«01_k».proof.Proof.Gen.QueryIdeal.Points
public import proofs.«01_k».proof.Proof.Gen.QueryIdeal.Frame
public import proofs.«01_k».proof.Proof.Gen.QueryIdeal.Value
public import proofs.«01_k».proof.Proof.Gen.Pre_query_pre
public import proofs.«01_k».proof.Proof.Gen.QueryRefIdeal
public import proofs.«01_k».proof.Proof.Gen.QueryRefIdeal.Skeleton
public import proofs.«01_k».proof.Proof.Gen.QueryRefIdeal.Launch
public import proofs.«01_k».proof.Proof.Gen.QueryRefIdeal.Points
public import proofs.«01_k».proof.Proof.Gen.QueryRefIdeal.Frame
public import proofs.«01_k».proof.Proof.Gen.QueryRefIdeal.Value
public import proofs.«01_k».proof.Proof.MlpEq
public import proofs.«01_k».proof.Proof.RelEq
public import proofs.«01_k».proof.Proof.DenseEq
public import proofs.«01_k».proof.Proof.QueryEq
public import proofs.«01_k».proof.Proof.DenseEq
public import Idealize.ShloMosaic.Adequacy
public import Idealize.ShloMosaic.Init

@[expose] public section

noncomputable section

namespace Cert.Proof

open Idealize.ShloMosaic Idealize.SL.Sem Cert.Mlp

/-- The read-out kernel and its plain reference compute the same extended reals. -/
theorem mlp_algebraic : @Cert.algebraic_MlpIdeal_MlpRefIdeal_pre_mlp_pre Cert.MlpIdeal.Gen.facts Cert.MlpRefIdeal.Gen.facts Cert.Pre_mlp_pre.Gen.facts := by
  intro m g m' g' hpre hm
  refine ⟨fun c => Pipeline.afterTail₀ Cert.MlpIdeal.cfgs (Cert.MlpIdeal.Gen.dats m) 0 (Cert.MlpIdeal.Gen.V0 m) [Cert.MlpIdeal.Gen.hostOps1] c Cert.MlpIdeal.main_v31, ?_, ?_⟩
  · refine (θ_run _ _ _).mono (fun r h c => ⟨?_, h.2 c⟩) (θ_run_and (Cert.MlpIdeal.Gen.run_main m g) (Cert.MlpIdeal.Gen.unchanged m g))
    exact (h.1 c).2 Cert.MlpIdeal.main_v31 (Pipeline.mem_restRefs_of Cert.MlpIdeal.main_v31 (by decide) (by decide))
  · refine (θ_run _ _ _).mono (fun r h c => ⟨(h c).1.trans ?_, (h c).2⟩) (Cert.MlpRefIdeal.Value.run m' g')
    obtain ⟨h0, h1, h2, h3, h4, h5, h6⟩ := hm c
    rw [h0, h1, h2, h3, h4, h5, h6]
    exact (Cert.MlpIdeal.Value.value_eq m c (hpre c).1 (hpre c).2).symm

/-- The relation-vector kernel and its plain reference compute the same extended reals, on all inputs. -/
theorem rel_algebraic : @Cert.algebraic_RelIdeal_RelRefIdeal Cert.RelIdeal.Gen.facts Cert.RelRefIdeal.Gen.facts := by
  intro m g m' g' hpre hm
  refine ⟨fun c => Pipeline.afterTail₀ Cert.RelIdeal.cfgs (Cert.RelIdeal.Gen.dats m) 0 (Cert.RelIdeal.Gen.V0 m) [Cert.RelIdeal.Gen.hostOps1] c Cert.RelIdeal.main_v7, ?_, ?_⟩
  · refine (θ_run _ _ _).mono (fun r h c => ⟨?_, h.2 c⟩) (θ_run_and (Cert.RelIdeal.Gen.run_main m g) (Cert.RelIdeal.Gen.unchanged m g))
    exact (h.1 c).2 Cert.RelIdeal.main_v7 (Pipeline.mem_restRefs_of Cert.RelIdeal.main_v7 (by decide) (by decide))
  · refine (θ_run _ _ _).mono (fun r h c => ⟨(h c).1.trans ?_, (h c).2⟩) (Cert.RelRefIdeal.Value.run m' g')
    obtain ⟨h0, h1, h2, h3, h4⟩ := hm c
    rw [h0, h1, h2, h3, h4]
    exact (Cert.RelRefIdeal.Value.G5_eq _ _ _ _ _).trans (Cert.RelIdeal.Value.value_eq m c).symm

/-- The dense part of a layer and its plain reference compute the same extended reals, on all inputs. -/
theorem dense_algebraic : @Cert.algebraic_DenseIdeal_DenseRefIdeal Cert.DenseIdeal.Gen.facts Cert.DenseRefIdeal.Gen.facts := by
  intro m g m' g' hpre hm
  refine ⟨fun c => Pipeline.afterTail₀ Cert.DenseIdeal.cfgs (Cert.DenseIdeal.Gen.dats m) 0 (Cert.DenseIdeal.Gen.V0 m) [Cert.DenseIdeal.Gen.hostOps1] c Cert.DenseIdeal.main_v27,
    fun c => Pipeline.afterTail₀ Cert.DenseIdeal.cfgs (Cert.DenseIdeal.Gen.dats m) 0 (Cert.DenseIdeal.Gen.V0 m) [Cert.DenseIdeal.Gen.hostOps1] c Cert.DenseIdeal.main_v30,
    fun c => Pipeline.afterTail₀ Cert.DenseIdeal.cfgs (Cert.DenseIdeal.Gen.dats m) 0 (Cert.DenseIdeal.Gen.V0 m) [Cert.DenseIdeal.Gen.hostOps1] c Cert.DenseIdeal.main_v33,
    fun c => Pipeline.afterTail₀ Cert.DenseIdeal.cfgs (Cert.DenseIdeal.Gen.dats m) 0 (Cert.DenseIdeal.Gen.V0 m) [Cert.DenseIdeal.Gen.hostOps1] c Cert.DenseIdeal.main_v36, ?_, ?_⟩
  · refine (θ_run _ _ _).mono (fun r h c => ⟨?_, ?_, ?_, ?_, h.2 c⟩) (θ_run_and (Cert.DenseIdeal.Gen.run_main m g) (Cert.DenseIdeal.Gen.unchanged m g))
    · exact (h.1 c).2 Cert.DenseIdeal.main_v27 (Pipeline.mem_restRefs_of Cert.DenseIdeal.main_v27 (by decide) (by decide))
    · exact (h.1 c).2 Cert.DenseIdeal.main_v30 (Pipeline.mem_restRefs_of Cert.DenseIdeal.main_v30 (by decide) (by decide))
    · exact (h.1 c).2 Cert.DenseIdeal.main_v33 (Pipeline.mem_restRefs_of Cert.DenseIdeal.main_v33 (by decide) (by decide))
    · exact (h.1 c).2 Cert.DenseIdeal.main_v36 (Pipeline.mem_restRefs_of Cert.DenseIdeal.main_v36 (by decide) (by decide))
  · refine (θ_run _ _ _).mono (fun r h c => ⟨(h c).1.trans ?_, (h c).2.1.trans ?_, (h c).2.2.1.trans ?_, (h c).2.2.2.1.trans ?_, (h c).2.2.2.2⟩) (Cert.DenseRefIdeal.Value.run m' g')
    all_goals
      obtain ⟨h0, h1, h2, h3, h4, h5, h6, h7, h8, h9⟩ := hm c
      rw [h0, h1, h2, h3, h4, h5, h6, h7, h8, h9]
    · exact (Cert.DenseIdeal.Value.value6 m c).symm
    · exact (Cert.DenseIdeal.Value.value7 m c).symm
    · exact (Cert.DenseIdeal.Value.value8 m c).symm
    · exact (Cert.DenseIdeal.Value.value9 m c).symm

/-- The query call and its plain reference compute the same extended reals, where every relation is one of the 438. -/
theorem query_algebraic : @Cert.algebraic_QueryIdeal_QueryRefIdeal Cert.QueryIdeal.Gen.facts Cert.QueryRefIdeal.Gen.facts Cert.Pre_query_pre.Gen.facts := by
  intro m g m' g' hpre hm
  have hH := Cert.QueryIdeal.Value.hyps_of_pre m hpre
  refine ⟨fun c => Cert.QueryIdeal.Value.rows (Cert.QueryIdeal.Value.rel m c) (Cert.QueryIdeal.Value.emb m c),
    fun c => Cert.QueryIdeal.Gen.k0_pay3 (Cert.QueryIdeal.Value.rows (Cert.QueryIdeal.Value.rel m c) (Cert.QueryIdeal.Value.emb m c)),
    fun c => Cert.QueryIdeal.Gen.k0_pay2 (Cert.QueryIdeal.Value.rows (Cert.QueryIdeal.Value.rel m c) (Cert.QueryIdeal.Value.emb m c)), ?_, ?_⟩
  · exact (θ_run _ _ _).mono (fun r h c => ⟨(h c).1.trans (Cert.QueryIdeal.Value.final_2 m hH c), (h c).2.1.trans (Cert.QueryIdeal.Value.final_3 m hH c),
      (h c).2.2.1.trans (Cert.QueryIdeal.Value.final_4 m hH c), (h c).2.2.2⟩) (Cert.QueryIdeal.Value.run_blocks m g hH)
  · have hv : ∀ c, (Cert.QueryRefIdeal.Gen.V m' c Cert.QueryRefIdeal.main_v6 : Vec Ideal Cert.QueryRefIdeal.S40x128 .f32) = Cert.QueryIdeal.Value.rows (Cert.QueryIdeal.Value.rel m c) (Cert.QueryIdeal.Value.emb m c) := fun c => by
      obtain ⟨h0, h1⟩ := hm c
      have e0 : Cert.QueryRefIdeal.Value.rel m' c = Cert.QueryIdeal.Value.rel m c := h0
      have e1 : Cert.QueryRefIdeal.Value.emb m' c = Cert.QueryIdeal.Value.emb m c := h1
      rw [Cert.QueryRefIdeal.Value.v6_eq m' c (fun y => by rw [e0]; exact Cert.QueryFn.word_lt _ _ (hpre c) y), e0, e1]
    refine (θ_run _ _ _).mono (fun r h c => ⟨(h c).1.trans ?_, (h c).2.1.trans ?_, (h c).2.2.1.trans ?_, (h c).2.2.2⟩) (Cert.QueryRefIdeal.Value.run_blocks m' g')
    · exact (Cert.QueryRefIdeal.Value.final_1 m' c).trans ((Cert.QueryRefIdeal.Value.pay1_eq _).trans (hv c))
    · exact (Cert.QueryRefIdeal.Value.final_2 m' c).trans ((Cert.QueryRefIdeal.Value.pay3_eq _).trans (congrArg Cert.QueryIdeal.Gen.k0_pay3 (hv c)))
    · exact (Cert.QueryRefIdeal.Value.final_3 m' c).trans ((Cert.QueryRefIdeal.Value.pay2_eq _).trans (congrArg Cert.QueryIdeal.Gen.k0_pay2 (hv c)))

theorem claim : Cert.Claim := ⟨Cert.Mlp.Gen.facts, Cert.MlpIdeal.Gen.facts, Cert.MlpRefIdeal.Gen.facts, Cert.Rel.Gen.facts, Cert.RelIdeal.Gen.facts, Cert.RelRefIdeal.Gen.facts, Cert.Dense.Gen.facts, Cert.DenseIdeal.Gen.facts, Cert.DenseRefIdeal.Gen.facts, Cert.Query.Gen.facts, Cert.QueryIdeal.Gen.facts, Cert.QueryRefIdeal.Gen.facts, Cert.Pre_mlp_pre.Gen.facts, Cert.Pre_query_pre.Gen.facts,
  fun m ρ _ => Cert.Mlp.Gen.frame m ρ,
  fun m ρ _ => Cert.MlpIdeal.Gen.frame m ρ,
  fun m ρ _ => Cert.MlpIdeal.Gen.frame m ρ,
  fun m ρ _ => Cert.MlpRefIdeal.Gen.frame m ρ,
  fun m ρ _ => Cert.MlpRefIdeal.Gen.frame m ρ,
  fun m ρ _ => Cert.Rel.Gen.frame m ρ,
  fun m ρ _ => Cert.RelIdeal.Gen.frame m ρ,
  fun m ρ _ => Cert.RelRefIdeal.Gen.frame m ρ,
  fun m ρ _ => Cert.Dense.Gen.frame m ρ,
  fun m ρ _ => Cert.DenseIdeal.Gen.frame m ρ,
  fun m ρ _ => Cert.DenseRefIdeal.Gen.frame m ρ,
  fun m ρ h => Cert.Query.Gen.frame m ρ (Cert.Query.Value.hyps_of_pre m h),
  fun m ρ h => Cert.QueryIdeal.Gen.frame m ρ (Cert.QueryIdeal.Value.hyps_of_pre m h),
  fun m ρ _ => Cert.QueryRefIdeal.Gen.frame m ρ,
  trivial,
  mlp_algebraic,
  trivial,
  rel_algebraic,
  trivial,
  dense_algebraic,
  trivial,
  query_algebraic⟩

end Cert.Proof

end
